-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v63) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_v64) = v2 c
          ∧ r.2.mem ((c.tc : Thread Cert.Reference6Ideal.nD Cert.Reference6Ideal.τ).loc Cert.Reference6Ideal.main_v65) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S4x2064x5120 : Shape := ⟨3, ![4, 2064, 5120]⟩
abbrev S16 : Shape := ⟨1, ![16]⟩
abbrev S4x2064x40x128 : Shape := ⟨4, ![4, 2064, 40, 128]⟩
abbrev S40x4x2064x128 : Shape := ⟨4, ![40, 4, 2064, 128]⟩
abbrev S_ : Shape := ⟨0, ![]⟩
abbrev S40 : Shape := ⟨1, ![40]⟩
abbrev S40x1x1x1 : Shape := ⟨4, ![40, 1, 1, 1]⟩
abbrev S40x4x2048x128 : Shape := ⟨4, ![40, 4, 2048, 128]⟩
abbrev S40x8192x128 : Shape := ⟨3, ![40, 8192, 128]⟩
abbrev S40x4x16x128 : Shape := ⟨4, ![40, 4, 16, 128]⟩
abbrev S40x64x128 : Shape := ⟨3, ![40, 64, 128]⟩
abbrev S256 : Shape := ⟨1, ![256]⟩
abbrev S256x1 : Shape := ⟨2, ![256, 1]⟩
abbrev S512 : Shape := ⟨1, ![512]⟩
abbrev S1x512 : Shape := ⟨2, ![1, 512]⟩
abbrev S256x512 : Shape := ⟨2, ![256, 512]⟩
abbrev S1x256x512 : Shape := ⟨3, ![1, 256, 512]⟩
abbrev S3x256x512 : Shape := ⟨3, ![3, 256, 512]⟩
abbrev S16x8192x128 : Shape := ⟨3, ![16, 8192, 128]⟩
abbrev S16x64x128 : Shape := ⟨3, ![16, 64, 128]⟩
abbrev S4x2048x128 : Shape := ⟨3, ![4, 2048, 128]⟩
abbrev S1x2048x128 : Shape := ⟨3, ![1, 2048, 128]⟩
abbrev S4x16x128 : Shape := ⟨3, ![4, 16, 128]⟩
abbrev S1x16x128 : Shape := ⟨3, ![1, 16, 128]⟩
abbrev S2304x128 : Shape := ⟨2, ![2304, 128]⟩
abbrev S128x128 : Shape := ⟨2, ![128, 128]⟩
abbrev S3x1024x640 : Shape := ⟨3, ![3, 1024, 640]⟩
abbrev S1 : Shape := ⟨1, ![1]⟩
abbrev S256x128 : Shape := ⟨2, ![256, 128]⟩
abbrev S1x256x128 : Shape := ⟨3, ![1, 256, 128]⟩
abbrev S2048x128 : Shape := ⟨2, ![2048, 128]⟩
abbrev S16x128 : Shape := ⟨2, ![16, 128]⟩
abbrev S64x128 : Shape := ⟨2, ![64, 128]⟩
abbrev S64 : Shape := ⟨1, ![64]⟩
abbrev S64x1 : Shape := ⟨2, ![64, 1]⟩
abbrev S512x128 : Shape := ⟨2, ![512, 128]⟩
abbrev S640x128 : Shape := ⟨2, ![640, 128]⟩
abbrev S1024x128 : Shape := ⟨2, ![1024, 128]⟩
abbrev S1024x640 : Shape := ⟨2, ![1024, 640]⟩
abbrev S1x1024x640 : Shape := ⟨3, ![1, 1024, 640]⟩
abbrev S1024 : Shape := ⟨1, ![1024]⟩
abbrev S1024x1 : Shape := ⟨2, ![1024, 1]⟩

abbrev nBuf : Space → Nat
  | .hbm => 74
  | .vmem => 27
  | .smem => 2
  | _ => 0

abbrev bufTy : (tb : Table) → Fin (tcTables nBuf tb) → BufTy
  | .hbm, ⟨0, _⟩ => ⟨S4x2064x5120, .f32⟩
  | .hbm, ⟨1, _⟩ => ⟨S16, .f32⟩
  | .hbm, ⟨2, _⟩ => ⟨S4x2064x40x128, .f32⟩
  | .hbm, ⟨3, _⟩ => ⟨S40x4x2064x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S40, .i32⟩
  | .hbm, ⟨12, _⟩ => ⟨S_, .i32⟩
  | .hbm, ⟨13, _⟩ => ⟨S40, .i32⟩
  | .hbm, ⟨14, _⟩ => ⟨S40, .i1⟩
  | .hbm, ⟨15, _⟩ => ⟨S_, .f32⟩
  | .hbm, ⟨16, _⟩ => ⟨S_, .f32⟩
  | .hbm, ⟨17, _⟩ => ⟨S40, .f32⟩
  | .hbm, ⟨18, _⟩ => ⟨S40, .f32⟩
  | .hbm, ⟨19, _⟩ => ⟨S40, .f32⟩
  | .hbm, ⟨20, _⟩ => ⟨S40x1x1x1, .f32⟩
  | .hbm, ⟨21, _⟩ => ⟨S40x4x2064x128, .f32⟩
  | .hbm, ⟨22, _⟩ => ⟨S40x4x2064x128, .f32⟩
  | .hbm, ⟨23, _⟩ => ⟨S40x4x2064x128, .bf16⟩
  | .hbm, ⟨24, _⟩ => ⟨S40x4x2048x128, .bf16⟩
  | .hbm, ⟨25, _⟩ => ⟨S40x8192x128, .bf16⟩
  | .hbm, ⟨26, _⟩ => ⟨S40x4x16x128, .bf16⟩
  | .hbm, ⟨27, _⟩ => ⟨S40x64x128, .bf16⟩
  | .hbm, ⟨28, _⟩ => ⟨S256, .i32⟩
  | .hbm, ⟨29, _⟩ => ⟨S256x1, .i32⟩
  | .hbm, ⟨30, _⟩ => ⟨S512, .i32⟩
  | .hbm, ⟨31, _⟩ => ⟨S1x512, .i32⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S256x512, .i32⟩
  | .hbm, ⟨36, _⟩ => ⟨S256x512, .i32⟩
  | .hbm, ⟨37, _⟩ => ⟨S256x512, .i32⟩
  | .hbm, ⟨38, _⟩ => ⟨S256x512, .i32⟩
  | .hbm, ⟨39, _⟩ => ⟨S_, .i32⟩
  | .hbm, ⟨40, _⟩ => ⟨S256x512, .i32⟩
  | .hbm, ⟨41, _⟩ => ⟨S256x512, .i1⟩
  | .hbm, ⟨42, _⟩ => ⟨S_, .i32⟩
  | .hbm, ⟨43, _⟩ => ⟨S1x512, .i32⟩
  | .hbm, ⟨44, _⟩ => ⟨S1x512, .i1⟩
  | .hbm, ⟨45, _⟩ => ⟨S256x512, .i1⟩
  | .hbm, ⟨46, _⟩ => ⟨S256x512, .i1⟩
  | .hbm, ⟨47, _⟩ => ⟨S_, .i32⟩
  | .hbm, ⟨48, _⟩ => ⟨S1x512, .i32⟩
  | .hbm, ⟨49, _⟩ => ⟨S1x512, .i1⟩
  | .hbm, ⟨50, _⟩ => ⟨S256x512, .i1⟩
  | .hbm, ⟨51, _⟩ => ⟨S256x512, .i1⟩
  | .hbm, ⟨52, _⟩ => ⟨S1x256x512, .i1⟩
  | .hbm, ⟨53, _⟩ => ⟨S1x256x512, .i1⟩
  | .hbm, ⟨54, _⟩ => ⟨S1x256x512, .i1⟩
  | .hbm, ⟨55, _⟩ => ⟨S3x256x512, .i1⟩
  | .hbm, ⟨56, _⟩ => ⟨S256x512, .f32⟩
  | .hbm, ⟨57, _⟩ => ⟨S3x256x512, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S16, .f32⟩
  | .hbm, ⟨72, _⟩ => ⟨S16x8192x128, .bf16⟩
  | .hbm, ⟨73, _⟩ => ⟨S16x64x128, .bf16⟩
  | .local _ .vmem, ⟨0, _⟩ => ⟨S4x2048x128, .bf16⟩
  | .local _ .vmem, ⟨1, _⟩ => ⟨S4x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S4x2048x128, .bf16⟩
  | .local _ .vmem, ⟨7, _⟩ => ⟨S4x2048x128, .bf16⟩
  | .local _ .vmem, ⟨8, _⟩ => ⟨S4x16x128, .bf16⟩
  | .local _ .vmem, ⟨9, _⟩ => ⟨S4x16x128, .bf16⟩
  | .local _ .vmem, ⟨10, _⟩ => ⟨S1x16x128, .bf16⟩
  | .local _ .vmem, ⟨11, _⟩ => ⟨S1x16x128, .bf16⟩
  | .local _ .vmem, ⟨12, _⟩ => ⟨S1x16x128, .bf16⟩
  | .local _ .vmem, ⟨13, _⟩ => ⟨S1x16x128, .bf16⟩
  | .local _ .vmem, ⟨14, _⟩ => ⟨S4x16x128, .bf16⟩
  | .local _ .vmem, ⟨15, _⟩ => ⟨S4x16x128, .bf16⟩
  | .local _ .vmem, ⟨16, _⟩ => ⟨S256x512, .f32⟩
  | .local _ .vmem, ⟨17, _⟩ => ⟨S3x256x512, .f32⟩
  | .local _ .vmem, ⟨18, _⟩ => ⟨S4x2048x128, .bf16⟩
  | .local _ .vmem, ⟨19, _⟩ => ⟨S4x2048x128, .bf16⟩
  | .local _ .vmem, ⟨20, _⟩ => ⟨S4x16x128, .bf16⟩
  | .local _ .vmem, ⟨21, _⟩ => ⟨S4x16x128, .bf16⟩
  | .local _ .vmem, ⟨22, _⟩ => ⟨S2304x128, .bf16⟩
  | .local _ .vmem, ⟨23, _⟩ => ⟨S2304x128, .bf16⟩
  | .local _ .vmem, ⟨24, _⟩ => ⟨S128x128, .bf16⟩
  | .local _ .vmem, ⟨25, _⟩ => ⟨S128x128, .bf16⟩
  | .local _ .vmem, ⟨26, _⟩ => ⟨S3x1024x640, .f32⟩
  | .local _ .smem, ⟨0, _⟩ => ⟨S16, .f32⟩
  | .local _ .smem, ⟨1, _⟩ => ⟨S16, .f32⟩
  | _, _ => ⟨S4x2064x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54_0 : Ref sig .tc := ⟨.hbm, 72, rfl⟩
abbrev main_v54_1 : Ref sig .tc := ⟨.hbm, 73, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (i : grid0.Coords) (c0_i32_496 : BitVec 32) : Fin 1 → Nat :=
  let arg0 : BitVec 32 := BitVec.ofNat 32 (i 0).val
  let c4_i32_495 : BitVec 32 := 4#32
  let v816 : BitVec 32 := Scalar.muli arg0 c4_i32_495
  let v817 : BitVec 32 := Scalar.addi v816 c0_i32_496
  let v818 : Index := Scalar.indexCast v817
  ![v818.toNat]
def k0_cond2 (i : grid0.Coords) : BitVec 1 :=
  let arg2 : BitVec 32 := BitVec.ofNat 32 (i 2).val
  let c0_i32_2 : BitVec 32 := 0#32
  let v5 : BitVec 1 := Scalar.cmpi .eq arg2 c0_i32_2
  let v6 : BitVec 32 := Scalar.extui v5
  let c0_i32_3 : BitVec 32 := 0#32
  let v7 : BitVec 1 := Scalar.cmpi .ne v6 c0_i32_3
  v7

def k0_off2 (i : grid0.Coords) (c0_i32_529 : BitVec 32) : Fin 1 → Nat :=
  let arg0 : BitVec 32 := BitVec.ofNat 32 (i 0).val
  let c4_i32_528 : BitVec 32 := 4#32
  let v858 : BitVec 32 := Scalar.muli arg0 c4_i32_528
  let v859 : BitVec 32 := Scalar.addi v858 c0_i32_529
  let v860 : Index := Scalar.indexCast v859
  ![v860.toNat]
def k0_mult1 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c256_i32 : BitVec 32 := 256#32
  let v10 : BitVec 32 := Scalar.muli v9 c256_i32
  v10
def k0_off3 (i : grid0.Coords) (c0_i32_4 : BitVec 32) : Fin 2 → Nat :=
  let arg2 : BitVec 32 := BitVec.ofNat 32 (i 2).val
  let c8_i32 : BitVec 32 := 8#32
  let v8 : BitVec 32 := Scalar.muli arg2 c8_i32
  let v9 : BitVec 32 := Scalar.addi v8 c0_i32_4
  let c256_i32 : BitVec 32 := 256#32
  let v10 : BitVec 32 := Scalar.muli v9 c256_i32
  let v11 : BitVec 32 := v10
  let v16 : Index := Scalar.indexCast v11
  let c0 : Index := 0#32
  ![v16.toNat, 0]
def k0_off4 (i : grid0.Coords) (c0_i32_4 : BitVec 32) : Fin 3 → Nat :=
  let arg2 : BitVec 32 := BitVec.ofNat 32 (i 2).val
  let c8_i32 : BitVec 32 := 8#32
  let v8 : BitVec 32 := Scalar.muli arg2 c8_i32
  let v9 : BitVec 32 := Scalar.addi v8 c0_i32_4
  let c0_i32_5 : BitVec 32 := 0#32
  let v12 : BitVec 1 := Scalar.cmpi .eq v9 c0_i32_5
  let c0_i32_6 : BitVec 32 := 0#32
  let c7_i32 : BitVec 32 := 7#32
  let v13 : BitVec 1 := Scalar.cmpi .eq v9 c7_i32
  let c2_i32 : BitVec 32 := 2#32
  let c1_i32 : BitVec 32 := 1#32
  let v14 : BitVec 32 := Scalar.select v13 c2_i32 c1_i32
  let v15 : BitVec 32 := Scalar.select v12 c0_i32_6 v14
  let v30 : Index := Scalar.indexCast v15
  let c0_18 : Index := 0#32
  let c0_19 : Index := 0#32
  ![v30.toNat, 0, 0]
def k0_mult2 (i : grid0.Coords) : BitVec 32 :=
  let arg2 : BitVec 32 := BitVec.ofNat 32 (i 2).val
  let c8_i32_20 : BitVec 32 := 8#32
  let v34 : BitVec 32 := Scalar.muli arg2 c8_i32_20
  let c1_i32_21 : BitVec 32 := 1#32
  let v35 : BitVec 32 := Scalar.addi v34 c1_i32_21
  let c256_i32_22 : BitVec 32 := 256#32
  let v36 : BitVec 32 := Scalar.muli v35 c256_i32_22
  v36
def k0_mult3 (i : grid0.Coords) : BitVec 32 :=
  let arg2 : BitVec 32 := BitVec.ofNat 32 (i 2).val
  let c8_i32_45 : BitVec 32 := 8#32
  let v60 : BitVec 32 := Scalar.muli arg2 c8_i32_45
  let c2_i32_46 : BitVec 32 := 2#32
  let v61 : BitVec 32 := Scalar.addi v60 c2_i32_46
  let c256_i32_47 : BitVec 32 := 256#32
  let v62 : BitVec 32 := Scalar.muli v61 c256_i32_47
  v62
def k0_mult4 (i : grid0.Coords) : BitVec 32 :=
  let arg2 : BitVec 32 := BitVec.ofNat 32 (i 2).val
  let c8_i32_70 : BitVec 32 := 8#32
  let v86 : BitVec 32 := Scalar.muli arg2 c8_i32_70
  let c3_i32 : BitVec 32 := 3#32
  let v87 : BitVec 32 := Scalar.addi v86 c3_i32
  let c256_i32_71 : BitVec 32 := 256#32
  let v88 : BitVec 32 := Scalar.muli v87 c256_i32_71
  v88
def k0_mult5 (i : grid0.Coords) : BitVec 32 :=
  let arg2 : BitVec 32 := BitVec.ofNat 32 (i 2).val
  let c8_i32_94 : BitVec 32 := 8#32
  let v112 : BitVec 32 := Scalar.muli arg2 c8_i32_94
  let c4_i32 : BitVec 32 := 4#32
  let v113 : BitVec 32 := Scalar.addi v112 c4_i32
  let c256_i32_95 : BitVec 32 := 256#32
  let v114 : BitVec 32 := Scalar.muli v113 c256_i32_95
  v114
def k0_mult6 (i : grid0.Coords) : BitVec 32 :=
  let arg2 : BitVec 32 := BitVec.ofNat 32 (i 2).val
  let c8_i32_118 : BitVec 32 := 8#32
  let v138 : BitVec 32 := Scalar.muli arg2 c8_i32_118
  let c5_i32 : BitVec 32 := 5#32
  let v139 : BitVec 32 := Scalar.addi v138 c5_i32
  let c256_i32_119 : BitVec 32 := 256#32
  let v140 : BitVec 32 := Scalar.muli v139 c256_i32_119
  v140
def k0_mult7 (i : grid0.Coords) : BitVec 32 :=
  let arg2 : BitVec 32 := BitVec.ofNat 32 (i 2).val
  let c8_i32_142 : BitVec 32 := 8#32
  let v164 : BitVec 32 := Scalar.muli arg2 c8_i32_142
  let c6_i32 : BitVec 32 := 6#32
  let v165 : BitVec 32 := Scalar.addi v164 c6_i32
  let c256_i32_143 : BitVec 32 := 256#32
  let v166 : BitVec 32 := Scalar.muli v165 c256_i32_143
  v166
def k0_mult8 (i : grid0.Coords) : BitVec 32 :=
  let arg2 : BitVec 32 := BitVec.ofNat 32 (i 2).val
  let c8_i32_166 : BitVec 32 := 8#32
  let v190 : BitVec 32 := Scalar.muli arg2 c8_i32_166
  let c7_i32_167 : BitVec 32 := 7#32
  let v191 : BitVec 32 := Scalar.addi v190 c7_i32_167
  let c256_i32_168 : BitVec 32 := 256#32
  let v192 : BitVec 32 := Scalar.muli v191 c256_i32_168
  v192
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.muli arg1 c1_i32
  let v2 : BitVec 32 := Scalar.addi v1 arg2
  let c0_i32_0 : BitVec 32 := 0#32
  let c0_i32_1 : BitVec 32 := 0#32
  ![v0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg0
  let c1_i32 : BitVec 32 := 1#32
  let v1 : BitVec 32 := Scalar.muli arg1 c1_i32
  let v2 : BitVec 32 := Scalar.addi v1 arg2
  let c0_i32 : BitVec 32 := 0#32
  let c0_i32_0 : BitVec 32 := 0#32
  ![v0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  let c0_i32_0 : BitVec 32 := 0#32
  ![v0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg0
  let c0_i32 : BitVec 32 := 0#32
  let c0_i32_0 : BitVec 32 := 0#32
  ![v0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.muli arg1 c1_i32
  let v2 : BitVec 32 := Scalar.addi v1 arg2
  let c0_i32_0 : BitVec 32 := 0#32
  let c0_i32_1 : BitVec 32 := 0#32
  ![v0.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x16x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x16x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S4x16x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S3x256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S4x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S4x16x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x2064x5120 : Shape := ⟨3, ![4, 2064, 5120]⟩
abbrev S16 : Shape := ⟨1, ![16]⟩
abbrev S4x2064x2048 : Shape := ⟨3, ![4, 2064, 2048]⟩
abbrev S4x2064x512 : Shape := ⟨3, ![4, 2064, 512]⟩
abbrev S4x2064x4x4x128 : Shape := ⟨5, ![4, 2064, 4, 4, 128]⟩
abbrev S_ : Shape := ⟨0, ![]⟩
abbrev S4x2064x4x128 : Shape := ⟨4, ![4, 2064, 4, 128]⟩
abbrev S4x4 : Shape := ⟨2, ![4, 4]⟩
abbrev S4x16x4x4x128 : Shape := ⟨5, ![4, 16, 4, 4, 128]⟩
abbrev S4x16x4x128 : Shape := ⟨4, ![4, 16, 4, 128]⟩
abbrev S4x4x16x16 : Shape := ⟨4, ![4, 4, 16, 16]⟩
abbrev S4x4x16x16x4 : Shape := ⟨5, ![4, 4, 16, 16, 4]⟩
abbrev S4x4x4x16x16 : Shape := ⟨5, ![4, 4, 4, 16, 16]⟩
abbrev S1x4x4x16x16 : Shape := ⟨5, ![1, 4, 4, 16, 16]⟩
abbrev S1x4x4x1x1 : Shape := ⟨5, ![1, 4, 4, 1, 1]⟩
abbrev S4x4x4x16x1 : Shape := ⟨5, ![4, 4, 4, 16, 1]⟩
abbrev S4x4x4x16x17 : Shape := ⟨5, ![4, 4, 4, 16, 17]⟩
abbrev S4x4x4x16 : Shape := ⟨4, ![4, 4, 4, 16]⟩
abbrev S4x4x128x4x16 : Shape := ⟨5, ![4, 4, 128, 4, 16]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x4x1x1 : Shape := ⟨4, ![4, 4, 1, 1]⟩
abbrev S4x4x2048x2048 : Shape := ⟨4, ![4, 4, 2048, 2048]⟩
abbrev S4x4x2048x16 : Shape := ⟨4, ![4, 4, 2048, 16]⟩
abbrev S4x4x2048x2064 : Shape := ⟨4, ![4, 4, 2048, 2064]⟩
abbrev S4x2048x4x4x128 : Shape := ⟨5, ![4, 2048, 4, 4, 128]⟩
abbrev S4x4x2064x2048x4 : Shape := ⟨5, ![4, 4, 2064, 2048, 4]⟩
abbrev S4x4x4x2048x2064 : Shape := ⟨5, ![4, 4, 4, 2048, 2064]⟩
abbrev S1x4x4x2048x2064 : Shape := ⟨5, ![1, 4, 4, 2048, 2064]⟩
abbrev S4x4x4x2048x1 : Shape := ⟨5, ![4, 4, 4, 2048, 1]⟩
abbrev S4x4x4x2048x2065 : Shape := ⟨5, ![4, 4, 4, 2048, 2065]⟩
abbrev S4x4x4x2048 : Shape := ⟨4, ![4, 4, 4, 2048]⟩
abbrev S4x4x128x4x2048 : Shape := ⟨5, ![4, 4, 128, 4, 2048]⟩
abbrev S4x2064x16x128 : Shape := ⟨4, ![4, 2064, 16, 128]⟩
abbrev S16x4x2064x128 : Shape := ⟨4, ![16, 4, 2064, 128]⟩
abbrev S16x4x2048x128 : Shape := ⟨4, ![16, 4, 2048, 128]⟩
abbrev S16x8192x128 : Shape := ⟨3, ![16, 8192, 128]⟩
abbrev S16x4x16x128 : Shape := ⟨4, ![16, 4, 16, 128]⟩
abbrev S16x64x128 : Shape := ⟨3, ![16, 64, 128]⟩

abbrev nBuf : Space → Nat
  | .hbm => 132
  | .vmem => 0
  | .smem => 0
  | _ => 0

abbrev hbmTy0_0 (i : Nat) : BufTy := match i % 128 with
  | 0 => ⟨S4x2064x5120, .f32⟩
  | 1 => ⟨S16, .f32⟩
  | 2 => ⟨S4x2064x2048, .f32⟩
  | 3 => ⟨S4x2064x512, .f32⟩
  | 4 => ⟨S4x2064x512, .f32⟩
  | 5 => ⟨S4x2064x2048, .f32⟩
  | 6 => ⟨S4x2064x4x4x128, .f32⟩
  | 7 => ⟨S_, .f32⟩
  | 8 => ⟨S_, .f32⟩
  | 9 => ⟨S_, .f32⟩
  | 10 => ⟨S_, .f32⟩
  | 11 => ⟨S4x2064x4x4x128, .f32⟩
  | 12 => ⟨S4x2064x4x4x128, .f32⟩
  | 13 => ⟨S4x2064x4x128, .f32⟩
  | 14 => ⟨S4x2064x4x128, .f32⟩
  | 15 => ⟨S4x4, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S16, .f32⟩
  | 30 => ⟨S4x4, .f32⟩
  | 31 => ⟨S4x16x4x4x128, .f32⟩
  | 32 => ⟨S4x16x4x128, .f32⟩
  | 33 => ⟨S4x16x4x128, .f32⟩
  | 34 => ⟨S_, .f32⟩
  | 35 => ⟨S4x4x16x16, .f32⟩
  | 36 => ⟨S4x4x16x16x4, .f32⟩
  | 37 => ⟨S4x4x4x16x16, .f32⟩
  | 38 => ⟨S1x4x4x16x16, .f32⟩
  | 39 => ⟨S4x4x4x16x16, .f32⟩
  | 40 => ⟨S4x4x4x16x16, .f32⟩
  | 41 => ⟨S1x4x4x1x1, .f32⟩
  | 42 => ⟨S4x4x4x16x1, .f32⟩
  | 43 => ⟨S4x4x4x16x17, .f32⟩
  | 44 => ⟨S_, .f32⟩
  | 45 => ⟨S4x4x4x16, .f32⟩
  | 46 => ⟨S_, .f32⟩
  | 47 => ⟨S4x4x4x16, .f32⟩
  | 48 => ⟨S4x4x4x16, .f32⟩
  | 49 => ⟨S4x4x4x16x1, .f32⟩
  | 50 => ⟨S4x4x4x16x17, .f32⟩
  | 51 => ⟨S4x4x4x16x17, .f32⟩
  | 52 => ⟨S4x4x4x16x17, .f32⟩
  | 53 => ⟨S_, .f32⟩
  | 54 => ⟨S4x4x4x16, .f32⟩
  | 55 => ⟨S4x4x4x16x1, .f32⟩
  | 56 => ⟨S4x4x4x16x17, .f32⟩
  | 57 => ⟨S4x4x4x16x17, .f32⟩
  | 58 => ⟨S4x4x4x16x16, .f32⟩
  | 59 => ⟨S4x4x128x4x16, .f32⟩
  | 60 => ⟨S4x16x4x4x128, .f32⟩
  | 61 => ⟨S2048, .i32⟩
  | 62 => ⟨S2048x1, .i32⟩
  | 63 => ⟨S1x2048, .i32⟩
  | 64 => ⟨S2048x2048, .i32⟩
  | 65 => ⟨S2048x2048, .i32⟩
  | 66 => ⟨S2048x2048, .i32⟩
  | 67 => ⟨S2048x2048, .i32⟩
  | 68 => ⟨S_, .i32⟩
  | 69 => ⟨S2048x2048, .i32⟩
  | 70 => ⟨S2048x2048, .i1⟩
  | 71 => ⟨S1x1x2048x2048, .i1⟩
  | 72 => ⟨S4x4x1x1, .f32⟩
  | 73 => ⟨S4x4x1x1, .f32⟩
  | 74 => ⟨S2048x2048, .f32⟩
  | 75 => ⟨S1x1x2048x2048, .f32⟩
  | 76 => ⟨S4x4x2048x2048, .f32⟩
  | 77 => ⟨S4x4x2048x2048, .f32⟩
  | 78 => ⟨S4x4x2048x2048, .f32⟩
  | 79 => ⟨S_, .f32⟩
  | 80 => ⟨S_, .f32⟩
  | 81 => ⟨S4x4x2048x2048, .i1⟩
  | 82 => ⟨S4x4x2048x2048, .f32⟩
  | 83 => ⟨S4x4x2048x2048, .f32⟩
  | 84 => ⟨S_, .f32⟩
  | 85 => ⟨S4x4x2048x16, .f32⟩
  | 86 => ⟨S4x4x2048x2064, .f32⟩
  | 87 => ⟨S4x2048x4x4x128, .f32⟩
  | 88 => ⟨S4x4x2064x2048x4, .f32⟩
  | 89 => ⟨S4x4x4x2048x2064, .f32⟩
  | 90 => ⟨S1x4x4x2048x2064, .f32⟩
  | 91 => ⟨S4x4x4x2048x2064, .f32⟩
  | 92 => ⟨S4x4x4x2048x2064, .f32⟩
  | 93 => ⟨S1x4x4x1x1, .f32⟩
  | 94 => ⟨S4x4x4x2048x1, .f32⟩
  | 95 => ⟨S4x4x4x2048x2065, .f32⟩
  | 96 => ⟨S_, .f32⟩
  | 97 => ⟨S4x4x4x2048, .f32⟩
  | 98 => ⟨S_, .f32⟩
  | 99 => ⟨S4x4x4x2048, .f32⟩
  | 100 => ⟨S4x4x4x2048, .f32⟩
  | 101 => ⟨S4x4x4x2048x1, .f32⟩
  | 102 => ⟨S4x4x4x2048x2065, .f32⟩
  | 103 => ⟨S4x4x4x2048x2065, .f32⟩
  | 104 => ⟨S4x4x4x2048x2065, .f32⟩
  | 105 => ⟨S_, .f32⟩
  | 106 => ⟨S4x4x4x2048, .f32⟩
  | 107 => ⟨S4x4x4x2048x1, .f32⟩
  | 108 => ⟨S4x4x4x2048x2065, .f32⟩
  | 109 => ⟨S4x4x4x2048x2065, .f32⟩
  | 110 => ⟨S4x4x4x2048x2064, .f32⟩
  | 111 => ⟨S4x4x128x4x2048, .f32⟩
  | 112 => ⟨S4x2048x4x4x128, .f32⟩
  | 113 => ⟨S4x2064x4x4x128, .f32⟩
  | 114 => ⟨S4x2064x2048, .f32⟩
  | 115 => ⟨S4x2064x2048, .f32⟩
  | 116 => ⟨S4x2064x2048, .f32⟩
  | 117 => ⟨S_, .f32⟩
  | 118 => ⟨S4x2064x2048, .f32⟩
  | 119 => ⟨S4x2064x2048, .f32⟩
  | 120 => ⟨S_, .f32⟩
  | 121 => ⟨S4x2064x2048, .f32⟩
  | 122 => ⟨S4x2064x2048, .f32⟩
  | 123 => ⟨S4x2064x2048, .f32⟩
  | 124 => ⟨S4x2064x2048, .f32⟩
  | 125 => ⟨S4x2064x16x128, .f32⟩
  | 126 => ⟨S16x4x2064x128, .f32⟩
  | 127 => ⟨S16x4x2064x128, .bf16⟩
  | _ => ⟨S4x2064x5120, .f32⟩

abbrev hbmTy0_1 (i : Nat) : BufTy := match i % 128 with
  | 0 => ⟨S16x4x2048x128, .bf16⟩
  | 1 => ⟨S16x8192x128, .bf16⟩
  | 2 => ⟨S16x4x16x128, .bf16⟩
  | 3 => ⟨S16x64x128, .bf16⟩
  | _ => ⟨S4x2064x5120, .f32⟩

abbrev hbmTy (i : Nat) : BufTy := match i / 128 with
  | 0 => hbmTy0_0 i
  | 1 => hbmTy0_1 i
  | _ => ⟨S4x2064x5120, .f32⟩

abbrev bufTy : (tb : Table) → Fin (tcTables nBuf tb) → BufTy
  | .hbm, ⟨i, _⟩ => hbmTy i
  | _, _ => ⟨S4x2064x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_8 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_9 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_14 : Ref sig .tc := ⟨.hbm, 117, rfl⟩
abbrev main_v96 : Ref sig .tc := ⟨.hbm, 118, rfl⟩
abbrev main_v97 : Ref sig .tc := ⟨.hbm, 119, rfl⟩
abbrev main_cst_15 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩

abbrev nD : Nat := 1
abbrev τ : Topo := Topo.v7x

variable {F : FTy → Type} [FloatOps F]
-- ==== Kernel2.lean ====
abbrev S8192x2048 : Shape := ⟨2, ![8192, 2048]⟩
abbrev S64x2048 : Shape := ⟨2, ![64, 2048]⟩
abbrev S1x2048x5120 : Shape := ⟨3, ![1, 2048, 5120]⟩
abbrev S40x8192x128 : Shape := ⟨3, ![40, 8192, 128]⟩
abbrev S40x64x128 : Shape := ⟨3, ![40, 64, 128]⟩
abbrev S2048x2048 : Shape := ⟨2, ![2048, 2048]⟩
abbrev S1x2048x1024 : Shape := ⟨3, ![1, 2048, 1024]⟩
abbrev S8x2048x128 : Shape := ⟨3, ![8, 2048, 128]⟩
abbrev S8x64x128 : Shape := ⟨3, ![8, 64, 128]⟩
abbrev S2048x1024 : Shape := ⟨2, ![2048, 1024]⟩
abbrev S64x1024 : Shape := ⟨2, ![64, 1024]⟩
abbrev S64x128 : Shape := ⟨2, ![64, 128]⟩
abbrev S1x64x128 : Shape := ⟨3, ![1, 64, 128]⟩
abbrev S2048x128 : Shape := ⟨2, ![2048, 128]⟩
abbrev S1x2048x128 : Shape := ⟨3, ![1, 2048, 128]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x5120, .f32⟩
  | .hbm, ⟨3, _⟩ => ⟨S40x8192x128, .bf16⟩
  | .hbm, ⟨4, _⟩ => ⟨S40x64x128, .bf16⟩
  | .local _ .vmem, ⟨0, _⟩ => ⟨S2048x2048, .bf16⟩
  | .local _ .vmem, ⟨1, _⟩ => ⟨S2048x2048, .bf16⟩
  | .local _ .vmem, ⟨2, _⟩ => ⟨S64x2048, .bf16⟩
  | .local _ .vmem, ⟨3, _⟩ => ⟨S1x2048x1024, .f32⟩
  | .local _ .vmem, ⟨4, _⟩ => ⟨S1x2048x1024, .f32⟩
  | .local _ .vmem, ⟨5, _⟩ => ⟨S8x2048x128, .bf16⟩
  | .local _ .vmem, ⟨6, _⟩ => ⟨S8x2048x128, .bf16⟩
  | .local _ .vmem, ⟨7, _⟩ => ⟨S8x64x128, .bf16⟩
  | .local _ .vmem, ⟨8, _⟩ => ⟨S8x64x128, .bf16⟩
  | .local _ .vmem, ⟨9, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S64x2048 : Shape := ⟨2, ![64, 2048]⟩
abbrev S1x2048x5120 : Shape := ⟨3, ![1, 2048, 5120]⟩
abbrev S2048x5120 : Shape := ⟨2, ![2048, 5120]⟩
abbrev S8192x5120 : Shape := ⟨2, ![8192, 5120]⟩
abbrev S8192x3072 : Shape := ⟨2, ![8192, 3072]⟩
abbrev S_ : Shape := ⟨0, ![]⟩
abbrev S8192x40x128 : Shape := ⟨3, ![8192, 40, 128]⟩
abbrev S40x8192x128 : Shape := ⟨3, ![40, 8192, 128]⟩
abbrev S64x5120 : Shape := ⟨2, ![64, 5120]⟩
abbrev S64x3072 : Shape := ⟨2, ![64, 3072]⟩
abbrev S64x40x128 : Shape := ⟨3, ![64, 40, 128]⟩
abbrev S40x64x128 : Shape := ⟨3, ![40, 64, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x5120, .f32⟩
  | .hbm, ⟨3, _⟩ => ⟨S2048x5120, .f32⟩
  | .hbm, ⟨4, _⟩ => ⟨S8192x5120, .f32⟩
  | .hbm, ⟨5, _⟩ => ⟨S8192x2048, .f32⟩
  | .hbm, ⟨6, _⟩ => ⟨S8192x3072, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x5120, .f32⟩
  | .hbm, ⟨11, _⟩ => ⟨S8192x40x128, .f32⟩
  | .hbm, ⟨12, _⟩ => ⟨S40x8192x128, .f32⟩
  | .hbm, ⟨13, _⟩ => ⟨S40x8192x128, .bf16⟩
  | .hbm, ⟨14, _⟩ => ⟨S2048x5120, .f32⟩
  | .hbm, ⟨15, _⟩ => ⟨S64x5120, .f32⟩
  | .hbm, ⟨16, _⟩ => ⟨S64x2048, .f32⟩
  | .hbm, ⟨17, _⟩ => ⟨S64x3072, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x5120, .f32⟩
  | .hbm, ⟨22, _⟩ => ⟨S64x40x128, .f32⟩
  | .hbm, ⟨23, _⟩ => ⟨S40x64x128, .f32⟩
  | .hbm, ⟨24, _⟩ => ⟨S40x64x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel3.lean ====
abbrev S8192x2048 : Shape := ⟨2, ![8192, 2048]⟩
abbrev S64x2048 : Shape := ⟨2, ![64, 2048]⟩
abbrev S1x2048x8192 : Shape := ⟨3, ![1, 2048, 8192]⟩
abbrev S64x8192x128 : Shape := ⟨3, ![64, 8192, 128]⟩
abbrev S64x64x128 : Shape := ⟨3, ![64, 64, 128]⟩
abbrev S2048x2048 : Shape := ⟨2, ![2048, 2048]⟩
abbrev S1x2048x1024 : Shape := ⟨3, ![1, 2048, 1024]⟩
abbrev S8x2048x128 : Shape := ⟨3, ![8, 2048, 128]⟩
abbrev S8x64x128 : Shape := ⟨3, ![8, 64, 128]⟩
abbrev S2048x1024 : Shape := ⟨2, ![2048, 1024]⟩
abbrev S64x1024 : Shape := ⟨2, ![64, 1024]⟩
abbrev S64x128 : Shape := ⟨2, ![64, 128]⟩
abbrev S1x64x128 : Shape := ⟨3, ![1, 64, 128]⟩
abbrev S2048x128 : Shape := ⟨2, ![2048, 128]⟩
abbrev S1x2048x128 : Shape := ⟨3, ![1, 2048, 128]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x8192, .f32⟩
  | .hbm, ⟨3, _⟩ => ⟨S64x8192x128, .bf16⟩
  | .hbm, ⟨4, _⟩ => ⟨S64x64x128, .bf16⟩
  | .local _ .vmem, ⟨0, _⟩ => ⟨S2048x2048, .bf16⟩
  | .local _ .vmem, ⟨1, _⟩ => ⟨S2048x2048, .bf16⟩
  | .local _ .vmem, ⟨2, _⟩ => ⟨S64x2048, .bf16⟩
  | .local _ .vmem, ⟨3, _⟩ => ⟨S1x2048x1024, .f32⟩
  | .local _ .vmem, ⟨4, _⟩ => ⟨S1x2048x1024, .f32⟩
  | .local _ .vmem, ⟨5, _⟩ => ⟨S8x2048x128, .bf16⟩
  | .local _ .vmem, ⟨6, _⟩ => ⟨S8x2048x128, .bf16⟩
  | .local _ .vmem, ⟨7, _⟩ => ⟨S8x64x128, .bf16⟩
  | .local _ .vmem, ⟨8, _⟩ => ⟨S8x64x128, .bf16⟩
  | .local _ .vmem, ⟨9, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8192x2048 : Shape := ⟨2, ![8192, 2048]⟩
abbrev S64x2048 : Shape := ⟨2, ![64, 2048]⟩
abbrev S1x2048x8192 : Shape := ⟨3, ![1, 2048, 8192]⟩
abbrev S2048x8192 : Shape := ⟨2, ![2048, 8192]⟩
abbrev S8192x8192 : Shape := ⟨2, ![8192, 8192]⟩
abbrev S8192x6144 : Shape := ⟨2, ![8192, 6144]⟩
abbrev S_ : Shape := ⟨0, ![]⟩
abbrev S8192x64x128 : Shape := ⟨3, ![8192, 64, 128]⟩
abbrev S64x8192x128 : Shape := ⟨3, ![64, 8192, 128]⟩
abbrev S64x8192 : Shape := ⟨2, ![64, 8192]⟩
abbrev S64x6144 : Shape := ⟨2, ![64, 6144]⟩
abbrev S64x64x128 : Shape := ⟨3, ![64, 64, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x8192, .f32⟩
  | .hbm, ⟨3, _⟩ => ⟨S2048x8192, .f32⟩
  | .hbm, ⟨4, _⟩ => ⟨S8192x8192, .f32⟩
  | .hbm, ⟨5, _⟩ => ⟨S8192x2048, .f32⟩
  | .hbm, ⟨6, _⟩ => ⟨S8192x6144, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x8192, .f32⟩
  | .hbm, ⟨11, _⟩ => ⟨S8192x64x128, .f32⟩
  | .hbm, ⟨12, _⟩ => ⟨S64x8192x128, .f32⟩
  | .hbm, ⟨13, _⟩ => ⟨S64x8192x128, .bf16⟩
  | .hbm, ⟨14, _⟩ => ⟨S2048x8192, .f32⟩
  | .hbm, ⟨15, _⟩ => ⟨S64x8192, .f32⟩
  | .hbm, ⟨16, _⟩ => ⟨S64x2048, .f32⟩
  | .hbm, ⟨17, _⟩ => ⟨S64x6144, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x8192, .f32⟩
  | .hbm, ⟨22, _⟩ => ⟨S64x64x128, .f32⟩
  | .hbm, ⟨23, _⟩ => ⟨S64x64x128, .f32⟩
  | .hbm, ⟨24, _⟩ => ⟨S64x64x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel4.lean ====
abbrev S8192x2048 : Shape := ⟨2, ![8192, 2048]⟩
abbrev S64x2048 : Shape := ⟨2, ![64, 2048]⟩
abbrev S2x2048x8192 : Shape := ⟨3, ![2, 2048, 8192]⟩
abbrev S64x8192x128 : Shape := ⟨3, ![64, 8192, 128]⟩
abbrev S64x64x128 : Shape := ⟨3, ![64, 64, 128]⟩
abbrev S1024x2048 : Shape := ⟨2, ![1024, 2048]⟩
abbrev S1x2048x1024 : Shape := ⟨3, ![1, 2048, 1024]⟩
abbrev S8x1024x128 : Shape := ⟨3, ![8, 1024, 128]⟩
abbrev S8x64x128 : Shape := ⟨3, ![8, 64, 128]⟩
abbrev S2048x1024 : Shape := ⟨2, ![2048, 1024]⟩
abbrev S64x1024 : Shape := ⟨2, ![64, 1024]⟩
abbrev S64x128 : Shape := ⟨2, ![64, 128]⟩
abbrev S1x64x128 : Shape := ⟨3, ![1, 64, 128]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S2x2048x8192, .f32⟩
  | .hbm, ⟨3, _⟩ => ⟨S64x8192x128, .bf16⟩
  | .hbm, ⟨4, _⟩ => ⟨S64x64x128, .bf16⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S8x1024x128, .bf16⟩
  | .local _ .vmem, ⟨6, _⟩ => ⟨S8x1024x128, .bf16⟩
  | .local _ .vmem, ⟨7, _⟩ => ⟨S8x64x128, .bf16⟩
  | .local _ .vmem, ⟨8, _⟩ => ⟨S8x64x128, .bf16⟩
  | .local _ .vmem, ⟨9, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8192x2048 : Shape := ⟨2, ![8192, 2048]⟩
abbrev S64x2048 : Shape := ⟨2, ![64, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S8192x6144 : Shape := ⟨2, ![8192, 6144]⟩
abbrev S_ : Shape := ⟨0, ![]⟩
abbrev S8192x64x128 : Shape := ⟨3, ![8192, 64, 128]⟩
abbrev S64x8192x128 : Shape := ⟨3, ![64, 8192, 128]⟩
abbrev S64x8192 : Shape := ⟨2, ![64, 8192]⟩
abbrev S64x6144 : Shape := ⟨2, ![64, 6144]⟩
abbrev S64x64x128 : Shape := ⟨3, ![64, 64, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S2x2048x8192, .f32⟩
  | .hbm, ⟨3, _⟩ => ⟨S1x2048x8192, .f32⟩
  | .hbm, ⟨4, _⟩ => ⟨S2048x8192, .f32⟩
  | .hbm, ⟨5, _⟩ => ⟨S8192x8192, .f32⟩
  | .hbm, ⟨6, _⟩ => ⟨S8192x2048, .f32⟩
  | .hbm, ⟨7, _⟩ => ⟨S8192x6144, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x8192, .f32⟩
  | .hbm, ⟨12, _⟩ => ⟨S8192x64x128, .f32⟩
  | .hbm, ⟨13, _⟩ => ⟨S64x8192x128, .f32⟩
  | .hbm, ⟨14, _⟩ => ⟨S64x8192x128, .bf16⟩
  | .hbm, ⟨15, _⟩ => ⟨S1x2048x8192, .f32⟩
  | .hbm, ⟨16, _⟩ => ⟨S2048x8192, .f32⟩
  | .hbm, ⟨17, _⟩ => ⟨S64x8192, .f32⟩
  | .hbm, ⟨18, _⟩ => ⟨S64x2048, .f32⟩
  | .hbm, ⟨19, _⟩ => ⟨S64x6144, .f32⟩
  | .hbm, ⟨20, _⟩ => ⟨S_, .f32⟩
  | .hbm, ⟨21, _⟩ => ⟨S64x2048, .f32⟩
  | .hbm, ⟨22, _⟩ => ⟨S64x2048, .f32⟩
  | .hbm, ⟨23, _⟩ => ⟨S64x8192, .f32⟩
  | .hbm, ⟨24, _⟩ => ⟨S64x64x128, .f32⟩
  | .hbm, ⟨25, _⟩ => ⟨S64x64x128, .f32⟩
  | .hbm, ⟨26, _⟩ => ⟨S64x64x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel5.lean ====
abbrev S16x8192x128 : Shape := ⟨3, ![16, 8192, 128]⟩
abbrev S16x64x128 : Shape := ⟨3, ![16, 64, 128]⟩
abbrev S4x2048x2048 : Shape := ⟨3, ![4, 2048, 2048]⟩
abbrev S8192x2048 : Shape := ⟨2, ![8192, 2048]⟩
abbrev S64x2048 : Shape := ⟨2, ![64, 2048]⟩
abbrev S2048 : Shape := ⟨1, ![2048]⟩
abbrev S1x2048 : Shape := ⟨2, ![1, 2048]⟩
abbrev S16x512x128 : Shape := ⟨3, ![16, 512, 128]⟩
abbrev S1x2048x2048 : Shape := ⟨3, ![1, 2048, 2048]⟩
abbrev S512x2048 : Shape := ⟨2, ![512, 2048]⟩
abbrev S2048x2048 : Shape := ⟨2, ![2048, 2048]⟩
abbrev S1x512x2048 : Shape := ⟨3, ![1, 512, 2048]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S128x2048 : Shape := ⟨2, ![128, 2048]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩

abbrev nBuf : Space → Nat
  | .hbm => 11
  | .vmem => 13
  | .smem => 0
  | _ => 0

abbrev bufTy : (tb : Table) → Fin (tcTables nBuf tb) → BufTy
  | .hbm, ⟨0, _⟩ => ⟨S16x8192x128, .bf16⟩
  | .hbm, ⟨1, _⟩ => ⟨S16x64x128, .bf16⟩
  | .hbm, ⟨2, _⟩ => ⟨S4x2048x2048, .f32⟩
  | .hbm, ⟨3, _⟩ => ⟨S8192x2048, .f32⟩
  | .hbm, ⟨4, _⟩ => ⟨S64x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S64x2048, .f32⟩
  | .local _ .vmem, ⟨0, _⟩ => ⟨S16x512x128, .bf16⟩
  | .local _ .vmem, ⟨1, _⟩ => ⟨S16x512x128, .bf16⟩
  | .local _ .vmem, ⟨2, _⟩ => ⟨S16x64x128, .bf16⟩
  | .local _ .vmem, ⟨3, _⟩ => ⟨S1x2048x2048, .f32⟩
  | .local _ .vmem, ⟨4, _⟩ => ⟨S512x2048, .f32⟩
  | .local _ .vmem, ⟨5, _⟩ => ⟨S512x2048, .f32⟩
  | .local _ .vmem, ⟨6, _⟩ => ⟨S64x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S64x2048, .f32⟩
  | .local _ .vmem, ⟨12, _⟩ => ⟨S2048x2048, .bf16⟩
  | _, _ => ⟨S16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S16x8192x128 : Shape := ⟨3, ![16, 8192, 128]⟩
abbrev S16x64x128 : Shape := ⟨3, ![16, 64, 128]⟩
abbrev S4x2048x2048 : Shape := ⟨3, ![4, 2048, 2048]⟩
abbrev S8192x2048 : Shape := ⟨2, ![8192, 2048]⟩
abbrev S64x2048 : Shape := ⟨2, ![64, 2048]⟩
abbrev S2048 : Shape := ⟨1, ![2048]⟩
abbrev S8192x16x128 : Shape := ⟨3, ![8192, 16, 128]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S64x16x128 : Shape := ⟨3, ![64, 16, 128]⟩
abbrev S64 : Shape := ⟨1, ![64]⟩
abbrev S64x1 : Shape := ⟨2, ![64, 1]⟩

abbrev nBuf : Space → Nat
  | .hbm => 83
  | .vmem => 0
  | .smem => 0
  | _ => 0

abbrev bufTy : (tb : Table) → Fin (tcTables nBuf tb) → BufTy
  | .hbm, ⟨0, _⟩ => ⟨S16x8192x128, .bf16⟩
  | .hbm, ⟨1, _⟩ => ⟨S16x64x128, .bf16⟩
  | .hbm, ⟨2, _⟩ => ⟨S4x2048x2048, .f32⟩
  | .hbm, ⟨3, _⟩ => ⟨S8192x2048, .f32⟩
  | .hbm, ⟨4, _⟩ => ⟨S64x2048, .f32⟩
  | .hbm, ⟨5, _⟩ => ⟨S2048, .f32⟩
  | .hbm, ⟨6, _⟩ => ⟨S2048, .f32⟩
  | .hbm, ⟨7, _⟩ => ⟨S8192x16x128, .bf16⟩
  | .hbm, ⟨8, _⟩ => ⟨S8192x2048, .bf16⟩
  | .hbm, ⟨9, _⟩ => ⟨S1x2048x2048, .f32⟩
  | .hbm, ⟨10, _⟩ => ⟨S2048x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S64x16x128, .bf16⟩
  | .hbm, ⟨46, _⟩ => ⟨S64x2048, .bf16⟩
  | .hbm, ⟨47, _⟩ => ⟨S1x2048x2048, .f32⟩
  | .hbm, ⟨48, _⟩ => ⟨S2048x2048, .f32⟩
  | .hbm, ⟨49, _⟩ => ⟨S64x2048, .f32⟩
  | .hbm, ⟨50, _⟩ => ⟨S_, .f32⟩
  | .hbm, ⟨51, _⟩ => ⟨S64x2048, .f32⟩
  | .hbm, ⟨52, _⟩ => ⟨S64x2048, .f32⟩
  | .hbm, ⟨53, _⟩ => ⟨S64x2048, .f32⟩
  | .hbm, ⟨54, _⟩ => ⟨S_, .f32⟩
  | .hbm, ⟨55, _⟩ => ⟨S64, .f32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S64x2048, .f32⟩
  | .hbm, ⟨61, _⟩ => ⟨S64x2048, .f32⟩
  | .hbm, ⟨62, _⟩ => ⟨S64x2048, .f32⟩
  | .hbm, ⟨63, _⟩ => ⟨S_, .f32⟩
  | .hbm, ⟨64, _⟩ => ⟨S64, .f32⟩
  | .hbm, ⟨65, _⟩ => ⟨S64x1, .f32⟩
  | .hbm, ⟨66, _⟩ => ⟨S_, .f32⟩
  | .hbm, ⟨67, _⟩ => ⟨S64x1, .f32⟩
  | .hbm, ⟨68, _⟩ => ⟨S64x1, .f32⟩
  | .hbm, ⟨69, _⟩ => ⟨S64x2048, .f32⟩
  | .hbm, ⟨70, _⟩ => ⟨S64x2048, .f32⟩
  | .hbm, ⟨71, _⟩ => ⟨S_, .f32⟩
  | .hbm, ⟨72, _⟩ => ⟨S64x1, .f32⟩
  | .hbm, ⟨73, _⟩ => ⟨S64x1, .f32⟩
  | .hbm, ⟨74, _⟩ => ⟨S64x1, .f32⟩
  | .hbm, ⟨75, _⟩ => ⟨S64x2048, .f32⟩
  | .hbm, ⟨76, _⟩ => ⟨S64x2048, .f32⟩
  | .hbm, ⟨77, _⟩ => ⟨S1x2048, .f32⟩
  | .hbm, ⟨78, _⟩ => ⟨S64x2048, .f32⟩
  | .hbm, ⟨79, _⟩ => ⟨S64x2048, .f32⟩
  | .hbm, ⟨80, _⟩ => ⟨S1x2048, .f32⟩
  | .hbm, ⟨81, _⟩ => ⟨S64x2048, .f32⟩
  | .hbm, ⟨82, _⟩ => ⟨S64x2048, .f32⟩
  | _, _ => ⟨S16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Kernel6.lean ====
abbrev S16x8192x128 : Shape := ⟨3, ![16, 8192, 128]⟩
abbrev S16x64x128 : Shape := ⟨3, ![16, 64, 128]⟩
abbrev S4x2048x2048 : Shape := ⟨3, ![4, 2048, 2048]⟩
abbrev S8192x2048 : Shape := ⟨2, ![8192, 2048]⟩
abbrev S64x2048 : Shape := ⟨2, ![64, 2048]⟩
abbrev S2048 : Shape := ⟨1, ![2048]⟩
abbrev S1x2048 : Shape := ⟨2, ![1, 2048]⟩
abbrev S16x512x128 : Shape := ⟨3, ![16, 512, 128]⟩
abbrev S1x2048x2048 : Shape := ⟨3, ![1, 2048, 2048]⟩
abbrev S512x2048 : Shape := ⟨2, ![512, 2048]⟩
abbrev S2048x2048 : Shape := ⟨2, ![2048, 2048]⟩
abbrev S1x512x2048 : Shape := ⟨3, ![1, 512, 2048]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S128x2048 : Shape := ⟨2, ![128, 2048]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩

abbrev nBuf : Space → Nat
  | .hbm => 13
  | .vmem => 16
  | .smem => 0
  | _ => 0

abbrev bufTy : (tb : Table) → Fin (tcTables nBuf tb) → BufTy
  | .hbm, ⟨0, _⟩ => ⟨S16x8192x128, .bf16⟩
  | .hbm, ⟨1, _⟩ => ⟨S16x64x128, .bf16⟩
  | .hbm, ⟨2, _⟩ => ⟨S4x2048x2048, .f32⟩
  | .hbm, ⟨3, _⟩ => ⟨S8192x2048, .f32⟩
  | .hbm, ⟨4, _⟩ => ⟨S64x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S64x2048, .f32⟩
  | .hbm, ⟨11, _⟩ => ⟨S8192x2048, .bf16⟩
  | .hbm, ⟨12, _⟩ => ⟨S64x2048, .bf16⟩
  | .local _ .vmem, ⟨0, _⟩ => ⟨S16x512x128, .bf16⟩
  | .local _ .vmem, ⟨1, _⟩ => ⟨S16x512x128, .bf16⟩
  | .local _ .vmem, ⟨2, _⟩ => ⟨S16x64x128, .bf16⟩
  | .local _ .vmem, ⟨3, _⟩ => ⟨S1x2048x2048, .f32⟩
  | .local _ .vmem, ⟨4, _⟩ => ⟨S512x2048, .f32⟩
  | .local _ .vmem, ⟨5, _⟩ => ⟨S512x2048, .f32⟩
  | .local _ .vmem, ⟨6, _⟩ => ⟨S64x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S64x2048, .f32⟩
  | .local _ .vmem, ⟨12, _⟩ => ⟨S512x2048, .bf16⟩
  | .local _ .vmem, ⟨13, _⟩ => ⟨S512x2048, .bf16⟩
  | .local _ .vmem, ⟨14, _⟩ => ⟨S64x2048, .bf16⟩
  | .local _ .vmem, ⟨15, _⟩ => ⟨S2048x2048, .bf16⟩
  | _, _ => ⟨S16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S64x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S16x8192x128 : Shape := ⟨3, ![16, 8192, 128]⟩
abbrev S16x64x128 : Shape := ⟨3, ![16, 64, 128]⟩
abbrev S4x2048x2048 : Shape := ⟨3, ![4, 2048, 2048]⟩
abbrev S8192x2048 : Shape := ⟨2, ![8192, 2048]⟩
abbrev S64x2048 : Shape := ⟨2, ![64, 2048]⟩
abbrev S2048 : Shape := ⟨1, ![2048]⟩
abbrev S8192x16x128 : Shape := ⟨3, ![8192, 16, 128]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S64x16x128 : Shape := ⟨3, ![64, 16, 128]⟩
abbrev S64 : Shape := ⟨1, ![64]⟩
abbrev S64x1 : Shape := ⟨2, ![64, 1]⟩

abbrev nBuf : Space → Nat
  | .hbm => 85
  | .vmem => 0
  | .smem => 0
  | _ => 0

abbrev bufTy : (tb : Table) → Fin (tcTables nBuf tb) → BufTy
  | .hbm, ⟨0, _⟩ => ⟨S16x8192x128, .bf16⟩
  | .hbm, ⟨1, _⟩ => ⟨S16x64x128, .bf16⟩
  | .hbm, ⟨2, _⟩ => ⟨S4x2048x2048, .f32⟩
  | .hbm, ⟨3, _⟩ => ⟨S8192x2048, .f32⟩
  | .hbm, ⟨4, _⟩ => ⟨S64x2048, .f32⟩
  | .hbm, ⟨5, _⟩ => ⟨S2048, .f32⟩
  | .hbm, ⟨6, _⟩ => ⟨S2048, .f32⟩
  | .hbm, ⟨7, _⟩ => ⟨S8192x16x128, .bf16⟩
  | .hbm, ⟨8, _⟩ => ⟨S8192x2048, .bf16⟩
  | .hbm, ⟨9, _⟩ => ⟨S1x2048x2048, .f32⟩
  | .hbm, ⟨10, _⟩ => ⟨S2048x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S64x16x128, .bf16⟩
  | .hbm, ⟨46, _⟩ => ⟨S64x2048, .bf16⟩
  | .hbm, ⟨47, _⟩ => ⟨S1x2048x2048, .f32⟩
  | .hbm, ⟨48, _⟩ => ⟨S2048x2048, .f32⟩
  | .hbm, ⟨49, _⟩ => ⟨S64x2048, .f32⟩
  | .hbm, ⟨50, _⟩ => ⟨S_, .f32⟩
  | .hbm, ⟨51, _⟩ => ⟨S64x2048, .f32⟩
  | .hbm, ⟨52, _⟩ => ⟨S64x2048, .f32⟩
  | .hbm, ⟨53, _⟩ => ⟨S64x2048, .f32⟩
  | .hbm, ⟨54, _⟩ => ⟨S_, .f32⟩
  | .hbm, ⟨55, _⟩ => ⟨S64, .f32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S64x2048, .f32⟩
  | .hbm, ⟨61, _⟩ => ⟨S64x2048, .f32⟩
  | .hbm, ⟨62, _⟩ => ⟨S64x2048, .f32⟩
  | .hbm, ⟨63, _⟩ => ⟨S_, .f32⟩
  | .hbm, ⟨64, _⟩ => ⟨S64, .f32⟩
  | .hbm, ⟨65, _⟩ => ⟨S64x1, .f32⟩
  | .hbm, ⟨66, _⟩ => ⟨S_, .f32⟩
  | .hbm, ⟨67, _⟩ => ⟨S64x1, .f32⟩
  | .hbm, ⟨68, _⟩ => ⟨S64x1, .f32⟩
  | .hbm, ⟨69, _⟩ => ⟨S64x2048, .f32⟩
  | .hbm, ⟨70, _⟩ => ⟨S64x2048, .f32⟩
  | .hbm, ⟨71, _⟩ => ⟨S_, .f32⟩
  | .hbm, ⟨72, _⟩ => ⟨S64x1, .f32⟩
  | .hbm, ⟨73, _⟩ => ⟨S64x1, .f32⟩
  | .hbm, ⟨74, _⟩ => ⟨S64x1, .f32⟩
  | .hbm, ⟨75, _⟩ => ⟨S64x2048, .f32⟩
  | .hbm, ⟨76, _⟩ => ⟨S64x2048, .f32⟩
  | .hbm, ⟨77, _⟩ => ⟨S1x2048, .f32⟩
  | .hbm, ⟨78, _⟩ => ⟨S64x2048, .f32⟩
  | .hbm, ⟨79, _⟩ => ⟨S64x2048, .f32⟩
  | .hbm, ⟨80, _⟩ => ⟨S1x2048, .f32⟩
  | .hbm, ⟨81, _⟩ => ⟨S64x2048, .f32⟩
  | .hbm, ⟨82, _⟩ => ⟨S64x2048, .f32⟩
  | .hbm, ⟨83, _⟩ => ⟨S8192x2048, .bf16⟩
  | .hbm, ⟨84, _⟩ => ⟨S64x2048, .bf16⟩
  | _, _ => ⟨S16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.InprojIdeal.lean ====
/- The frame of the input-projection kernel: its grid has four token blocks per block of columns. The first of them
   rounds the weights into the scratch and writes the meta rows; the other three find the scratch as it was left and
   do not touch the meta rows' buffer, which the last of them writes back. -/
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Claim

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at a point. -/
abbrev First (i : grid0.Coords) : Prop := k0_cond1 i = 1#1

/-- It is taken at the first token block of every column block. -/
theorem first_iff : ∀ t : Fin cfg0.N, First (grid0.coords t) ↔ t.val % 4 = 0 :=
  (by decide +kernel : ∀ t : Fin grid0.N, First (grid0.coords t) ↔ t.val % 4 = 0)

/-- The first point of the column block that point `t` works on. -/
def base (t : Fin cfg0.N) : Fin cfg0.N := ⟨t.val - t.val % 4, Nat.lt_of_le_of_lt (Nat.sub_le _ _) t.isLt⟩

theorem base_first (t : Fin cfg0.N) : First (grid0.coords (base t)) :=
  (first_iff _).mpr (by simp only [base]; omega)

theorem base_of_first (t : Fin cfg0.N) (h : t.val % 4 = 0) : base t = t := by
  apply Fin.ext; simp only [base]; omega

theorem base_pred (t : Fin cfg0.N) (h : ¬t.val % 4 = 0) :
    base ⟨t.val - 1, Nat.lt_of_le_of_lt (Nat.sub_le _ _) t.isLt⟩ = base t := by
  apply Fin.ext; simp only [base]; omega

/-- The staging buffers at a point. -/
abbrev b0 (t : Fin cfg0.N) : Memref sig .tc .vmem S2048x2048 .bf16 := win0_0.stage (cfg0.slots t 0)
theorem w0 (t : Fin cfg0.N) : (b0 t).IsWhole := hstage0_0 ((cfg0.slots t 0).cast nbuf0_0)
abbrev b1 (t : Fin cfg0.N) : Memref sig .tc .vmem S64x2048 .bf16 := win0_1.stage (cfg0.slots t 1)
theorem w1 (t : Fin cfg0.N) : (b1 t).IsWhole := hstage0_1 ((cfg0.slots t 1).cast nbuf0_1)
abbrev b2 (t : Fin cfg0.N) : Memref sig .tc .vmem S1x2048x1024 .f32 := win0_2.stage (cfg0.slots t 2)
theorem w2 (t : Fin cfg0.N) : (b2 t).IsWhole := hstage0_2 ((cfg0.slots t 2).cast nbuf0_2)
abbrev b3 (t : Fin cfg0.N) : Memref sig .tc .vmem S8x2048x128 .bf16 := win0_3.stage (cfg0.slots t 3)
theorem w3 (t : Fin cfg0.N) : (b3 t).IsWhole := hstage0_3 ((cfg0.slots t 3).cast nbuf0_3)
abbrev b4 (t : Fin cfg0.N) : Memref sig .tc .vmem S8x64x128 .bf16 := win0_4.stage (cfg0.slots t 4)
theorem w4 (t : Fin cfg0.N) : (b4 t).IsWhole := hstage0_4 ((cfg0.slots t 4).cast nbuf0_4)
/-- The scratch that holds the rounded weights. -/
abbrev bs : Memref sig .tc .vmem S2048x1024 .bf16 := Memref.whole cc0_scratch0
theorem ws : (bs).IsWhole := Memref.isWhole_whole _

/-- Buffers through which contents are stated. -/
abbrev R3 : View sig .tc .vmem S8x2048x128 .bf16 := (Memref.whole cc0_stg3_0 : Memref sig .tc .vmem S8x2048x128 .bf16).view
abbrev R4 : View sig .tc .vmem S8x64x128 .bf16 := (Memref.whole cc0_stg4_0 : Memref sig .tc .vmem S8x64x128 .bf16).view
abbrev Rs : View sig .tc .vmem S2048x1024 .bf16 := (bs).view

/-- What the region lends beside the windows: the scratch at some contents and the generator register. -/
theorem lent_eq (c : Dev nD) :
    (Pipeline.ΦA spec0 c : sProp 𝕄)
      = iprop(iprop((∃ d, owns (c : Thread nD τ) bs fullShare d)) ∗ (∃ r, prngReg c r)) := by
  unfold Pipeline.ΦA; rw [scopedRest0_eq]; simp only [bs, owns_whole]; try rfl

set_option maxHeartbeats 1000000 in
/-- The body at a first point: the pieces its stores leave in the two outputs and in the scratch. -/
noncomputable def runA (c : Dev nD) (i : grid0.Coords)
    (a2 : Memref sig .tc .vmem S2048x2048 .bf16) (h2 : a2.IsWhole) (a3 : Memref sig .tc .vmem S64x2048 .bf16) (h3 : a3.IsWhole)
    (a4 : Memref sig .tc .vmem S1x2048x1024 .f32) (h4 : a4.IsWhole) (a5 : Memref sig .tc .vmem S8x2048x128 .bf16) (h5 : a5.IsWhole)
    (a6 : Memref sig .tc .vmem S8x64x128 .bf16) (h6 : a6.IsWhole) (a7 : Memref sig .tc .vmem S2048x1024 .bf16) (h7 : a7.IsWhole)
    (hc : First i) (x0 : Vec F S2048x2048 .bf16) (x1 : Vec F S64x2048 .bf16) (x2 : Vec F S1x2048x1024 .f32) :
    Σ' (L3 : List (View.Piece (Elt F) S8x2048x128 .bf16)), Σ' (L4 : List (View.Piece (Elt F) S8x64x128 .bf16)),
      { Ls : List (View.Piece (Elt F) S2048x1024 .bf16) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d) ∗ (∃ d, owns (c : Thread nD τ) a7 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f Ls)) -∗ K ⟨⟩))
          ⊢ wp frame (wpE (defs₀ (F := F)) Variants.none c none) E (cc0_inproj i a2 h2 a3 h3 a4 h4 a5 h5 a6 h6 a7 h7) K } := by
  refine ⟨?_, ?_, ?_, fun E K => ?run⟩
  case run =>
    simp only [cc0_inproj_eq_skeleton]; unfold cc0_inproj_skel
    simp only [k0_part1_eq_skeleton, k0_part2_eq_skeleton]
    unfold owns
    iintro ⟨⟨%f0, %e0, H0⟩, ⟨%f1, %e1, H1⟩, ⟨%f2, %e2, H2⟩, ⟨%d3, %f3, -, H3⟩, ⟨%d4, %f4, -, H4⟩, ⟨%ds, %fs, -, Hs⟩, Hk⟩
    obtain rfl := h2.eq_unread e0; obtain rfl := h3.eq_unread e1; obtain rfl := h4.eq_unread e2
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]; · iexists _; iexact H4
    iexists _; iexact Hs

set_option maxHeartbeats 1000000 in
/-- The body at any other point: the scratch is read at what it holds, the meta rows' buffer is not touched. -/
noncomputable def runB (c : Dev nD) (i : grid0.Coords)
    (a2 : Memref sig .tc .vmem S2048x2048 .bf16) (h2 : a2.IsWhole) (a3 : Memref sig .tc .vmem S64x2048 .bf16) (h3 : a3.IsWhole)
    (a4 : Memref sig .tc .vmem S1x2048x1024 .f32) (h4 : a4.IsWhole) (a5 : Memref sig .tc .vmem S8x2048x128 .bf16) (h5 : a5.IsWhole)
    (a6 : Memref sig .tc .vmem S8x64x128 .bf16) (h6 : a6.IsWhole) (a7 : Memref sig .tc .vmem S2048x1024 .bf16) (h7 : a7.IsWhole)
    (hc : ¬First i) (x0 : Vec F S2048x2048 .bf16) (xs : Vec F S2048x1024 .bf16) :
    { L3 : List (View.Piece (Elt F) S8x2048x128 .bf16) //
      ∀ (E : Set ℕ) (K : PUnit → sProp 𝕄),
        iprop(owns (c : Thread nD τ) a2 fullShare x0 ∗ (∃ d, owns (c : Thread nD τ) a5 fullShare d) ∗ owns (c : Thread nD τ) a7 fullShare xs
            ∗ (iprop(owns (c : Thread nD τ) a2 fullShare x0
                ∗ (∃ f, a5.view.loc (c : Thread nD τ) ↦[a5.view.set]{fullShare} a5.view.writes (Elt F) f L3)
                ∗ owns (c : Thread nD τ) a7 fullShare xs) -∗ K ⟨⟩))
          ⊢ wp frame (wpE (defs₀ (F := F)) Variants.none c none) E (cc0_inproj i a2 h2 a3 h3 a4 h4 a5 h5 a6 h6 a7 h7) K } := by
  refine ⟨?_, fun E K => ?run⟩
  case run =>
    simp only [cc0_inproj_eq_skeleton]; unfold cc0_inproj_skel
    simp only [k0_part2_eq_skeleton]
    unfold owns
    iintro ⟨⟨%f0, %e0, H0⟩, ⟨%d3, %f3, -, H3⟩, ⟨%fs, %es, Hs⟩, Hk⟩
    obtain rfl := h2.eq_unread e0; obtain rfl := h7.eq_unread es
    sl_exec (disch := sl_exact hc)
    sl_step
    iapply Hk
    isplitl [H0]
    · iexists _; isplitr; · ipureintro; exact h2.read_unread _
      iexact H0
    isplitl [H3]; · iexists _; iexact H3
    iexists _; isplitr; · ipureintro; exact h7.read_unread _
    iexact Hs

/-- The run at point `t`'s buffers and blocks, for a first point. -/
abbrev atA (c : Dev nD) (t : Fin cfg0.N) (hc : First (grid0.coords t)) :=
  runA (F := F) c (grid0.coords t) (b0 t) (w0 t) (b1 t) (w1 t) (b2 t) (w2 t) (b3 t) (w3 t) (b4 t) (w4 t) bs ws hc
    (iblk m c 0 t) (iblk m c 1 t) (iblk m c 2 t)

/-- The run at point `t`'s buffers and token block, for another point, the scratch at `xs`. -/
abbrev atB (c : Dev nD) (t : Fin cfg0.N) (hc : ¬First (grid0.coords t)) (xs : Vec F S2048x1024 .bf16) :=
  runB (F := F) c (grid0.coords t) (b0 t) (w0 t) (b1 t) (w1 t) (b2 t) (w2 t) (b3 t) (w3 t) (b4 t) (w4 t) bs ws hc
    (iblk m c 0 t) xs

theorem coverA3 (c : Dev nD) (t : Fin cfg0.N) (hc : First (grid0.coords t)) (y : S8x2048x128.Idx) :
    ∃ pc ∈ (atA m c t hc).1, y ∈ pc.1.set :=
  View.cover_of_tiledL (atA m c t hc).1 S1x2048x128.size (by sl_kernel_rfl) y
theorem coverA4 (c : Dev nD) (t : Fin cfg0.N) (hc : First (grid0.coords t)) (y : S8x64x128.Idx) :
    ∃ pc ∈ (atA m c t hc).2.1, y ∈ pc.1.set :=
  View.cover_of_tiledL (atA m c t hc).2.1 S1x64x128.size (by sl_kernel_rfl) y
theorem coverAs (c : Dev nD) (t : Fin cfg0.N) (hc : First (grid0.coords t)) (y : S2048x1024.Idx) :
    ∃ pc ∈ (atA m c t hc).2.2.1, y ∈ pc.1.set :=
  View.cover_of_tiledL (atA m c t hc).2.2.1 S2048x1024.size (by sl_kernel_rfl) y
theorem coverB3 (c : Dev nD) (t : Fin cfg0.N) (hc : ¬First (grid0.coords t)) (xs : Vec F S2048x1024 .bf16) (y : S8x2048x128.Idx) :
    ∃ pc ∈ (atB m c t hc xs).1, y ∈ pc.1.set :=
  View.cover_of_tiledL (atB m c t hc xs).1 S1x2048x128.size (by sl_kernel_rfl) y

/-- The rounded weights after point `t`: what the first point of its column block stored. -/
def wts (c : Dev nD) (t : Fin cfg0.N) : Vec F S2048x1024 .bf16 :=
  Rs.read (Elt F) (Rs.writes (Elt F) Rs.junk (atA m c (base t) (base_first t)).2.2.1)

/-- The meta rows' buffer after point `t`. -/
def meta4 (c : Dev nD) (t : Fin cfg0.N) : Vec F S8x64x128 .bf16 :=
  R4.read (Elt F) (R4.writes (Elt F) R4.junk (atA m c (base t) (base_first t)).2.1)

/-- The token rows' buffer after point `t`. -/
def rows3 (c : Dev nD) (t : Fin cfg0.N) : Vec F S8x2048x128 .bf16 :=
  if hc : First (grid0.coords t) then R3.read (Elt F) (R3.writes (Elt F) R3.junk (atA m c t hc).1)
  else R3.read (Elt F) (R3.writes (Elt F) R3.junk (atB m c t hc (wts m c t)).1)

theorem wts_pred (c : Dev nD) (t : Fin cfg0.N) (h : ¬t.val % 4 = 0) :
    wts m c ⟨t.val - 1, Nat.lt_of_le_of_lt (Nat.sub_le _ _) t.isLt⟩ = wts m c t := by
  unfold wts
  have e := base_pred t h
  have : ∀ (p q : Fin cfg0.N) (hp : First (grid0.coords p)) (hq : First (grid0.coords q)), p = q →
      Rs.read (Elt F) (Rs.writes (Elt F) Rs.junk (atA m c p hp).2.2.1) = Rs.read (Elt F) (Rs.writes (Elt F) Rs.junk (atA m c q hq).2.2.1) := by
    intro p q hp hq hpq; subst hpq; rfl
  exact this _ _ _ _ e

theorem meta4_pred (c : Dev nD) (t : Fin cfg0.N) (h : ¬t.val % 4 = 0) :
    meta4 m c ⟨t.val - 1, Nat.lt_of_le_of_lt (Nat.sub_le _ _) t.isLt⟩ = meta4 m c t := by
  unfold meta4
  have e := base_pred t h
  have : ∀ (p q : Fin cfg0.N) (hp : First (grid0.coords p)) (hq : First (grid0.coords q)), p = q →
      R4.read (Elt F) (R4.writes (Elt F) R4.junk (atA m c p hp).2.1) = R4.read (Elt F) (R4.writes (Elt F) R4.junk (atA m c q hq).2.1) := by
    intro p q hp hq hpq; subst hpq; rfl
  exact this _ _ _ _ e

theorem wts_first (c : Dev nD) (t : Fin cfg0.N) (h : t.val % 4 = 0) (hc : First (grid0.coords t)) :
    wts m c t = Rs.read (Elt F) (Rs.writes (Elt F) Rs.junk (atA m c t hc).2.2.1) := by
  unfold wts
  have : ∀ (p : Fin cfg0.N) (hp : First (grid0.coords p)), p = t →
      Rs.read (Elt F) (Rs.writes (Elt F) Rs.junk (atA m c p hp).2.2.1) = Rs.read (Elt F) (Rs.writes (Elt F) Rs.junk (atA m c t hc).2.2.1) := by
    intro p hp hpq; subst hpq; rfl
  exact this _ _ (base_of_first t h)

theorem meta4_first (c : Dev nD) (t : Fin cfg0.N) (h : t.val % 4 = 0) (hc : First (grid0.coords t)) :
    meta4 m c t = R4.read (Elt F) (R4.writes (Elt F) R4.junk (atA m c t hc).2.1) := by
  unfold meta4
  have : ∀ (p : Fin cfg0.N) (hp : First (grid0.coords p)), p = t →
      R4.read (Elt F) (R4.writes (Elt F) R4.junk (atA m c p hp).2.1) = R4.read (Elt F) (R4.writes (Elt F) R4.junk (atA m c t hc).2.1) := by
    intro p hp hpq; subst hpq; rfl
  exact this _ _ (base_of_first t h)

/-- What holds before point `n`: the scratch at some contents before the first, then at the rounded weights. -/
def inv (c : Dev nD) : (n : ℕ) → n ≤ cfg0.N → sProp 𝕄
  | 0, _ => Pipeline.ΦA spec0 c
  | n + 1, hn => iprop(iprop(owns (c : Thread nD τ) bs fullShare (wts m c ⟨n, hn⟩)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) bs fullShare (wts m c ⟨n, hn⟩)) ∗ (∃ r, prngReg c r)) := rfl
theorem inv_pos (c : Dev nD) (n : ℕ) (h : n ≤ cfg0.N) (hz : n ≠ 0) :
    inv m c n h = iprop(iprop(owns (c : Thread nD τ) bs fullShare (wts m c ⟨n - 1, by omega⟩)) ∗ (∃ r, prngReg c r)) := by
  cases n with
  | zero => exact absurd rfl hz
  | succ n => rfl

/-- Whatever the point, the invariant lends the scratch at some contents. -/
theorem inv_lent (c : Dev nD) (n : ℕ) (h : n ≤ cfg0.N) : inv m c n h ⊢ Pipeline.ΦA spec0 c := by
  by_cases hz : n = 0
  · rw [inv_zero m c n h hz]
  · rw [inv_pos m c n h hz, lent_eq]
    iintro ⟨Hs, Hg⟩
    isplitl [Hs]
    · iexists _; iexact Hs
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows3 m c t
    | ⟨4, _⟩ => meta4 m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem Φ_at (c : Dev nD) (t : Fin cfg0.N) : (dats m 0 c).Φ t.castSucc = inv m c t.val (Nat.le_of_lt t.isLt) := by
  dsimp only [dats]; exact Pipeline.Dat.Φ_castSucc (inv m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rows3 m c t := by dsimp only [dats]
theorem after4 (c : Dev nD) (t : Fin cfg0.N) : (dats m 0 c).after 4 t = meta4 m c t := by dsimp only [dats]
theorem bef0 (c : Dev nD) (t : Fin cfg0.N) (d) : (dats m 0 c).before 0 t d = iblk m c 0 t :=
  before0_0_of m (dats m 0 c) (A_eq m c 0) (after0 m c) t d
theorem bef1 (c : Dev nD) (t : Fin cfg0.N) (d) : (dats m 0 c).before 1 t d = iblk m c 1 t :=
  before0_1_of m (dats m 0 c) (A_eq m c 1) (after1 m c) t d
theorem bef2 (c : Dev nD) (t : Fin cfg0.N) (d) : (dats m 0 c).before 2 t d = iblk m c 2 t :=
  before0_2_of m (dats m 0 c) (A_eq m c 2) (after2 m c) t d

/-- The meta rows' buffer is left alone exactly at the points that are not first. -/
theorem idle4 : ∀ t : Fin cfg0.N, cfg0.idle 4 (grid0.coords t) = !decide (t.val % 4 = 0) := by decide +kernel
/-- It holds nothing of its column block only at a first point. -/
def fresh4 : ℕ → Bool := fun n => decide (n % 4 = 0)
theorem fresh4_step : ∀ t : Fin cfg0.N,
    fresh4 (t.val + 1) = ((cfg0.win 4).flush t || (cfg0.idle 4 (cfg0.grid.coords t) && fresh4 t.val)) := by decide +kernel
theorem fresh4_eq (t : Fin cfg0.N) : cfg0.fresh 4 t.val = fresh4 t.val :=
  Pipeline.Cfg.fresh_tab cfg0 4 fresh4 rfl fresh4_step t.val (Nat.le_of_lt t.isLt)

/-- At a point that is not first the meta rows' buffer holds its column block's rows. -/
theorem bef4 (c : Dev nD) (t : Fin cfg0.N) (h : ¬t.val % 4 = 0) (d) : (dats m 0 c).before 4 t d = meta4 m c t := by
  rw [Dat.before_out_traj (dats m 0 c) 4 rfl (fun _ _ => rfl) (fun t hz _ hf => by
      rw [fresh4_eq t] at hf
      have h' : ¬t.val % 4 = 0 := by simpa [fresh4] using hf
      rw [after4, after4, meta4_pred m c t h']) t.val t rfl d,
    if_neg (by rw [fresh4_eq t]; simp [fresh4, h]), after4, meta4_pred m c t h]

/-- So handing it back as it was found is what the pipeline asks there, written back or not. -/
theorem leaves4 (c : Dev nD) (t : Fin cfg0.N) (h : ¬t.val % 4 = 0) (d) :
    owns (c : Thread nD τ) (b4 t) fullShare ((dats m 0 c).before 4 t d) ⊢ ((dats m 0 c).leavesExact 4 t : sProp 𝕄) := by
  have hi : cfg0.idle 4 (cfg0.grid.coords t) = true := by
    refine (idle4 t).trans ?_; simp [h]
  cases hf : (cfg0.win 4).flush t
  · rw [Dat.leavesExact_idle _ 4 t hi hf]
    iintro H; iexists d; iexact H
  · rw [show (dats m 0 c).leavesExact 4 t = owns (c : Thread nD τ) (b4 t) fullShare ((dats m 0 c).after 4 t) from by
      unfold Dat.leavesExact; rw [hi, hf], bef4 m c t h d, after4]

/-- What the body finds at a point, window by window, -/
def pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d)))

/-- and what it leaves. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 3200000 in
/-- The body's triple at every point. -/
theorem body (c : Dev nD) (t : Fin cfg0.N) :
    pre m c t ⊢ wp frame (wpE (defs₀ (F := F)) Variants.none c none) Set.univ (bodyAt0 t) (fun _ => post m c t) := by
  unfold pre post bodyAt0
  simp only [bef0, bef1, bef2]
  rw [show (dats m 0 c).owesAt () t.succ = (dats m 0 c).owesAt () t.castSucc from rfl,
    show (dats m 0 c).Φ t.succ = inv m c (t.val + 1) t.isLt from rfl, inv_succ, Φ_at m c t,
    show (dats m 0 c).leavesExact 0 t = owns (c : Thread nD τ) (b0 t) fullShare ((dats m 0 c).after 0 t) from rfl,
    show (dats m 0 c).leavesExact 1 t = owns (c : Thread nD τ) (b1 t) fullShare ((dats m 0 c).after 1 t) from rfl,
    show (dats m 0 c).leavesExact 2 t = owns (c : Thread nD τ) (b2 t) fullShare ((dats m 0 c).after 2 t) from rfl,
    show (dats m 0 c).leavesExact 3 t = owns (c : Thread nD τ) (b3 t) fullShare ((dats m 0 c).after 3 t) from rfl,
    after0, after1, after2, after3]
  by_cases h : t.val % 4 = 0
  · have hc := (first_iff t).mpr h
    rw [show (dats m 0 c).leavesExact 4 t = owns (c : Thread nD τ) (b4 t) fullShare ((dats m 0 c).after 4 t) from by
        unfold Dat.leavesExact; rw [show cfg0.idle 4 (cfg0.grid.coords t) = false from (idle4 t).trans (by simp [h])],
      after4, show rows3 m c t = _ from dif_pos hc, wts_first m c t h hc, meta4_first m c t h hc]
    iintro ⟨Hi, Ho, ⟨%d0, H0⟩, ⟨%d1, H1⟩, ⟨%d2, H2⟩, ⟨%d3, H3⟩, ⟨%d4, H4⟩⟩
    ihave Hl := (inv_lent m c t.val (Nat.le_of_lt t.isLt)) $$ Hi
    ihave Hl' := (Entails.of_eq (lent_eq c)) $$ Hl
    icases Hl' with ⟨Hs, Hg⟩
    iapply ((atA m c t hc).2.2.2 Set.univ _)
    isplitl [H0]; · iexact H0
    isplitl [H1]; · iexact H1
    isplitl [H2]; · iexact H2
    isplitl [H3]; · iexists _; iexact H3
    isplitl [H4]; · iexists _; iexact H4
    isplitl [Hs]; · iexact Hs
    iintro ⟨H0, H1, H2, ⟨%e3, H3⟩, ⟨%e4, H4⟩, ⟨%es, Hs⟩⟩
    isplitl [Hs Hg]
    · isplitl [Hs]
      · unfold owns; iexists _; isplitr
        swap; · iexact Hs
        ipureintro; exact View.read_writes_of_cover _ _ _ _ _ (coverAs m c t hc)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA3 m c t hc)
    unfold owns; iexists _; isplitr
    swap; · iexact H4
    ipureintro; exact View.read_writes_of_cover _ _ _ _ _ (coverA4 m c t hc)
  · have hc : ¬First (grid0.coords t) := fun e => h ((first_iff t).mp e)
    have hz : t.val ≠ 0 := fun e => h (by rw [e])
    rw [inv_pos m c t.val _ hz, wts_pred m c t h, show rows3 m c t = _ from dif_neg hc]
    iintro ⟨⟨Hs, Hg⟩, Ho, ⟨%d0, H0⟩, ⟨%d1, H1⟩, ⟨%d2, H2⟩, ⟨%d3, H3⟩, ⟨%d4, H4⟩⟩
    iapply ((atB m c t hc (wts m c t)).2 Set.univ _)
    isplitl [H0]; · iexact H0
    isplitl [H3]; · iexists _; iexact H3
    isplitl [Hs]; · iexact Hs
    iintro ⟨H0, ⟨%e3, H3⟩, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 m c t hc _)
    iapply (leaves4 m c t h d4); iexact H4

/-- The body table's row at a point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- Every run ends with the arrays the proof data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by
      rw [show (dats m 0 c).Φ 0 = inv m c 0 (Nat.zero_le _) from rfl, inv_zero m c 0 _ rfl])
    (hout := fun c => by
      rw [show (dats m 0 c).Φ (Fin.last cfg0.N) = inv m c cfg0.N (Nat.le_refl _) from rfl]
      exact inv_lent m c _ _)

theorem run : θ_run defs (onTc (τ := τ) (main (F := F))) (s₀ m ρ) (Pipeline.FramePost cfgs (dats m) 0 (V m)) :=
  (θ_run defs _ _).mono (fun _ h => h.1) (run_quiet m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiet m ρ))

end Cert.Kernel2Ideal.Hand

end
-- ==== Proof.InVal.lean ====
/- What the input-projection kernel writes: each block of 128 columns of the product with the weights, the first
   sixteen scaled. -/
module

public import proofs.«01_k».proof.Proof.InprojIdeal
public import Idealize.ShloMosaic.Lib.Pipeline.ReadBack
public import Idealize.ShloMosaic.Lib.Pipeline.ValueKit
public import Idealize.ShloMosaic.Lib.Tactic

@[expose] public section

set_option maxRecDepth 16384

noncomputable section

namespace Cert.InVal

open Idealize.ShloMosaic Idealize.ShloMosaic.TcCoe Idealize.ShloMosaic.Tactic
open Cert.Kernel2Ideal Cert.Kernel2Ideal.Gen Cert.Kernel2Ideal.Hand

/-- Column `d` of block `n` of a row of the product, scaled. -/
def slab {M : ℕ} (x : Vec Ideal ⟨2, ![M, 2048]⟩ .bf16) (w : Vec Ideal S2048x1024 .bf16) (s : EReal) (n : ℕ) (r : Fin M) (d : ℕ) : EReal :=
  (∑ k : Fin 2048, (x (ix2 r k) : EReal) * if h : 128 * n + d < 1024 then w (ix2 k ⟨128 * n + d, h⟩) else 0) * s

variable (i : grid0.Coords) (x : Vec Ideal S2048x2048 .bf16) (xm : Vec Ideal S64x2048 .bf16) (w : Vec Ideal S2048x1024 .bf16) (s : Ideal .f32)

/-- An index of one block, by its coordinates. -/
theorem at3 {M : ℕ} (y : (⟨3, ![1, M, 128]⟩ : Shape).Idx) (r : Fin M) (d : Fin 128) (h1 : r.val = (y 1).val) (h2 : d.val = (y 2).val) :
    y = ix3 0 r d := by
  funext a
  match a with
  | ⟨0, _⟩ => exact Subsingleton.elim (α := Fin 1) _ _
  | ⟨1, _⟩ => exact Fin.ext h1.symm
  | ⟨2, _⟩ => exact Fin.ext h2.symm

/-- One block of the rows' product, cut out and scaled. -/
theorem cut (n : ℕ) (v : FVec Ideal S2048x1024 .f32) (hv : v = k0_pay18 x w) (r : Fin 2048) (d : Fin 128)
    (h : 128 * n + d.val < 1024) : v (ix2 r ⟨128 * n + d.val, h⟩) * s = slab x w s n r d.val := by
  subst hv
  unfold slab
  simp only [dif_pos h]
  pointwise [k0_pay18]

/-- One block of the meta rows' product, cut out and scaled. -/
theorem cutm (n : ℕ) (v : FVec Ideal S64x1024 .f32) (hv : v = k0_pay7 xm w) (r : Fin 64) (d : Fin 128)
    (h : 128 * n + d.val < 1024) : v (ix2 r ⟨128 * n + d.val, h⟩) * s = slab xm w s n r d.val := by
  subst hv
  unfold slab
  simp only [dif_pos h]
  pointwise [k0_pay7]

variable (v : FVec Ideal S2048x1024 .f32) (hv : v = k0_pay18 x w) (vm : FVec Ideal S64x1024 .f32) (hvm : vm = k0_pay7 xm w)

theorem p0 (y : S1x2048x128.Idx) (r : Fin 2048) (d : Fin 128) (h1 : r.val = (y 1).val) (h2 : d.val = (y 2).val) :
    k0_pay19 i x w y = slab x w (k0_pay12 (F := Ideal) i) 0 r d.val := by
  obtain rfl := at3 y r d h1 h2
  rw [← cut x w _ 0 _ rfl r d (by omega)]
  pointwise [k0_pay19]
theorem p1 (y : S1x2048x128.Idx) (r : Fin 2048) (d : Fin 128) (h1 : r.val = (y 1).val) (h2 : d.val = (y 2).val) :
    k0_pay20 i x w y = slab x w (k0_pay12 (F := Ideal) i) 1 r d.val := by
  obtain rfl := at3 y r d h1 h2
  rw [← cut x w _ 1 _ rfl r d (by omega)]
  pointwise [k0_pay20]
theorem p2 (y : S1x2048x128.Idx) (r : Fin 2048) (d : Fin 128) (h1 : r.val = (y 1).val) (h2 : d.val = (y 2).val) :
    k0_pay21 i x w y = slab x w (k0_pay12 (F := Ideal) i) 2 r d.val := by
  obtain rfl := at3 y r d h1 h2
  rw [← cut x w _ 2 _ rfl r d (by omega)]
  pointwise [k0_pay21]
theorem p3 (y : S1x2048x128.Idx) (r : Fin 2048) (d : Fin 128) (h1 : r.val = (y 1).val) (h2 : d.val = (y 2).val) :
    k0_pay1 (k0_pay22 i x w) y = slab x w (k0_pay12 (F := Ideal) i) 3 r d.val := by
  obtain rfl := at3 y r d h1 h2
  rw [← cut x w _ 3 _ rfl r d (by omega)]
  pointwise [k0_pay1, k0_pay22]
include hv in
theorem p4 (y : S1x2048x128.Idx) (r : Fin 2048) (d : Fin 128) (h1 : r.val = (y 1).val) (h2 : d.val = (y 2).val) :
    k0_pay2 s v y = slab x w s 4 r d.val := by
  obtain rfl := at3 y r d h1 h2
  rw [← cut x w s 4 v hv r d (by omega)]
  pointwise [k0_pay2]
include hv in
theorem p5 (y : S1x2048x128.Idx) (r : Fin 2048) (d : Fin 128) (h1 : r.val = (y 1).val) (h2 : d.val = (y 2).val) :
    k0_pay3 s v y = slab x w s 5 r d.val := by
  obtain rfl := at3 y r d h1 h2
  rw [← cut x w s 5 v hv r d (by omega)]
  pointwise [k0_pay3]
include hv in
theorem p6 (y : S1x2048x128.Idx) (r : Fin 2048) (d : Fin 128) (h1 : r.val = (y 1).val) (h2 : d.val = (y 2).val) :
    k0_pay4 s v y = slab x w s 6 r d.val := by
  obtain rfl := at3 y r d h1 h2
  rw [← cut x w s 6 v hv r d (by omega)]
  pointwise [k0_pay4]
include hv in
theorem p7 (y : S1x2048x128.Idx) (r : Fin 2048) (d : Fin 128) (h1 : r.val = (y 1).val) (h2 : d.val = (y 2).val) :
    k0_pay5 s v y = slab x w s 7 r d.val := by
  obtain rfl := at3 y r d h1 h2
  rw [← cut x w s 7 v hv r d (by omega)]
  pointwise [k0_pay5]

theorem m0 (y : S1x64x128.Idx) (r : Fin 64) (d : Fin 128) (h1 : r.val = (y 1).val) (h2 : d.val = (y 2).val) :
    k0_pay8 s xm w y = slab xm w s 0 r d.val := by
  obtain rfl := at3 y r d h1 h2
  rw [← cutm xm w s 0 _ rfl r d (by omega)]
  pointwise [k0_pay8]
theorem m1 (y : S1x64x128.Idx) (r : Fin 64) (d : Fin 128) (h1 : r.val = (y 1).val) (h2 : d.val = (y 2).val) :
    k0_pay9 s xm w y = slab xm w s 1 r d.val := by
  obtain rfl := at3 y r d h1 h2
  rw [← cutm xm w s 1 _ rfl r d (by omega)]
  pointwise [k0_pay9]
theorem m2 (y : S1x64x128.Idx) (r : Fin 64) (d : Fin 128) (h1 : r.val = (y 1).val) (h2 : d.val = (y 2).val) :
    k0_pay10 s xm w y = slab xm w s 2 r d.val := by
  obtain rfl := at3 y r d h1 h2
  rw [← cutm xm w s 2 _ rfl r d (by omega)]
  pointwise [k0_pay10]
theorem m3 (y : S1x64x128.Idx) (r : Fin 64) (d : Fin 128) (h1 : r.val = (y 1).val) (h2 : d.val = (y 2).val) :
    k0_pay13 (k0_pay11 s xm w) y = slab xm w s 3 r d.val := by
  obtain rfl := at3 y r d h1 h2
  rw [← cutm xm w s 3 _ rfl r d (by omega)]
  pointwise [k0_pay13, k0_pay11]
include hvm in
theorem m4 (y : S1x64x128.Idx) (r : Fin 64) (d : Fin 128) (h1 : r.val = (y 1).val) (h2 : d.val = (y 2).val) :
    k0_pay14 i vm y = slab xm w (k0_pay12 (F := Ideal) i) 4 r d.val := by
  obtain rfl := at3 y r d h1 h2
  rw [← cutm xm w _ 4 vm hvm r d (by omega)]
  pointwise [k0_pay14]
include hvm in
theorem m5 (y : S1x64x128.Idx) (r : Fin 64) (d : Fin 128) (h1 : r.val = (y 1).val) (h2 : d.val = (y 2).val) :
    k0_pay15 i vm y = slab xm w (k0_pay12 (F := Ideal) i) 5 r d.val := by
  obtain rfl := at3 y r d h1 h2
  rw [← cutm xm w _ 5 vm hvm r d (by omega)]
  pointwise [k0_pay15]
include hvm in
theorem m6 (y : S1x64x128.Idx) (r : Fin 64) (d : Fin 128) (h1 : r.val = (y 1).val) (h2 : d.val = (y 2).val) :
    k0_pay16 i vm y = slab xm w (k0_pay12 (F := Ideal) i) 6 r d.val := by
  obtain rfl := at3 y r d h1 h2
  rw [← cutm xm w _ 6 vm hvm r d (by omega)]
  pointwise [k0_pay16]
include hvm in
theorem m7 (y : S1x64x128.Idx) (r : Fin 64) (d : Fin 128) (h1 : r.val = (y 1).val) (h2 : d.val = (y 2).val) :
    k0_pay17 i vm y = slab xm w (k0_pay12 (F := Ideal) i) 7 r d.val := by
  obtain rfl := at3 y r d h1 h2
  rw [← cutm xm w _ 7 vm hvm r d (by omega)]
  pointwise [k0_pay17]

end Cert.InVal

end
-- ==== Proof.InRows.lean ====
/- What a point of the input-projection kernel leaves in its buffers, and the arrays at the end. -/
module

public import proofs.«01_k».proof.Proof.InVal

@[expose] public section

set_option maxRecDepth 16384

noncomputable section

namespace Cert.InRows

open Idealize.ShloMosaic Idealize.ShloMosaic.TcCoe Idealize.ShloMosaic.Tactic
open Cert.Kernel2Ideal Cert.Kernel2Ideal.Gen Cert.Kernel2Ideal.Hand Cert.InVal

variable {sg : RefSig} {κ : Kind} {sp : Space}

/-- A block of rank two, read whole. -/
theorem whole2 {a b : ℕ} {e : EltTy} (v : View sg κ sp ⟨2, ![a, b]⟩ e) (X : Vec Ideal ⟨2, ![a, b]⟩ e) (f : v.ty.Contents (Elt Ideal))
    (hf : v.read (Elt Ideal) f = X) (inb) :
    v.readAt (Elt Ideal) (Rect.unit (s := ⟨2, ![a, b]⟩) ![0, 0] ![a, b] inb).toLoadRect f = X := by
  subst hf
  funext j
  show v.read (Elt Ideal) f ((Rect.unit (s := ⟨2, ![a, b]⟩) ![0, 0] ![a, b] inb).idx j) = _
  congr 1
  funext e
  fin_cases e <;> exact Fin.ext (by simp [Rect.idx_unit_val])

/-- What has been written to a buffer of rank two, read whole. -/
theorem cov2 {a b : ℕ} {e : EltTy} (v : View sg κ sp ⟨2, ![a, b]⟩ e) (L : List (View.Piece (Elt Ideal) ⟨2, ![a, b]⟩ e)) (inb) :
    v.readCov L (Rect.unit (s := ⟨2, ![a, b]⟩) ![0, 0] ![a, b] inb).toLoadRect = View.canon L :=
  whole2 v _ _ (View.read_writes_junk_eq_canon v L) inb

/-- The weights' block without its leading axis. -/
def flat (X : Vec Ideal S1x2048x1024 .f32) : Vec Ideal S2048x1024 .bf16 := fun y => X (ix3 0 (y 0) (y 1))

variable (m : (ℓ : Loc nD τ sig) → Buf (Elt Ideal) ℓ) (c : Dev nD) (t : Fin cfg0.N)

theorem flat_eq (v : View sig κ sp S1x2048x1024 .f32) (X : Vec Ideal S1x2048x1024 .f32) (f : v.ty.Contents (Elt Ideal))
    (hf : v.read (Elt Ideal) f = X) (inb) :
    k0_pay6 (v.readAt (Elt Ideal) (Rect.unit (s := S1x2048x1024) ![0, 0, 0] ![1, 2048, 1024] inb).toLoadRect f) = flat X := by
  subst hf
  funext y
  pointwise [k0_pay6]
  show v.read (Elt Ideal) f ((Rect.unit (s := S1x2048x1024) ![0, 0, 0] ![1, 2048, 1024] inb).idx _) = v.read (Elt Ideal) f _
  congr 1
  funext e
  fin_cases e <;> exact Fin.ext (by simp [Rect.idx_unit_val])

theorem wtsA (hc : First (grid0.coords t)) : View.canon (atA m c t hc).2.2.1 = flat (iblk m c 2 t) := by
  unfold atA runA
  dsimp only
  unfold runA.sl.Hs_1
  funext y
  canon_tiles x h
  rw [flat_eq _ _ _ ((w2 t).read_unread (iblk m c 2 t))]
  congr 1
  funext a
  match a with
  | ⟨0, _⟩ => exact Fin.ext h0.symm
  | ⟨1, _⟩ => exact Fin.ext h1.symm

theorem v71 (hc : First (grid0.coords t)) : runA.sl.v71 c (b2 t) (w2 t) bs (iblk m c 2 t) = flat (iblk m c 2 t) := by
  have e := wtsA m c t hc
  unfold atA runA at e
  dsimp only at e
  unfold runA.sl.v71
  exact (cov2 _ _ _).trans e

theorem r2 (hc : First (grid0.coords t)) :
    runA.sl.r_2 c (b0 t) (w0 t) (b2 t) (w2 t) bs (iblk m c 0 t) (iblk m c 2 t) = k0_pay18 (iblk m c 0 t) (flat (iblk m c 2 t)) := by
  unfold runA.sl.r_2
  rw [v71 m c t hc]
  exact congrArg (fun X => k0_pay18 X _) (whole2 _ _ _ ((w0 t).read_unread (iblk m c 0 t)) _)

theorem r3 (hc : First (grid0.coords t)) :
    runA.sl.r_3 c (grid0.coords t) (b0 t) (w0 t) (b2 t) (w2 t) bs (iblk m c 0 t) (iblk m c 2 t)
      = k0_pay22 (grid0.coords t) (iblk m c 0 t) (flat (iblk m c 2 t)) := by
  unfold runA.sl.r_3
  rw [v71 m c t hc]
  exact congrArg (fun X => k0_pay22 _ X _) (whole2 _ _ _ ((w0 t).read_unread (iblk m c 0 t)) _)

/-- The rows a first point leaves. -/
theorem rowsA (hc : First (grid0.coords t)) (Y : S8x2048x128.Idx) (n : ℕ) (r : Fin 2048) (d : Fin 128)
    (hn : n = (Y 0).val) (hr : r.val = (Y 1).val) (hd : d.val = (Y 2).val) :
    View.canon (atA m c t hc).1 Y
      = slab (iblk m c 0 t) (flat (iblk m c 2 t)) (k0_pay12 (F := Ideal) (grid0.coords t)) n r d.val := by
  have e0 := whole2 _ _ _ ((w0 t).read_unread (iblk m c 0 t)) inb_S2048x2048_S2048x2048_0_0
  have e2 := v71 m c t hc
  have e3 := r2 m c t hc
  have e4 := r3 m c t hc
  unfold atA runA
  dsimp only
  canon_tiles x h
  · obtain rfl : n = 7 := by omega
    rw [e3]; exact p7 _ _ _ _ rfl x r d (by omega) (by omega)
  · obtain rfl : n = 6 := by omega
    rw [e3]; exact p6 _ _ _ _ rfl x r d (by omega) (by omega)
  · obtain rfl : n = 5 := by omega
    rw [e3]; exact p5 _ _ _ _ rfl x r d (by omega) (by omega)
  · obtain rfl : n = 4 := by omega
    rw [e3]; exact p4 _ _ _ _ rfl x r d (by omega) (by omega)
  · obtain rfl : n = 3 := by omega
    rw [e4]; exact p3 _ _ _ x r d (by omega) (by omega)
  · obtain rfl : n = 2 := by omega
    rw [e0, e2]; exact p2 _ _ _ x r d (by omega) (by omega)
  · obtain rfl : n = 1 := by omega
    rw [e0, e2]; exact p1 _ _ _ x r d (by omega) (by omega)
  · obtain rfl : n = 0 := by omega
    rw [e0, e2]; exact p0 _ _ _ x r d (by omega) (by omega)

/-- The rows another point leaves, the scratch at `xs`. -/
theorem rowsB (hc : ¬First (grid0.coords t)) (xs : Vec Ideal S2048x1024 .bf16) (Y : S8x2048x128.Idx) (n : ℕ) (r : Fin 2048)
    (d : Fin 128) (hn : n = (Y 0).val) (hr : r.val = (Y 1).val) (hd : d.val = (Y 2).val) :
    View.canon (atB m c t hc xs).1 Y = slab (iblk m c 0 t) xs (k0_pay12 (F := Ideal) (grid0.coords t)) n r d.val := by
  have e0 := whole2 _ _ _ ((w0 t).read_unread (iblk m c 0 t)) inb_S2048x2048_S2048x2048_0_0
  have e2 := whole2 _ _ _ (ws.read_unread xs) inb_S2048x1024_S2048x1024_0_0
  have e3 : runB.sl.r c (b0 t) (w0 t) bs ws (iblk m c 0 t) xs = k0_pay18 (iblk m c 0 t) xs := by
    unfold runB.sl.r
    exact congrArg₂ k0_pay18 e0 e2
  have e4 : runB.sl.r_1 c (grid0.coords t) (b0 t) (w0 t) bs ws (iblk m c 0 t) xs = k0_pay22 (grid0.coords t) (iblk m c 0 t) xs := by
    unfold runB.sl.r_1
    exact congrArg₂ (k0_pay22 (grid0.coords t)) e0 e2
  unfold atB runB
  dsimp only
  canon_tiles x h
  · obtain rfl : n = 7 := by omega
    rw [e3]; exact p7 _ _ _ _ rfl x r d (by omega) (by omega)
  · obtain rfl : n = 6 := by omega
    rw [e3]; exact p6 _ _ _ _ rfl x r d (by omega) (by omega)
  · obtain rfl : n = 5 := by omega
    rw [e3]; exact p5 _ _ _ _ rfl x r d (by omega) (by omega)
  · obtain rfl : n = 4 := by omega
    rw [e3]; exact p4 _ _ _ _ rfl x r d (by omega) (by omega)
  · obtain rfl : n = 3 := by omega
    rw [e4]; exact p3 _ _ _ x r d (by omega) (by omega)
  · obtain rfl : n = 2 := by omega
    exact (congrFun (congrArg₂ (k0_pay21 (grid0.coords t)) e0 e2) x).trans (p2 _ _ _ x r d (by omega) (by omega))
  · obtain rfl : n = 1 := by omega
    exact (congrFun (congrArg₂ (k0_pay20 (grid0.coords t)) e0 e2) x).trans (p1 _ _ _ x r d (by omega) (by omega))
  · obtain rfl : n = 0 := by omega
    exact (congrFun (congrArg₂ (k0_pay19 (grid0.coords t)) e0 e2) x).trans (p0 _ _ _ x r d (by omega) (by omega))

theorem rr (hc : First (grid0.coords t)) :
    runA.sl.r c (b1 t) (w1 t) (b2 t) (w2 t) bs (iblk m c 1 t) (iblk m c 2 t) = k0_pay7 (iblk m c 1 t) (flat (iblk m c 2 t)) := by
  unfold runA.sl.r
  rw [v71 m c t hc]
  exact congrArg (fun X => k0_pay7 X _) (whole2 _ _ _ ((w1 t).read_unread (iblk m c 1 t)) _)

theorem rr1 (hc : First (grid0.coords t)) :
    runA.sl.r_1 c (grid0.coords t) (b1 t) (w1 t) (b2 t) (w2 t) bs (iblk m c 1 t) (iblk m c 2 t)
      = k0_pay11 (k0_pay12 (F := Ideal) (grid0.coords t)) (iblk m c 1 t) (flat (iblk m c 2 t)) := by
  unfold runA.sl.r_1
  rw [v71 m c t hc]
  exact congrArg (fun X => k0_pay11 _ X _) (whole2 _ _ _ ((w1 t).read_unread (iblk m c 1 t)) _)

/-- The meta rows a first point leaves. -/
theorem metaA (hc : First (grid0.coords t)) (Y : S8x64x128.Idx) (n : ℕ) (r : Fin 64) (d : Fin 128)
    (hn : n = (Y 0).val) (hr : r.val = (Y 1).val) (hd : d.val = (Y 2).val) :
    View.canon (atA m c t hc).2.1 Y
      = slab (iblk m c 1 t) (flat (iblk m c 2 t)) (k0_pay12 (F := Ideal) (grid0.coords t)) n r d.val := by
  have e0 := whole2 _ _ _ ((w1 t).read_unread (iblk m c 1 t)) inb_S64x2048_S64x2048_0_0
  have e2 := v71 m c t hc
  have e3 := rr m c t hc
  have e4 := rr1 m c t hc
  unfold atA runA
  dsimp only
  canon_tiles x h
  · obtain rfl : n = 7 := by omega
    rw [e3]; exact m7 _ _ _ _ rfl x r d (by omega) (by omega)
  · obtain rfl : n = 6 := by omega
    rw [e3]; exact m6 _ _ _ _ rfl x r d (by omega) (by omega)
  · obtain rfl : n = 5 := by omega
    rw [e3]; exact m5 _ _ _ _ rfl x r d (by omega) (by omega)
  · obtain rfl : n = 4 := by omega
    rw [e3]; exact m4 _ _ _ _ rfl x r d (by omega) (by omega)
  · obtain rfl : n = 3 := by omega
    rw [e4]; exact m3 _ _ _ x r d (by omega) (by omega)
  · obtain rfl : n = 2 := by omega
    rw [e0, e2]; exact m2 _ _ _ x r d (by omega) (by omega)
  · obtain rfl : n = 1 := by omega
    rw [e0, e2]; exact m1 _ _ _ x r d (by omega) (by omega)
  · obtain rfl : n = 0 := by omega
    rw [e0, e2]; exact m0 _ _ _ x r d (by omega) (by omega)

/-- The rounded weights a column block leaves in the scratch. -/
theorem wts_eq : wts m c t = flat (iblk m c 2 (base t)) :=
  (View.read_writes_junk_eq_canon _ _).trans (wtsA m c (base t) (base_first t))

theorem idx2 : ∀ t : Fin grid0.N, win0_2.index t = ![0, 0, t.val / 4] := by decide +kernel

/-- The points of one column block read the same weights. -/
theorem wts_same : iblk m c 2 (base t) = iblk m c 2 t := by
  funext y
  blk_ext [iblk, idx2 t, idx2 (base t)]
  simp only [base]
  omega

end Cert.InRows

end
-- ==== Proof.InRef.lean ====
/- The input projection's reference, read at an index. -/
module

public import proofs.«01_k».proof.Proof.Gen.Reference2Ideal.Read
public import proofs.«01_k».proof.Proof.InVal

@[expose] public section

set_option maxRecDepth 16384

noncomputable section

namespace Cert.InRef

open Idealize.ShloMosaic Idealize.ShloMosaic.TcCoe Idealize.ShloMosaic.Tactic
open Cert.Reference2Ideal Cert.Reference2Ideal.Gen Cert.Reference2Ideal.Read

/-- The factor on column block `h`. -/
def scale (h : ℕ) : EReal := if h < 16 then Ideal.ofBits .f32 0x3E0293EE#32 else 1

/-- Row `r` of the product at column `128 * h + d`, with its factor. -/
def proj {M : ℕ} (X : Vec Ideal ⟨2, ![M, 2048]⟩ .bf16) (W : Vec Ideal S1x2048x5120 .f32) (h : ℕ) (r : Fin M) (d : ℕ) : EReal :=
  (∑ k : Fin 2048, (X (ix2 r k) : EReal) * if g : 128 * h + d < 5120 then W (ix3 0 k ⟨128 * h + d, g⟩) else 0) * scale h

variable (x0 : Vec Ideal S8192x2048 .bf16) (x1 : Vec Ideal S64x2048 .bf16) (x2 : Vec Ideal S1x2048x5120 .f32)

theorem dot0 (r : Fin 8192) (h d : ℕ) (g : 128 * h + d < 5120) (j : S8192x5120.Idx) (h0 : (j 0).val = r.val)
    (h1 : (j 1).val = 128 * h + d) :
    (val_main_v1 (F := Ideal) x0 x2 j : EReal)
      = ∑ k : Fin 2048, (x0 (ix2 r k) : EReal) * if g : 128 * h + d < 5120 then x2 (ix3 0 k ⟨128 * h + d, g⟩) else 0 := by
  rw [val_main_v1_apply]
  simp only [dif_pos g, val_main_v0_apply]
  refine Finset.sum_congr rfl fun k _ => ?_
  congr 1
  · congr 1
    funext a
    match a with
    | ⟨0, _⟩ => exact Fin.ext h0
    | ⟨1, _⟩ => rfl
  · congr 1
    funext a
    have hk := k.isLt
    match a with
    | ⟨0, _⟩ => rfl
    | ⟨1, _⟩ => exact Fin.ext (show (k.val * 5120 + (j 1).val) / 5120 % 2048 = k.val by omega)
    | ⟨2, _⟩ => exact Fin.ext (show (k.val * 5120 + (j 1).val) % 5120 = 128 * h + d by omega)

/-- The first result at an index. -/
theorem ref0 (i : S40x8192x128.Idx) (h d : ℕ) (r : Fin 8192) (hh : h = (i 0).val) (hr : r.val = (i 1).val) (hd : d = (i 2).val) :
    (val_main_v9 (F := Ideal) x0 x2 i : EReal) = proj x0 x2 h r d := by
  have b0 : (i 0).val < 40 := (i 0).isLt
  have b1 : (i 1).val < 8192 := (i 1).isLt
  have b2 : (i 2).val < 128 := (i 2).isLt
  rw [val_main_v9_apply, val_main_v8_apply, val_main_v7_apply]
  unfold proj scale
  have e0 : (idx_main_v7 (idx_main_v8 i) 0).val = r.val := by
    show (((i 1).val * 40 + (i 0).val) * 128 + (i 2).val) / 5120 = _
    omega
  have e1 : (idx_main_v7 (idx_main_v8 i) 1).val = 128 * h + d := by
    show (((i 1).val * 40 + (i 0).val) * 128 + (i 2).val) % 5120 = _
    omega
  generalize idx_main_v7 (idx_main_v8 i) = j at e0 e1
  show (val_main_v6 (F := Ideal) x0 x2 j : EReal) = _
  unfold val_main_v6
  by_cases c : h < 16
  · rw [if_pos c]
    refine (concatenate_pair_apply_left (1 : Fin S8192x5120.rank) _ _ concatenates_S8192x2048_S8192x3072_S8192x5120_d1 j rfl
      (ix2 r ⟨128 * h + d, by omega⟩) fun b => ?_).trans ?_
    · match b with
      | ⟨0, _⟩ => exact e0.symm
      | ⟨1, _⟩ => exact e1.symm
    rw [val_main_v5_apply, val_main_v2_apply, val_main_v4_apply, val_main_cst_apply]
    show (val_main_v1 (F := Ideal) x0 x2 _ : EReal) * Ideal.ofBits .f32 0x3E0293EE#32 = _
    rw [dot0 x0 x2 r h d (by omega) _ rfl rfl]
  · rw [if_neg c, mul_one]
    refine (concatenate_pair_apply_right (1 : Fin S8192x5120.rank) _ _ concatenates_S8192x2048_S8192x3072_S8192x5120_d1 j rfl rfl
      (ix2 r ⟨128 * h + d - 2048, by omega⟩) (fun b hb => ?_) ?_).trans ?_
    · match b with
      | ⟨0, _⟩ => exact e0.symm
      | ⟨1, _⟩ => exact absurd rfl hb
    · show 128 * h + d - 2048 + 2048 = _
      omega
    rw [val_main_v3_apply]
    exact dot0 x0 x2 r h d (by omega) _ rfl (show 2048 + (128 * h + d - 2048) = _ by omega)

theorem dot1 (r : Fin 64) (h d : ℕ) (g : 128 * h + d < 5120) (j : S64x5120.Idx) (h0 : (j 0).val = r.val)
    (h1 : (j 1).val = 128 * h + d) :
    (val_main_v11 (F := Ideal) x1 x2 j : EReal)
      = ∑ k : Fin 2048, (x1 (ix2 r k) : EReal) * if g : 128 * h + d < 5120 then x2 (ix3 0 k ⟨128 * h + d, g⟩) else 0 := by
  rw [val_main_v11_apply]
  simp only [dif_pos g, val_main_v10_apply]
  refine Finset.sum_congr rfl fun k _ => ?_
  congr 1
  · congr 1
    funext a
    match a with
    | ⟨0, _⟩ => exact Fin.ext h0
    | ⟨1, _⟩ => rfl
  · congr 1
    funext a
    have hk := k.isLt
    match a with
    | ⟨0, _⟩ => rfl
    | ⟨1, _⟩ => exact Fin.ext (show (k.val * 5120 + (j 1).val) / 5120 % 2048 = k.val by omega)
    | ⟨2, _⟩ => exact Fin.ext (show (k.val * 5120 + (j 1).val) % 5120 = 128 * h + d by omega)

/-- The second result at an index. -/
theorem ref1 (i : S40x64x128.Idx) (h d : ℕ) (r : Fin 64) (hh : h = (i 0).val) (hr : r.val = (i 1).val) (hd : d = (i 2).val) :
    (val_main_v19 (F := Ideal) x1 x2 i : EReal) = proj x1 x2 h r d := by
  have b0 : (i 0).val < 40 := (i 0).isLt
  have b1 : (i 1).val < 64 := (i 1).isLt
  have b2 : (i 2).val < 128 := (i 2).isLt
  rw [val_main_v19_apply, val_main_v18_apply, val_main_v17_apply]
  unfold proj scale
  have e0 : (idx_main_v17 (idx_main_v18 i) 0).val = r.val := by
    show (((i 1).val * 40 + (i 0).val) * 128 + (i 2).val) / 5120 = _
    omega
  have e1 : (idx_main_v17 (idx_main_v18 i) 1).val = 128 * h + d := by
    show (((i 1).val * 40 + (i 0).val) * 128 + (i 2).val) % 5120 = _
    omega
  generalize idx_main_v17 (idx_main_v18 i) = j at e0 e1
  show (val_main_v16 (F := Ideal) x1 x2 j : EReal) = _
  unfold val_main_v16
  by_cases c : h < 16
  · rw [if_pos c]
    refine (concatenate_pair_apply_left (1 : Fin S64x5120.rank) _ _ concatenates_S64x2048_S64x3072_S64x5120_d1 j rfl
      (ix2 r ⟨128 * h + d, by omega⟩) fun b => ?_).trans ?_
    · match b with
      | ⟨0, _⟩ => exact e0.symm
      | ⟨1, _⟩ => exact e1.symm
    rw [val_main_v15_apply, val_main_v12_apply, val_main_v14_apply, val_main_cst_0_apply]
    show (val_main_v11 (F := Ideal) x1 x2 _ : EReal) * Ideal.ofBits .f32 0x3E0293EE#32 = _
    rw [dot1 x1 x2 r h d (by omega) _ rfl rfl]
  · rw [if_neg c, mul_one]
    refine (concatenate_pair_apply_right (1 : Fin S64x5120.rank) _ _ concatenates_S64x2048_S64x3072_S64x5120_d1 j rfl rfl
      (ix2 r ⟨128 * h + d - 2048, by omega⟩) (fun b hb => ?_) ?_).trans ?_
    · match b with
      | ⟨0, _⟩ => exact e0.symm
      | ⟨1, _⟩ => exact absurd rfl hb
    · show 128 * h + d - 2048 + 2048 = _
      omega
    rw [val_main_v13_apply]
    exact dot1 x1 x2 r h d (by omega) _ rfl (show 2048 + (128 * h + d - 2048) = _ by omega)

end Cert.InRef

end
-- ==== Proof.InArr.lean ====
/- The input projection's two arrays after a run, and the equality with the reference. -/
module

public import proofs.«01_k».proof.Defs
public import proofs.«01_k».proof.Proof.InRows
public import proofs.«01_k».proof.Proof.InRef
public import proofs.«01_k».proof.Proof.Gen.Reference2Ideal.Run

@[expose] public section

set_option maxRecDepth 16384

noncomputable section

namespace Cert.InArr

open Idealize.ShloMosaic Idealize.ShloMosaic.TcCoe Idealize.ShloMosaic.Tactic Idealize.SL.Sem
open Cert.Kernel2Ideal Cert.Kernel2Ideal.Gen Cert.Kernel2Ideal.Hand Cert.InVal Cert.InRows Cert.InRef

variable (m : (ℓ : Loc nD τ sig) → Buf (Elt Ideal) ℓ) (ρ : Dev nD → PrngReg) (c : Dev nD) (t : Fin cfg0.N)

theorem idx0 : ∀ t : Fin grid0.N, win0_0.index t = ![t.val % 4, 0] := by decide +kernel
theorem idx1 : ∀ t : Fin grid0.N, win0_1.index t = ![0, 0] := by decide +kernel
theorem idx3 : ∀ t : Fin grid0.N, win0_3.index t = ![t.val / 4, t.val % 4, 0] := by decide +kernel
theorem idx4 : ∀ t : Fin grid0.N, win0_4.index t = ![t.val / 4, 0, 0] := by decide +kernel

theorem pay12_bit : ∀ t : Fin grid0.N,
    Scalar.cmpi .slt (BitVec.ofNat 32 (grid0.coords t 0).val) 2#32 = if t.val / 4 < 2 then 1#1 else 0#1 := by decide +kernel

/-- The factor the kernel takes at a point. -/
theorem pay12 : (k0_pay12 (F := Ideal) (grid0.coords t) : EReal) = if t.val / 4 < 2 then Ideal.ofBits .f32 0x3E0293EE#32 else 1 := by
  unfold k0_pay12
  dsimp only
  rw [pay12_bit t]
  split
  · rfl
  · show Ideal.ofBits .f32 0x3F800000#32 = 1
    simp [Ideal.ofBits, Ideal.ieee]
    rw [← EReal.coe_mul]
    norm_num

/-- A block's column of the product is the whole product's column. -/
theorem slab_proj {M M' : ℕ} (xb : Vec Ideal ⟨2, ![M, 2048]⟩ .bf16) (X : Vec Ideal ⟨2, ![M', 2048]⟩ .bf16) (n h : ℕ) (r : Fin M)
    (r' : Fin M') (d : ℕ) (hn : n < 8) (hd : d < 128) (hh : h = 8 * (t.val / 4) + n) (hx : ∀ k, xb (ix2 r k) = X (ix2 r' k)) :
    slab xb (flat (iblk m c 2 t)) (k0_pay12 (F := Ideal) (grid0.coords t)) n r d
      = proj X (m ((c.tc : Thread nD τ).loc main_arg2)) h r' d := by
  have ht : t.val < 20 := t.isLt
  unfold slab proj scale
  rw [pay12]
  congr 1
  · refine Finset.sum_congr rfl fun k _ => ?_
    rw [hx k, dif_pos (by omega), dif_pos (by omega)]
    congr 1
    unfold flat
    blk_ext [iblk, V, idx2 t]
  · subst hh
    by_cases q : t.val / 4 < 2
    · rw [if_pos q, if_pos (by omega)]
    · rw [if_neg q, if_neg (by omega)]

/-- What a point leaves in the rows' buffer. -/
theorem rows_eq (Y : S8x2048x128.Idx) (n h : ℕ) (r : Fin 2048) (r' : Fin 8192) (d : Fin 128) (hn : n = (Y 0).val)
    (hr : r.val = (Y 1).val) (hd : d.val = (Y 2).val) (hh : h = 8 * (t.val / 4) + n) (hr' : r'.val = 2048 * (t.val % 4) + r.val) :
    (rows3 m c t Y : EReal) = proj (m ((c.tc : Thread nD τ).loc main_arg0)) (m ((c.tc : Thread nD τ).loc main_arg2)) h r' d.val := by
  have b0 : (Y 0).val < 8 := (Y 0).isLt
  have hx : ∀ k, (iblk m c 0 t : Vec Ideal S2048x2048 .bf16) (ix2 r k) = m ((c.tc : Thread nD τ).loc main_arg0) (ix2 r' k) := fun k => by
    blk_ext [iblk, V, idx0 t]
  unfold rows3
  split
  · next hc =>
    rw [View.read_writes_junk_eq_canon, rowsA m c t hc Y n r d hn hr hd]
    exact slab_proj m c t _ _ n h r r' d.val (by omega) d.isLt hh hx
  · next hc =>
    rw [View.read_writes_junk_eq_canon, rowsB m c t hc _ Y n r d hn hr hd, wts_eq, wts_same]
    exact slab_proj m c t _ _ n h r r' d.val (by omega) d.isLt hh hx

/-- What the column block's first point leaves in the meta rows' buffer. -/
theorem meta_eq (Y : S8x64x128.Idx) (n h : ℕ) (r : Fin 64) (d : Fin 128) (hn : n = (Y 0).val)
    (hr : r.val = (Y 1).val) (hd : d.val = (Y 2).val) (hh : h = 8 * (t.val / 4) + n) :
    (meta4 m c t Y : EReal) = proj (m ((c.tc : Thread nD τ).loc main_arg1)) (m ((c.tc : Thread nD τ).loc main_arg2)) h r d.val := by
  have b0 : (Y 0).val < 8 := (Y 0).isLt
  unfold meta4
  rw [View.read_writes_junk_eq_canon, metaA m c (base t) (base_first t) Y n r d hn hr hd]
  refine slab_proj m c (base t) _ _ n h r r d.val (by omega) d.isLt ?_ fun k => ?_
  · simp only [base]; omega
  · blk_ext [iblk, V, idx1 (base t)]

/-- The rows' array after a run. -/
def G3 : Vec Ideal S40x8192x128 .bf16 := fun i =>
  proj (m ((c.tc : Thread nD τ).loc main_arg0)) (m ((c.tc : Thread nD τ).loc main_arg2)) (i 0).val (i 1) (i 2).val
/-- The meta rows' array after a run. -/
def G4 : Vec Ideal S40x64x128 .bf16 := fun i =>
  proj (m ((c.tc : Thread nD τ).loc main_arg1)) (m ((c.tc : Thread nD τ).loc main_arg2)) (i 0).val (i 1) (i 2).val

theorem arr3 : (dats m 0 c).arrAt 3 cfg0.N = G3 m c := by
  refine (dats m 0 c).arrAt_eq_of_covers 3 _ (by decide +kernel) fun t hf y => ?_
  blk_simp
  rw [after3]
  have e' : ((win0_3.blk t).view.emb y 2).val = (y 2).val := by
    blk_simp [idx3 t]
    try omega
  refine (rows_eq m c t y (y 0).val ((win0_3.blk t).view.emb y 0).val (y 1) ((win0_3.blk t).view.emb y 1) (y 2) rfl rfl rfl ?_ ?_).trans ?_
  · blk_simp [idx3 t]
    omega
  · blk_simp [idx3 t]
    omega
  unfold G3
  rw [e']

theorem arr4 : (dats m 0 c).arrAt 4 cfg0.N = G4 m c := by
  refine (dats m 0 c).arrAt_eq_of_covers 4 _ (by decide +kernel) fun t hf y => ?_
  blk_simp
  rw [after4]
  have e : ((win0_4.blk t).view.emb y 1 : Fin 64) = y 1 := Fin.ext (by
    blk_simp [idx4 t]
    try omega)
  have e' : ((win0_4.blk t).view.emb y 2).val = (y 2).val := by
    blk_simp [idx4 t]
    try omega
  refine (meta_eq m c t y (y 0).val ((win0_4.blk t).view.emb y 0).val (y 1) (y 2) rfl rfl rfl ?_).trans ?_
  · blk_simp [idx4 t]
    omega
  unfold G4
  rw [e, e']

/-- The two programs end with equal arrays. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => G3 m c, fun c => G4 m c, ?_, ?_⟩
  · refine (θ_run _ _ _).mono (fun r h c => ?_) (θ_run_and (Cert.Kernel2Ideal.Hand.run m g) (Cert.Kernel2Ideal.Hand.frame m g))
    obtain ⟨h, h'⟩ := h
    exact ⟨((h c).1 3).trans (arr3 m c), ((h c).1 4).trans (arr4 m c), h'.1 c⟩
  · refine (θ_run _ _ _).mono (fun r h c => ?_) (Cert.Reference2Ideal.Value.run (F := Ideal) m' g')
    obtain ⟨h0, h1, h2⟩ := h c
    obtain ⟨a0, a1, a2⟩ := hargs c
    refine ⟨h0.trans ?_, h1.trans ?_, h2⟩
    · rw [a0, a2]
      exact (Cert.Reference2Ideal.Read.val_main_v9_eq _ _).trans (funext fun i => ref0 _ _ i _ _ _ rfl rfl rfl)
    · rw [a1, a2]
      exact (Cert.Reference2Ideal.Read.val_main_v19_eq _ _).trans (funext fun i => ref1 _ _ i _ _ _ rfl rfl rfl)

end Cert.InArr

end
-- ==== Proof.Inproj3.lean ====
/- The frame of the input-projection kernel: its grid has four token blocks per block of columns. The first of them
   rounds the weights into the scratch and writes the meta rows; the other three find the scratch as it was left and
   do not touch the meta rows' buffer, which the last of them writes back. -/
module

public import proofs.«01_k».proof.Proof.Gen.Kernel3Ideal.Frame
public import proofs.«01_k».proof.Proof.Gen.Kernel3Ideal.Skeleton
public import Idealize.ShloMosaic.Lib.Pipeline.TableIdle
public import Idealize.ShloMosaic.Lib.Claim

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at a point. -/
abbrev First (i : grid0.Coords) : Prop := k0_cond1 i = 1#1

/-- It is taken at the first token block of every column block. -/
theorem first_iff : ∀ t : Fin cfg0.N, First (grid0.coords t) ↔ t.val % 4 = 0 :=
  (by decide +kernel : ∀ t : Fin grid0.N, First (grid0.coords t) ↔ t.val % 4 = 0)

/-- The first point of the column block that point `t` works on. -/
def base (t : Fin cfg0.N) : Fin cfg0.N := ⟨t.val - t.val % 4, Nat.lt_of_le_of_lt (Nat.sub_le _ _) t.isLt⟩

theorem base_first (t : Fin cfg0.N) : First (grid0.coords (base t)) :=
  (first_iff _).mpr (by simp only [base]; omega)

theorem base_of_first (t : Fin cfg0.N) (h : t.val % 4 = 0) : base t = t := by
  apply Fin.ext; simp only [base]; omega

theorem base_pred (t : Fin cfg0.N) (h : ¬t.val % 4 = 0) :
    base ⟨t.val - 1, Nat.lt_of_le_of_lt (Nat.sub_le _ _) t.isLt⟩ = base t := by
  apply Fin.ext; simp only [base]; omega

/-- The staging buffers at a point. -/
abbrev b0 (t : Fin cfg0.N) : Memref sig .tc .vmem S2048x2048 .bf16 := win0_0.stage (cfg0.slots t 0)
theorem w0 (t : Fin cfg0.N) : (b0 t).IsWhole := hstage0_0 ((cfg0.slots t 0).cast nbuf0_0)
abbrev b1 (t : Fin cfg0.N) : Memref sig .tc .vmem S64x2048 .bf16 := win0_1.stage (cfg0.slots t 1)
theorem w1 (t : Fin cfg0.N) : (b1 t).IsWhole := hstage0_1 ((cfg0.slots t 1).cast nbuf0_1)
abbrev b2 (t : Fin cfg0.N) : Memref sig .tc .vmem S1x2048x1024 .f32 := win0_2.stage (cfg0.slots t 2)
theorem w2 (t : Fin cfg0.N) : (b2 t).IsWhole := hstage0_2 ((cfg0.slots t 2).cast nbuf0_2)
abbrev b3 (t : Fin cfg0.N) : Memref sig .tc .vmem S8x2048x128 .bf16 := win0_3.stage (cfg0.slots t 3)
theorem w3 (t : Fin cfg0.N) : (b3 t).IsWhole := hstage0_3 ((cfg0.slots t 3).cast nbuf0_3)
abbrev b4 (t : Fin cfg0.N) : Memref sig .tc .vmem S8x64x128 .bf16 := win0_4.stage (cfg0.slots t 4)
theorem w4 (t : Fin cfg0.N) : (b4 t).IsWhole := hstage0_4 ((cfg0.slots t 4).cast nbuf0_4)
/-- The scratch that holds the rounded weights. -/
abbrev bs : Memref sig .tc .vmem S2048x1024 .bf16 := Memref.whole cc0_scratch0
theorem ws : (bs).IsWhole := Memref.isWhole_whole _

/-- Buffers through which contents are stated. -/
abbrev R3 : View sig .tc .vmem S8x2048x128 .bf16 := (Memref.whole cc0_stg3_0 : Memref sig .tc .vmem S8x2048x128 .bf16).view
abbrev R4 : View sig .tc .vmem S8x64x128 .bf16 := (Memref.whole cc0_stg4_0 : Memref sig .tc .vmem S8x64x128 .bf16).view
abbrev Rs : View sig .tc .vmem S2048x1024 .bf16 := (bs).view

/-- What the region lends beside the windows: the scratch at some contents and the generator register. -/
theorem lent_eq (c : Dev nD) :
    (Pipeline.ΦA spec0 c : sProp 𝕄)
      = iprop(iprop((∃ d, owns (c : Thread nD τ) bs fullShare d)) ∗ (∃ r, prngReg c r)) := by
  unfold Pipeline.ΦA; rw [scopedRest0_eq]; simp only [bs, owns_whole]; try rfl

set_option maxHeartbeats 1000000 in
/-- The body at a first point: the pieces its stores leave in the two outputs and in the scratch. -/
noncomputable def runA (c : Dev nD) (i : grid0.Coords)
    (a2 : Memref sig .tc .vmem S2048x2048 .bf16) (h2 : a2.IsWhole) (a3 : Memref sig .tc .vmem S64x2048 .bf16) (h3 : a3.IsWhole)
    (a4 : Memref sig .tc .vmem S1x2048x1024 .f32) (h4 : a4.IsWhole) (a5 : Memref sig .tc .vmem S8x2048x128 .bf16) (h5 : a5.IsWhole)
    (a6 : Memref sig .tc .vmem S8x64x128 .bf16) (h6 : a6.IsWhole) (a7 : Memref sig .tc .vmem S2048x1024 .bf16) (h7 : a7.IsWhole)
    (hc : First i) (x0 : Vec F S2048x2048 .bf16) (x1 : Vec F S64x2048 .bf16) (x2 : Vec F S1x2048x1024 .f32) :
    Σ' (L3 : List (View.Piece (Elt F) S8x2048x128 .bf16)), Σ' (L4 : List (View.Piece (Elt F) S8x64x128 .bf16)),
      { Ls : List (View.Piece (Elt F) S2048x1024 .bf16) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d) ∗ (∃ d, owns (c : Thread nD τ) a7 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f Ls)) -∗ K ⟨⟩))
          ⊢ wp frame (wpE (defs₀ (F := F)) Variants.none c none) E (cc0_inproj i a2 h2 a3 h3 a4 h4 a5 h5 a6 h6 a7 h7) K } := by
  refine ⟨?_, ?_, ?_, fun E K => ?run⟩
  case run =>
    simp only [cc0_inproj_eq_skeleton]; unfold cc0_inproj_skel
    simp only [k0_part1_eq_skeleton, k0_part2_eq_skeleton]
    unfold owns
    iintro ⟨⟨%f0, %e0, H0⟩, ⟨%f1, %e1, H1⟩, ⟨%f2, %e2, H2⟩, ⟨%d3, %f3, -, H3⟩, ⟨%d4, %f4, -, H4⟩, ⟨%ds, %fs, -, Hs⟩, Hk⟩
    obtain rfl := h2.eq_unread e0; obtain rfl := h3.eq_unread e1; obtain rfl := h4.eq_unread e2
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]; · iexists _; iexact H4
    iexists _; iexact Hs

set_option maxHeartbeats 1000000 in
/-- The body at any other point: the scratch is read at what it holds, the meta rows' buffer is not touched. -/
noncomputable def runB (c : Dev nD) (i : grid0.Coords)
    (a2 : Memref sig .tc .vmem S2048x2048 .bf16) (h2 : a2.IsWhole) (a3 : Memref sig .tc .vmem S64x2048 .bf16) (h3 : a3.IsWhole)
    (a4 : Memref sig .tc .vmem S1x2048x1024 .f32) (h4 : a4.IsWhole) (a5 : Memref sig .tc .vmem S8x2048x128 .bf16) (h5 : a5.IsWhole)
    (a6 : Memref sig .tc .vmem S8x64x128 .bf16) (h6 : a6.IsWhole) (a7 : Memref sig .tc .vmem S2048x1024 .bf16) (h7 : a7.IsWhole)
    (hc : ¬First i) (x0 : Vec F S2048x2048 .bf16) (xs : Vec F S2048x1024 .bf16) :
    { L3 : List (View.Piece (Elt F) S8x2048x128 .bf16) //
      ∀ (E : Set ℕ) (K : PUnit → sProp 𝕄),
        iprop(owns (c : Thread nD τ) a2 fullShare x0 ∗ (∃ d, owns (c : Thread nD τ) a5 fullShare d) ∗ owns (c : Thread nD τ) a7 fullShare xs
            ∗ (iprop(owns (c : Thread nD τ) a2 fullShare x0
                ∗ (∃ f, a5.view.loc (c : Thread nD τ) ↦[a5.view.set]{fullShare} a5.view.writes (Elt F) f L3)
                ∗ owns (c : Thread nD τ) a7 fullShare xs) -∗ K ⟨⟩))
          ⊢ wp frame (wpE (defs₀ (F := F)) Variants.none c none) E (cc0_inproj i a2 h2 a3 h3 a4 h4 a5 h5 a6 h6 a7 h7) K } := by
  refine ⟨?_, fun E K => ?run⟩
  case run =>
    simp only [cc0_inproj_eq_skeleton]; unfold cc0_inproj_skel
    simp only [k0_part2_eq_skeleton]
    unfold owns
    iintro ⟨⟨%f0, %e0, H0⟩, ⟨%d3, %f3, -, H3⟩, ⟨%fs, %es, Hs⟩, Hk⟩
    obtain rfl := h2.eq_unread e0; obtain rfl := h7.eq_unread es
    sl_exec (disch := sl_exact hc)
    sl_step
    iapply Hk
    isplitl [H0]
    · iexists _; isplitr; · ipureintro; exact h2.read_unread _
      iexact H0
    isplitl [H3]; · iexists _; iexact H3
    iexists _; isplitr; · ipureintro; exact h7.read_unread _
    iexact Hs

/-- The run at point `t`'s buffers and blocks, for a first point. -/
abbrev atA (c : Dev nD) (t : Fin cfg0.N) (hc : First (grid0.coords t)) :=
  runA (F := F) c (grid0.coords t) (b0 t) (w0 t) (b1 t) (w1 t) (b2 t) (w2 t) (b3 t) (w3 t) (b4 t) (w4 t) bs ws hc
    (iblk m c 0 t) (iblk m c 1 t) (iblk m c 2 t)

/-- The run at point `t`'s buffers and token block, for another point, the scratch at `xs`. -/
abbrev atB (c : Dev nD) (t : Fin cfg0.N) (hc : ¬First (grid0.coords t)) (xs : Vec F S2048x1024 .bf16) :=
  runB (F := F) c (grid0.coords t) (b0 t) (w0 t) (b1 t) (w1 t) (b2 t) (w2 t) (b3 t) (w3 t) (b4 t) (w4 t) bs ws hc
    (iblk m c 0 t) xs

theorem coverA3 (c : Dev nD) (t : Fin cfg0.N) (hc : First (grid0.coords t)) (y : S8x2048x128.Idx) :
    ∃ pc ∈ (atA m c t hc).1, y ∈ pc.1.set :=
  View.cover_of_tiledL (atA m c t hc).1 S1x2048x128.size (by sl_kernel_rfl) y
theorem coverA4 (c : Dev nD) (t : Fin cfg0.N) (hc : First (grid0.coords t)) (y : S8x64x128.Idx) :
    ∃ pc ∈ (atA m c t hc).2.1, y ∈ pc.1.set :=
  View.cover_of_tiledL (atA m c t hc).2.1 S1x64x128.size (by sl_kernel_rfl) y
theorem coverAs (c : Dev nD) (t : Fin cfg0.N) (hc : First (grid0.coords t)) (y : S2048x1024.Idx) :
    ∃ pc ∈ (atA m c t hc).2.2.1, y ∈ pc.1.set :=
  View.cover_of_tiledL (atA m c t hc).2.2.1 S2048x1024.size (by sl_kernel_rfl) y
theorem coverB3 (c : Dev nD) (t : Fin cfg0.N) (hc : ¬First (grid0.coords t)) (xs : Vec F S2048x1024 .bf16) (y : S8x2048x128.Idx) :
    ∃ pc ∈ (atB m c t hc xs).1, y ∈ pc.1.set :=
  View.cover_of_tiledL (atB m c t hc xs).1 S1x2048x128.size (by sl_kernel_rfl) y

/-- The rounded weights after point `t`: what the first point of its column block stored. -/
def wts (c : Dev nD) (t : Fin cfg0.N) : Vec F S2048x1024 .bf16 :=
  Rs.read (Elt F) (Rs.writes (Elt F) Rs.junk (atA m c (base t) (base_first t)).2.2.1)

/-- The meta rows' buffer after point `t`. -/
def meta4 (c : Dev nD) (t : Fin cfg0.N) : Vec F S8x64x128 .bf16 :=
  R4.read (Elt F) (R4.writes (Elt F) R4.junk (atA m c (base t) (base_first t)).2.1)

/-- The token rows' buffer after point `t`. -/
def rows3 (c : Dev nD) (t : Fin cfg0.N) : Vec F S8x2048x128 .bf16 :=
  if hc : First (grid0.coords t) then R3.read (Elt F) (R3.writes (Elt F) R3.junk (atA m c t hc).1)
  else R3.read (Elt F) (R3.writes (Elt F) R3.junk (atB m c t hc (wts m c t)).1)

theorem wts_pred (c : Dev nD) (t : Fin cfg0.N) (h : ¬t.val % 4 = 0) :
    wts m c ⟨t.val - 1, Nat.lt_of_le_of_lt (Nat.sub_le _ _) t.isLt⟩ = wts m c t := by
  unfold wts
  have e := base_pred t h
  have : ∀ (p q : Fin cfg0.N) (hp : First (grid0.coords p)) (hq : First (grid0.coords q)), p = q →
      Rs.read (Elt F) (Rs.writes (Elt F) Rs.junk (atA m c p hp).2.2.1) = Rs.read (Elt F) (Rs.writes (Elt F) Rs.junk (atA m c q hq).2.2.1) := by
    intro p q hp hq hpq; subst hpq; rfl
  exact this _ _ _ _ e

theorem meta4_pred (c : Dev nD) (t : Fin cfg0.N) (h : ¬t.val % 4 = 0) :
    meta4 m c ⟨t.val - 1, Nat.lt_of_le_of_lt (Nat.sub_le _ _) t.isLt⟩ = meta4 m c t := by
  unfold meta4
  have e := base_pred t h
  have : ∀ (p q : Fin cfg0.N) (hp : First (grid0.coords p)) (hq : First (grid0.coords q)), p = q →
      R4.read (Elt F) (R4.writes (Elt F) R4.junk (atA m c p hp).2.1) = R4.read (Elt F) (R4.writes (Elt F) R4.junk (atA m c q hq).2.1) := by
    intro p q hp hq hpq; subst hpq; rfl
  exact this _ _ _ _ e

theorem wts_first (c : Dev nD) (t : Fin cfg0.N) (h : t.val % 4 = 0) (hc : First (grid0.coords t)) :
    wts m c t = Rs.read (Elt F) (Rs.writes (Elt F) Rs.junk (atA m c t hc).2.2.1) := by
  unfold wts
  have : ∀ (p : Fin cfg0.N) (hp : First (grid0.coords p)), p = t →
      Rs.read (Elt F) (Rs.writes (Elt F) Rs.junk (atA m c p hp).2.2.1) = Rs.read (Elt F) (Rs.writes (Elt F) Rs.junk (atA m c t hc).2.2.1) := by
    intro p hp hpq; subst hpq; rfl
  exact this _ _ (base_of_first t h)

theorem meta4_first (c : Dev nD) (t : Fin cfg0.N) (h : t.val % 4 = 0) (hc : First (grid0.coords t)) :
    meta4 m c t = R4.read (Elt F) (R4.writes (Elt F) R4.junk (atA m c t hc).2.1) := by
  unfold meta4
  have : ∀ (p : Fin cfg0.N) (hp : First (grid0.coords p)), p = t →
      R4.read (Elt F) (R4.writes (Elt F) R4.junk (atA m c p hp).2.1) = R4.read (Elt F) (R4.writes (Elt F) R4.junk (atA m c t hc).2.1) := by
    intro p hp hpq; subst hpq; rfl
  exact this _ _ (base_of_first t h)

/-- What holds before point `n`: the scratch at some contents before the first, then at the rounded weights. -/
def inv (c : Dev nD) : (n : ℕ) → n ≤ cfg0.N → sProp 𝕄
  | 0, _ => Pipeline.ΦA spec0 c
  | n + 1, hn => iprop(iprop(owns (c : Thread nD τ) bs fullShare (wts m c ⟨n, hn⟩)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) bs fullShare (wts m c ⟨n, hn⟩)) ∗ (∃ r, prngReg c r)) := rfl
theorem inv_pos (c : Dev nD) (n : ℕ) (h : n ≤ cfg0.N) (hz : n ≠ 0) :
    inv m c n h = iprop(iprop(owns (c : Thread nD τ) bs fullShare (wts m c ⟨n - 1, by omega⟩)) ∗ (∃ r, prngReg c r)) := by
  cases n with
  | zero => exact absurd rfl hz
  | succ n => rfl

/-- Whatever the point, the invariant lends the scratch at some contents. -/
theorem inv_lent (c : Dev nD) (n : ℕ) (h : n ≤ cfg0.N) : inv m c n h ⊢ Pipeline.ΦA spec0 c := by
  by_cases hz : n = 0
  · rw [inv_zero m c n h hz]
  · rw [inv_pos m c n h hz, lent_eq]
    iintro ⟨Hs, Hg⟩
    isplitl [Hs]
    · iexists _; iexact Hs
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows3 m c t
    | ⟨4, _⟩ => meta4 m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem Φ_at (c : Dev nD) (t : Fin cfg0.N) : (dats m 0 c).Φ t.castSucc = inv m c t.val (Nat.le_of_lt t.isLt) := by
  dsimp only [dats]; exact Pipeline.Dat.Φ_castSucc (inv m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rows3 m c t := by dsimp only [dats]
theorem after4 (c : Dev nD) (t : Fin cfg0.N) : (dats m 0 c).after 4 t = meta4 m c t := by dsimp only [dats]
theorem bef0 (c : Dev nD) (t : Fin cfg0.N) (d) : (dats m 0 c).before 0 t d = iblk m c 0 t :=
  before0_0_of m (dats m 0 c) (A_eq m c 0) (after0 m c) t d
theorem bef1 (c : Dev nD) (t : Fin cfg0.N) (d) : (dats m 0 c).before 1 t d = iblk m c 1 t :=
  before0_1_of m (dats m 0 c) (A_eq m c 1) (after1 m c) t d
theorem bef2 (c : Dev nD) (t : Fin cfg0.N) (d) : (dats m 0 c).before 2 t d = iblk m c 2 t :=
  before0_2_of m (dats m 0 c) (A_eq m c 2) (after2 m c) t d

/-- The meta rows' buffer is left alone exactly at the points that are not first. -/
theorem idle4 : ∀ t : Fin cfg0.N, cfg0.idle 4 (grid0.coords t) = !decide (t.val % 4 = 0) := by decide +kernel
/-- It holds nothing of its column block only at a first point. -/
def fresh4 : ℕ → Bool := fun n => decide (n % 4 = 0)
theorem fresh4_step : ∀ t : Fin cfg0.N,
    fresh4 (t.val + 1) = ((cfg0.win 4).flush t || (cfg0.idle 4 (cfg0.grid.coords t) && fresh4 t.val)) := by decide +kernel
theorem fresh4_eq (t : Fin cfg0.N) : cfg0.fresh 4 t.val = fresh4 t.val :=
  Pipeline.Cfg.fresh_tab cfg0 4 fresh4 rfl fresh4_step t.val (Nat.le_of_lt t.isLt)

/-- At a point that is not first the meta rows' buffer holds its column block's rows. -/
theorem bef4 (c : Dev nD) (t : Fin cfg0.N) (h : ¬t.val % 4 = 0) (d) : (dats m 0 c).before 4 t d = meta4 m c t := by
  rw [Dat.before_out_traj (dats m 0 c) 4 rfl (fun _ _ => rfl) (fun t hz _ hf => by
      rw [fresh4_eq t] at hf
      have h' : ¬t.val % 4 = 0 := by simpa [fresh4] using hf
      rw [after4, after4, meta4_pred m c t h']) t.val t rfl d,
    if_neg (by rw [fresh4_eq t]; simp [fresh4, h]), after4, meta4_pred m c t h]

/-- So handing it back as it was found is what the pipeline asks there, written back or not. -/
theorem leaves4 (c : Dev nD) (t : Fin cfg0.N) (h : ¬t.val % 4 = 0) (d) :
    owns (c : Thread nD τ) (b4 t) fullShare ((dats m 0 c).before 4 t d) ⊢ ((dats m 0 c).leavesExact 4 t : sProp 𝕄) := by
  have hi : cfg0.idle 4 (cfg0.grid.coords t) = true := by
    refine (idle4 t).trans ?_; simp [h]
  cases hf : (cfg0.win 4).flush t
  · rw [Dat.leavesExact_idle _ 4 t hi hf]
    iintro H; iexists d; iexact H
  · rw [show (dats m 0 c).leavesExact 4 t = owns (c : Thread nD τ) (b4 t) fullShare ((dats m 0 c).after 4 t) from by
      unfold Dat.leavesExact; rw [hi, hf], bef4 m c t h d, after4]

/-- What the body finds at a point, window by window, -/
def pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d)))

/-- and what it leaves. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 3200000 in
/-- The body's triple at every point. -/
theorem body (c : Dev nD) (t : Fin cfg0.N) :
    pre m c t ⊢ wp frame (wpE (defs₀ (F := F)) Variants.none c none) Set.univ (bodyAt0 t) (fun _ => post m c t) := by
  unfold pre post bodyAt0
  simp only [bef0, bef1, bef2]
  rw [show (dats m 0 c).owesAt () t.succ = (dats m 0 c).owesAt () t.castSucc from rfl,
    show (dats m 0 c).Φ t.succ = inv m c (t.val + 1) t.isLt from rfl, inv_succ, Φ_at m c t,
    show (dats m 0 c).leavesExact 0 t = owns (c : Thread nD τ) (b0 t) fullShare ((dats m 0 c).after 0 t) from rfl,
    show (dats m 0 c).leavesExact 1 t = owns (c : Thread nD τ) (b1 t) fullShare ((dats m 0 c).after 1 t) from rfl,
    show (dats m 0 c).leavesExact 2 t = owns (c : Thread nD τ) (b2 t) fullShare ((dats m 0 c).after 2 t) from rfl,
    show (dats m 0 c).leavesExact 3 t = owns (c : Thread nD τ) (b3 t) fullShare ((dats m 0 c).after 3 t) from rfl,
    after0, after1, after2, after3]
  by_cases h : t.val % 4 = 0
  · have hc := (first_iff t).mpr h
    rw [show (dats m 0 c).leavesExact 4 t = owns (c : Thread nD τ) (b4 t) fullShare ((dats m 0 c).after 4 t) from by
        unfold Dat.leavesExact; rw [show cfg0.idle 4 (cfg0.grid.coords t) = false from (idle4 t).trans (by simp [h])],
      after4, show rows3 m c t = _ from dif_pos hc, wts_first m c t h hc, meta4_first m c t h hc]
    iintro ⟨Hi, Ho, ⟨%d0, H0⟩, ⟨%d1, H1⟩, ⟨%d2, H2⟩, ⟨%d3, H3⟩, ⟨%d4, H4⟩⟩
    ihave Hl := (inv_lent m c t.val (Nat.le_of_lt t.isLt)) $$ Hi
    ihave Hl' := (Entails.of_eq (lent_eq c)) $$ Hl
    icases Hl' with ⟨Hs, Hg⟩
    iapply ((atA m c t hc).2.2.2 Set.univ _)
    isplitl [H0]; · iexact H0
    isplitl [H1]; · iexact H1
    isplitl [H2]; · iexact H2
    isplitl [H3]; · iexists _; iexact H3
    isplitl [H4]; · iexists _; iexact H4
    isplitl [Hs]; · iexact Hs
    iintro ⟨H0, H1, H2, ⟨%e3, H3⟩, ⟨%e4, H4⟩, ⟨%es, Hs⟩⟩
    isplitl [Hs Hg]
    · isplitl [Hs]
      · unfold owns; iexists _; isplitr
        swap; · iexact Hs
        ipureintro; exact View.read_writes_of_cover _ _ _ _ _ (coverAs m c t hc)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA3 m c t hc)
    unfold owns; iexists _; isplitr
    swap; · iexact H4
    ipureintro; exact View.read_writes_of_cover _ _ _ _ _ (coverA4 m c t hc)
  · have hc : ¬First (grid0.coords t) := fun e => h ((first_iff t).mp e)
    have hz : t.val ≠ 0 := fun e => h (by rw [e])
    rw [inv_pos m c t.val _ hz, wts_pred m c t h, show rows3 m c t = _ from dif_neg hc]
    iintro ⟨⟨Hs, Hg⟩, Ho, ⟨%d0, H0⟩, ⟨%d1, H1⟩, ⟨%d2, H2⟩, ⟨%d3, H3⟩, ⟨%d4, H4⟩⟩
    iapply ((atB m c t hc (wts m c t)).2 Set.univ _)
    isplitl [H0]; · iexact H0
    isplitl [H3]; · iexists _; iexact H3
    isplitl [Hs]; · iexact Hs
    iintro ⟨H0, ⟨%e3, H3⟩, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 m c t hc _)
    iapply (leaves4 m c t h d4); iexact H4

/-- The body table's row at a point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- Every run ends with the arrays the proof data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by
      rw [show (dats m 0 c).Φ 0 = inv m c 0 (Nat.zero_le _) from rfl, inv_zero m c 0 _ rfl])
    (hout := fun c => by
      rw [show (dats m 0 c).Φ (Fin.last cfg0.N) = inv m c cfg0.N (Nat.le_refl _) from rfl]
      exact inv_lent m c _ _)

theorem run : θ_run defs (onTc (τ := τ) (main (F := F))) (s₀ m ρ) (Pipeline.FramePost cfgs (dats m) 0 (V m)) :=
  (θ_run defs _ _).mono (fun _ h => h.1) (run_quiet m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiet m ρ))

end Cert.Kernel3Ideal.Hand

end
-- ==== Proof.InRows3.lean ====
/- What a point of the input-projection kernel leaves in its buffers, and the arrays at the end. -/
module

public import proofs.«01_k».proof.Proof.InVal3

@[expose] public section

set_option maxRecDepth 16384

noncomputable section

namespace Cert.InRows3

open Idealize.ShloMosaic Idealize.ShloMosaic.TcCoe Idealize.ShloMosaic.Tactic
open Cert.Kernel3Ideal Cert.Kernel3Ideal.Gen Cert.Kernel3Ideal.Hand Cert.InVal3
open Cert.InVal (at3 slab)
open Cert.InRows (whole2 cov2)

variable {sg : RefSig} {κ : Kind} {sp : Space}

/-- The weights' block without its leading axis. -/
def flat (X : Vec Ideal S1x2048x1024 .f32) : Vec Ideal S2048x1024 .bf16 := fun y => X (ix3 0 (y 0) (y 1))

variable (m : (ℓ : Loc nD τ sig) → Buf (Elt Ideal) ℓ) (c : Dev nD) (t : Fin cfg0.N)

theorem flat_eq (v : View sig κ sp S1x2048x1024 .f32) (X : Vec Ideal S1x2048x1024 .f32) (f : v.ty.Contents (Elt Ideal))
    (hf : v.read (Elt Ideal) f = X) (inb) :
    k0_pay6 (v.readAt (Elt Ideal) (Rect.unit (s := S1x2048x1024) ![0, 0, 0] ![1, 2048, 1024] inb).toLoadRect f) = flat X := by
  subst hf
  funext y
  pointwise [k0_pay6]
  show v.read (Elt Ideal) f ((Rect.unit (s := S1x2048x1024) ![0, 0, 0] ![1, 2048, 1024] inb).idx _) = v.read (Elt Ideal) f _
  congr 1
  funext e
  fin_cases e <;> exact Fin.ext (by simp [Rect.idx_unit_val])

theorem wtsA (hc : First (grid0.coords t)) : View.canon (atA m c t hc).2.2.1 = flat (iblk m c 2 t) := by
  unfold atA runA
  dsimp only
  unfold runA.sl.Hs_1
  funext y
  canon_tiles x h
  rw [flat_eq _ _ _ ((w2 t).read_unread (iblk m c 2 t))]
  congr 1
  funext a
  match a with
  | ⟨0, _⟩ => exact Fin.ext h0.symm
  | ⟨1, _⟩ => exact Fin.ext h1.symm

theorem v71 (hc : First (grid0.coords t)) : runA.sl.v71 c (b2 t) (w2 t) bs (iblk m c 2 t) = flat (iblk m c 2 t) := by
  have e := wtsA m c t hc
  unfold atA runA at e
  dsimp only at e
  unfold runA.sl.v71
  exact (cov2 _ _ _).trans e

theorem r2 (hc : First (grid0.coords t)) :
    runA.sl.r_2 c (b0 t) (w0 t) (b2 t) (w2 t) bs (iblk m c 0 t) (iblk m c 2 t) = k0_pay18 (iblk m c 0 t) (flat (iblk m c 2 t)) := by
  unfold runA.sl.r_2
  rw [v71 m c t hc]
  exact congrArg (fun X => k0_pay18 X _) (whole2 _ _ _ ((w0 t).read_unread (iblk m c 0 t)) _)

theorem r3 (hc : First (grid0.coords t)) :
    runA.sl.r_3 c (grid0.coords t) (b0 t) (w0 t) (b2 t) (w2 t) bs (iblk m c 0 t) (iblk m c 2 t)
      = k0_pay22 (grid0.coords t) (iblk m c 0 t) (flat (iblk m c 2 t)) := by
  unfold runA.sl.r_3
  rw [v71 m c t hc]
  exact congrArg (fun X => k0_pay22 _ X _) (whole2 _ _ _ ((w0 t).read_unread (iblk m c 0 t)) _)

/-- The rows a first point leaves. -/
theorem rowsA (hc : First (grid0.coords t)) (Y : S8x2048x128.Idx) (n : ℕ) (r : Fin 2048) (d : Fin 128)
    (hn : n = (Y 0).val) (hr : r.val = (Y 1).val) (hd : d.val = (Y 2).val) :
    View.canon (atA m c t hc).1 Y
      = slab (iblk m c 0 t) (flat (iblk m c 2 t)) (k0_pay12 (F := Ideal) (grid0.coords t)) n r d.val := by
  have e0 := whole2 _ _ _ ((w0 t).read_unread (iblk m c 0 t)) inb_S2048x2048_S2048x2048_0_0
  have e2 := v71 m c t hc
  have e3 := r2 m c t hc
  have e4 := r3 m c t hc
  unfold atA runA
  dsimp only
  canon_tiles x h
  · obtain rfl : n = 7 := by omega
    rw [e3]; exact p7 _ _ _ _ rfl x r d (by omega) (by omega)
  · obtain rfl : n = 6 := by omega
    rw [e3]; exact p6 _ _ _ _ rfl x r d (by omega) (by omega)
  · obtain rfl : n = 5 := by omega
    rw [e3]; exact p5 _ _ _ _ rfl x r d (by omega) (by omega)
  · obtain rfl : n = 4 := by omega
    rw [e3]; exact p4 _ _ _ _ rfl x r d (by omega) (by omega)
  · obtain rfl : n = 3 := by omega
    rw [e4]; exact p3 _ _ _ x r d (by omega) (by omega)
  · obtain rfl : n = 2 := by omega
    rw [e0, e2]; exact p2 _ _ _ x r d (by omega) (by omega)
  · obtain rfl : n = 1 := by omega
    rw [e0, e2]; exact p1 _ _ _ x r d (by omega) (by omega)
  · obtain rfl : n = 0 := by omega
    rw [e0, e2]; exact p0 _ _ _ x r d (by omega) (by omega)

/-- The rows another point leaves, the scratch at `xs`. -/
theorem rowsB (hc : ¬First (grid0.coords t)) (xs : Vec Ideal S2048x1024 .bf16) (Y : S8x2048x128.Idx) (n : ℕ) (r : Fin 2048)
    (d : Fin 128) (hn : n = (Y 0).val) (hr : r.val = (Y 1).val) (hd : d.val = (Y 2).val) :
    View.canon (atB m c t hc xs).1 Y = slab (iblk m c 0 t) xs (k0_pay12 (F := Ideal) (grid0.coords t)) n r d.val := by
  have e0 := whole2 _ _ _ ((w0 t).read_unread (iblk m c 0 t)) inb_S2048x2048_S2048x2048_0_0
  have e2 := whole2 _ _ _ (ws.read_unread xs) inb_S2048x1024_S2048x1024_0_0
  have e3 : runB.sl.r c (b0 t) (w0 t) bs ws (iblk m c 0 t) xs = k0_pay18 (iblk m c 0 t) xs := by
    unfold runB.sl.r
    exact congrArg₂ k0_pay18 e0 e2
  have e4 : runB.sl.r_1 c (grid0.coords t) (b0 t) (w0 t) bs ws (iblk m c 0 t) xs = k0_pay22 (grid0.coords t) (iblk m c 0 t) xs := by
    unfold runB.sl.r_1
    exact congrArg₂ (k0_pay22 (grid0.coords t)) e0 e2
  unfold atB runB
  dsimp only
  canon_tiles x h
  · obtain rfl : n = 7 := by omega
    rw [e3]; exact p7 _ _ _ _ rfl x r d (by omega) (by omega)
  · obtain rfl : n = 6 := by omega
    rw [e3]; exact p6 _ _ _ _ rfl x r d (by omega) (by omega)
  · obtain rfl : n = 5 := by omega
    rw [e3]; exact p5 _ _ _ _ rfl x r d (by omega) (by omega)
  · obtain rfl : n = 4 := by omega
    rw [e3]; exact p4 _ _ _ _ rfl x r d (by omega) (by omega)
  · obtain rfl : n = 3 := by omega
    rw [e4]; exact p3 _ _ _ x r d (by omega) (by omega)
  · obtain rfl : n = 2 := by omega
    exact (congrFun (congrArg₂ (k0_pay21 (grid0.coords t)) e0 e2) x).trans (p2 _ _ _ x r d (by omega) (by omega))
  · obtain rfl : n = 1 := by omega
    exact (congrFun (congrArg₂ (k0_pay20 (grid0.coords t)) e0 e2) x).trans (p1 _ _ _ x r d (by omega) (by omega))
  · obtain rfl : n = 0 := by omega
    exact (congrFun (congrArg₂ (k0_pay19 (grid0.coords t)) e0 e2) x).trans (p0 _ _ _ x r d (by omega) (by omega))

theorem rr (hc : First (grid0.coords t)) :
    runA.sl.r c (b1 t) (w1 t) (b2 t) (w2 t) bs (iblk m c 1 t) (iblk m c 2 t) = k0_pay7 (iblk m c 1 t) (flat (iblk m c 2 t)) := by
  unfold runA.sl.r
  rw [v71 m c t hc]
  exact congrArg (fun X => k0_pay7 X _) (whole2 _ _ _ ((w1 t).read_unread (iblk m c 1 t)) _)

theorem rr1 (hc : First (grid0.coords t)) :
    runA.sl.r_1 c (grid0.coords t) (b1 t) (w1 t) (b2 t) (w2 t) bs (iblk m c 1 t) (iblk m c 2 t)
      = k0_pay11 (k0_pay12 (F := Ideal) (grid0.coords t)) (iblk m c 1 t) (flat (iblk m c 2 t)) := by
  unfold runA.sl.r_1
  rw [v71 m c t hc]
  exact congrArg (fun X => k0_pay11 _ X _) (whole2 _ _ _ ((w1 t).read_unread (iblk m c 1 t)) _)

/-- The meta rows a first point leaves. -/
theorem metaA (hc : First (grid0.coords t)) (Y : S8x64x128.Idx) (n : ℕ) (r : Fin 64) (d : Fin 128)
    (hn : n = (Y 0).val) (hr : r.val = (Y 1).val) (hd : d.val = (Y 2).val) :
    View.canon (atA m c t hc).2.1 Y
      = slab (iblk m c 1 t) (flat (iblk m c 2 t)) (k0_pay12 (F := Ideal) (grid0.coords t)) n r d.val := by
  have e0 := whole2 _ _ _ ((w1 t).read_unread (iblk m c 1 t)) inb_S64x2048_S64x2048_0_0
  have e2 := v71 m c t hc
  have e3 := rr m c t hc
  have e4 := rr1 m c t hc
  unfold atA runA
  dsimp only
  canon_tiles x h
  · obtain rfl : n = 7 := by omega
    rw [e3]; exact m7 _ _ _ _ rfl x r d (by omega) (by omega)
  · obtain rfl : n = 6 := by omega
    rw [e3]; exact m6 _ _ _ _ rfl x r d (by omega) (by omega)
  · obtain rfl : n = 5 := by omega
    rw [e3]; exact m5 _ _ _ _ rfl x r d (by omega) (by omega)
  · obtain rfl : n = 4 := by omega
    rw [e3]; exact m4 _ _ _ _ rfl x r d (by omega) (by omega)
  · obtain rfl : n = 3 := by omega
    rw [e4]; exact m3 _ _ _ x r d (by omega) (by omega)
  · obtain rfl : n = 2 := by omega
    rw [e0, e2]; exact m2 _ _ _ x r d (by omega) (by omega)
  · obtain rfl : n = 1 := by omega
    rw [e0, e2]; exact m1 _ _ _ x r d (by omega) (by omega)
  · obtain rfl : n = 0 := by omega
    rw [e0, e2]; exact m0 _ _ _ x r d (by omega) (by omega)

/-- The rounded weights a column block leaves in the scratch. -/
theorem wts_eq : wts m c t = flat (iblk m c 2 (base t)) :=
  (View.read_writes_junk_eq_canon _ _).trans (wtsA m c (base t) (base_first t))

theorem idx2 : ∀ t : Fin grid0.N, win0_2.index t = ![0, 0, t.val / 4] := by decide +kernel

/-- The points of one column block read the same weights. -/
theorem wts_same : iblk m c 2 (base t) = iblk m c 2 t := by
  funext y
  blk_ext [iblk, idx2 t, idx2 (base t)]
  simp only [base]
  omega

end Cert.InRows3

end
-- ==== Proof.InRef3.lean ====
/- The input projection's reference, read at an index. -/
module

public import proofs.«01_k».proof.Proof.Gen.Reference3Ideal.Read
public import proofs.«01_k».proof.Proof.InVal3

@[expose] public section

set_option maxRecDepth 16384

noncomputable section

namespace Cert.InRef3

open Idealize.ShloMosaic Idealize.ShloMosaic.TcCoe Idealize.ShloMosaic.Tactic
open Cert.Reference3Ideal Cert.Reference3Ideal.Gen Cert.Reference3Ideal.Read
open Cert.InRef (scale)

/-- Row `r` of the product at column `128 * h + d`, with its factor. -/
def proj {M : ℕ} (X : Vec Ideal ⟨2, ![M, 2048]⟩ .bf16) (W : Vec Ideal S1x2048x8192 .f32) (h : ℕ) (r : Fin M) (d : ℕ) : EReal :=
  (∑ k : Fin 2048, (X (ix2 r k) : EReal) * if g : 128 * h + d < 8192 then W (ix3 0 k ⟨128 * h + d, g⟩) else 0) * scale h

variable (x0 : Vec Ideal S8192x2048 .bf16) (x1 : Vec Ideal S64x2048 .bf16) (x2 : Vec Ideal S1x2048x8192 .f32)

theorem dot0 (r : Fin 8192) (h d : ℕ) (g : 128 * h + d < 8192) (j : S8192x8192.Idx) (h0 : (j 0).val = r.val)
    (h1 : (j 1).val = 128 * h + d) :
    (val_main_v1 (F := Ideal) x0 x2 j : EReal)
      = ∑ k : Fin 2048, (x0 (ix2 r k) : EReal) * if g : 128 * h + d < 8192 then x2 (ix3 0 k ⟨128 * h + d, g⟩) else 0 := by
  rw [val_main_v1_apply]
  simp only [dif_pos g, val_main_v0_apply]
  refine Finset.sum_congr rfl fun k _ => ?_
  congr 1
  · congr 1
    funext a
    match a with
    | ⟨0, _⟩ => exact Fin.ext h0
    | ⟨1, _⟩ => rfl
  · congr 1
    funext a
    have hk := k.isLt
    match a with
    | ⟨0, _⟩ => rfl
    | ⟨1, _⟩ => exact Fin.ext (show (k.val * 8192 + (j 1).val) / 8192 % 2048 = k.val by omega)
    | ⟨2, _⟩ => exact Fin.ext (show (k.val * 8192 + (j 1).val) % 8192 = 128 * h + d by omega)

/-- The first result at an index. -/
theorem ref0 (i : S64x8192x128.Idx) (h d : ℕ) (r : Fin 8192) (hh : h = (i 0).val) (hr : r.val = (i 1).val) (hd : d = (i 2).val) :
    (val_main_v9 (F := Ideal) x0 x2 i : EReal) = proj x0 x2 h r d := by
  have b0 : (i 0).val < 64 := (i 0).isLt
  have b1 : (i 1).val < 8192 := (i 1).isLt
  have b2 : (i 2).val < 128 := (i 2).isLt
  rw [val_main_v9_apply, val_main_v8_apply, val_main_v7_apply]
  unfold proj scale
  have e0 : (idx_main_v7 (idx_main_v8 i) 0).val = r.val := by
    show (((i 1).val * 64 + (i 0).val) * 128 + (i 2).val) / 8192 = _
    omega
  have e1 : (idx_main_v7 (idx_main_v8 i) 1).val = 128 * h + d := by
    show (((i 1).val * 64 + (i 0).val) * 128 + (i 2).val) % 8192 = _
    omega
  generalize idx_main_v7 (idx_main_v8 i) = j at e0 e1
  show (val_main_v6 (F := Ideal) x0 x2 j : EReal) = _
  unfold val_main_v6
  by_cases c : h < 16
  · rw [if_pos c]
    refine (concatenate_pair_apply_left (1 : Fin S8192x8192.rank) _ _ concatenates_S8192x2048_S8192x6144_S8192x8192_d1 j rfl
      (ix2 r ⟨128 * h + d, by omega⟩) fun b => ?_).trans ?_
    · match b with
      | ⟨0, _⟩ => exact e0.symm
      | ⟨1, _⟩ => exact e1.symm
    rw [val_main_v5_apply, val_main_v2_apply, val_main_v4_apply, val_main_cst_apply]
    show (val_main_v1 (F := Ideal) x0 x2 _ : EReal) * Ideal.ofBits .f32 0x3E0293EE#32 = _
    rw [dot0 x0 x2 r h d (by omega) _ rfl rfl]
  · rw [if_neg c, mul_one]
    refine (concatenate_pair_apply_right (1 : Fin S8192x8192.rank) _ _ concatenates_S8192x2048_S8192x6144_S8192x8192_d1 j rfl rfl
      (ix2 r ⟨128 * h + d - 2048, by omega⟩) (fun b hb => ?_) ?_).trans ?_
    · match b with
      | ⟨0, _⟩ => exact e0.symm
      | ⟨1, _⟩ => exact absurd rfl hb
    · show 128 * h + d - 2048 + 2048 = _
      omega
    rw [val_main_v3_apply]
    exact dot0 x0 x2 r h d (by omega) _ rfl (show 2048 + (128 * h + d - 2048) = _ by omega)

theorem dot1 (r : Fin 64) (h d : ℕ) (g : 128 * h + d < 8192) (j : S64x8192.Idx) (h0 : (j 0).val = r.val)
    (h1 : (j 1).val = 128 * h + d) :
    (val_main_v11 (F := Ideal) x1 x2 j : EReal)
      = ∑ k : Fin 2048, (x1 (ix2 r k) : EReal) * if g : 128 * h + d < 8192 then x2 (ix3 0 k ⟨128 * h + d, g⟩) else 0 := by
  rw [val_main_v11_apply]
  simp only [dif_pos g, val_main_v10_apply]
  refine Finset.sum_congr rfl fun k _ => ?_
  congr 1
  · congr 1
    funext a
    match a with
    | ⟨0, _⟩ => exact Fin.ext h0
    | ⟨1, _⟩ => rfl
  · congr 1
    funext a
    have hk := k.isLt
    match a with
    | ⟨0, _⟩ => rfl
    | ⟨1, _⟩ => exact Fin.ext (show (k.val * 8192 + (j 1).val) / 8192 % 2048 = k.val by omega)
    | ⟨2, _⟩ => exact Fin.ext (show (k.val * 8192 + (j 1).val) % 8192 = 128 * h + d by omega)

/-- The second result at an index. -/
theorem ref1 (i : S64x64x128.Idx) (h d : ℕ) (r : Fin 64) (hh : h = (i 0).val) (hr : r.val = (i 1).val) (hd : d = (i 2).val) :
    (val_main_v19 (F := Ideal) x1 x2 i : EReal) = proj x1 x2 h r d := by
  have b0 : (i 0).val < 64 := (i 0).isLt
  have b1 : (i 1).val < 64 := (i 1).isLt
  have b2 : (i 2).val < 128 := (i 2).isLt
  rw [val_main_v19_apply, val_main_v18_apply, val_main_v17_apply]
  unfold proj scale
  have e0 : (idx_main_v17 (idx_main_v18 i) 0).val = r.val := by
    show (((i 1).val * 64 + (i 0).val) * 128 + (i 2).val) / 8192 = _
    omega
  have e1 : (idx_main_v17 (idx_main_v18 i) 1).val = 128 * h + d := by
    show (((i 1).val * 64 + (i 0).val) * 128 + (i 2).val) % 8192 = _
    omega
  generalize idx_main_v17 (idx_main_v18 i) = j at e0 e1
  show (val_main_v16 (F := Ideal) x1 x2 j : EReal) = _
  unfold val_main_v16
  by_cases c : h < 16
  · rw [if_pos c]
    refine (concatenate_pair_apply_left (1 : Fin S64x8192.rank) _ _ concatenates_S64x2048_S64x6144_S64x8192_d1 j rfl
      (ix2 r ⟨128 * h + d, by omega⟩) fun b => ?_).trans ?_
    · match b with
      | ⟨0, _⟩ => exact e0.symm
      | ⟨1, _⟩ => exact e1.symm
    rw [val_main_v15_apply, val_main_v12_apply, val_main_v14_apply, val_main_cst_0_apply]
    show (val_main_v11 (F := Ideal) x1 x2 _ : EReal) * Ideal.ofBits .f32 0x3E0293EE#32 = _
    rw [dot1 x1 x2 r h d (by omega) _ rfl rfl]
  · rw [if_neg c, mul_one]
    refine (concatenate_pair_apply_right (1 : Fin S64x8192.rank) _ _ concatenates_S64x2048_S64x6144_S64x8192_d1 j rfl rfl
      (ix2 r ⟨128 * h + d - 2048, by omega⟩) (fun b hb => ?_) ?_).trans ?_
    · match b with
      | ⟨0, _⟩ => exact e0.symm
      | ⟨1, _⟩ => exact absurd rfl hb
    · show 128 * h + d - 2048 + 2048 = _
      omega
    rw [val_main_v13_apply]
    exact dot1 x1 x2 r h d (by omega) _ rfl (show 2048 + (128 * h + d - 2048) = _ by omega)

end Cert.InRef3

end
-- ==== Proof.InArr3.lean ====
/- The input projection's two arrays after a run, and the equality with the reference. -/
module

public import proofs.«01_k».proof.Defs
public import proofs.«01_k».proof.Proof.InRows3
public import proofs.«01_k».proof.Proof.InRef3
public import proofs.«01_k».proof.Proof.Gen.Reference3Ideal.Run

@[expose] public section

set_option maxRecDepth 16384

noncomputable section

namespace Cert.InArr3

open Idealize.ShloMosaic Idealize.ShloMosaic.TcCoe Idealize.ShloMosaic.Tactic Idealize.SL.Sem
open Cert.Kernel3Ideal Cert.Kernel3Ideal.Gen Cert.Kernel3Ideal.Hand Cert.InVal3 Cert.InRows3 Cert.InRef3
open Cert.InVal (at3 slab)
open Cert.InRef (scale)

variable (m : (ℓ : Loc nD τ sig) → Buf (Elt Ideal) ℓ) (ρ : Dev nD → PrngReg) (c : Dev nD) (t : Fin cfg0.N)

theorem idx0 : ∀ t : Fin grid0.N, win0_0.index t = ![t.val % 4, 0] := by decide +kernel
theorem idx1 : ∀ t : Fin grid0.N, win0_1.index t = ![0, 0] := by decide +kernel
theorem idx3 : ∀ t : Fin grid0.N, win0_3.index t = ![t.val / 4, t.val % 4, 0] := by decide +kernel
theorem idx4 : ∀ t : Fin grid0.N, win0_4.index t = ![t.val / 4, 0, 0] := by decide +kernel

theorem pay12_bit : ∀ t : Fin grid0.N,
    Scalar.cmpi .slt (BitVec.ofNat 32 (grid0.coords t 0).val) 2#32 = if t.val / 4 < 2 then 1#1 else 0#1 := by decide +kernel

/-- The factor the kernel takes at a point. -/
theorem pay12 : (k0_pay12 (F := Ideal) (grid0.coords t) : EReal) = if t.val / 4 < 2 then Ideal.ofBits .f32 0x3E0293EE#32 else 1 := by
  unfold k0_pay12
  dsimp only
  rw [pay12_bit t]
  split
  · rfl
  · show Ideal.ofBits .f32 0x3F800000#32 = 1
    simp [Ideal.ofBits, Ideal.ieee]
    rw [← EReal.coe_mul]
    norm_num

/-- A block's column of the product is the whole product's column. -/
theorem slab_proj {M M' : ℕ} (xb : Vec Ideal ⟨2, ![M, 2048]⟩ .bf16) (X : Vec Ideal ⟨2, ![M', 2048]⟩ .bf16) (n h : ℕ) (r : Fin M)
    (r' : Fin M') (d : ℕ) (hn : n < 8) (hd : d < 128) (hh : h = 8 * (t.val / 4) + n) (hx : ∀ k, xb (ix2 r k) = X (ix2 r' k)) :
    slab xb (flat (iblk m c 2 t)) (k0_pay12 (F := Ideal) (grid0.coords t)) n r d
      = proj X (m ((c.tc : Thread nD τ).loc main_arg2)) h r' d := by
  have ht : t.val < 32 := t.isLt
  unfold slab proj scale
  rw [pay12]
  congr 1
  · refine Finset.sum_congr rfl fun k _ => ?_
    rw [hx k, dif_pos (by omega), dif_pos (by omega)]
    congr 1
    unfold flat
    blk_ext [iblk, V, idx2 t]
  · subst hh
    by_cases q : t.val / 4 < 2
    · rw [if_pos q, if_pos (by omega)]
    · rw [if_neg q, if_neg (by omega)]

/-- What a point leaves in the rows' buffer. -/
theorem rows_eq (Y : S8x2048x128.Idx) (n h : ℕ) (r : Fin 2048) (r' : Fin 8192) (d : Fin 128) (hn : n = (Y 0).val)
    (hr : r.val = (Y 1).val) (hd : d.val = (Y 2).val) (hh : h = 8 * (t.val / 4) + n) (hr' : r'.val = 2048 * (t.val % 4) + r.val) :
    (rows3 m c t Y : EReal) = proj (m ((c.tc : Thread nD τ).loc main_arg0)) (m ((c.tc : Thread nD τ).loc main_arg2)) h r' d.val := by
  have b0 : (Y 0).val < 8 := (Y 0).isLt
  have hx : ∀ k, (iblk m c 0 t : Vec Ideal S2048x2048 .bf16) (ix2 r k) = m ((c.tc : Thread nD τ).loc main_arg0) (ix2 r' k) := fun k => by
    blk_ext [iblk, V, idx0 t]
  unfold rows3
  split
  · next hc =>
    rw [View.read_writes_junk_eq_canon, rowsA m c t hc Y n r d hn hr hd]
    exact slab_proj m c t _ _ n h r r' d.val (by omega) d.isLt hh hx
  · next hc =>
    rw [View.read_writes_junk_eq_canon, rowsB m c t hc _ Y n r d hn hr hd, wts_eq, wts_same]
    exact slab_proj m c t _ _ n h r r' d.val (by omega) d.isLt hh hx

/-- What the column block's first point leaves in the meta rows' buffer. -/
theorem meta_eq (Y : S8x64x128.Idx) (n h : ℕ) (r : Fin 64) (d : Fin 128) (hn : n = (Y 0).val)
    (hr : r.val = (Y 1).val) (hd : d.val = (Y 2).val) (hh : h = 8 * (t.val / 4) + n) :
    (meta4 m c t Y : EReal) = proj (m ((c.tc : Thread nD τ).loc main_arg1)) (m ((c.tc : Thread nD τ).loc main_arg2)) h r d.val := by
  have b0 : (Y 0).val < 8 := (Y 0).isLt
  unfold meta4
  rw [View.read_writes_junk_eq_canon, metaA m c (base t) (base_first t) Y n r d hn hr hd]
  refine slab_proj m c (base t) _ _ n h r r d.val (by omega) d.isLt ?_ fun k => ?_
  · simp only [base]; omega
  · blk_ext [iblk, V, idx1 (base t)]

/-- The rows' array after a run. -/
def G3 : Vec Ideal S64x8192x128 .bf16 := fun i =>
  proj (m ((c.tc : Thread nD τ).loc main_arg0)) (m ((c.tc : Thread nD τ).loc main_arg2)) (i 0).val (i 1) (i 2).val
/-- The meta rows' array after a run. -/
def G4 : Vec Ideal S64x64x128 .bf16 := fun i =>
  proj (m ((c.tc : Thread nD τ).loc main_arg1)) (m ((c.tc : Thread nD τ).loc main_arg2)) (i 0).val (i 1) (i 2).val

theorem arr3 : (dats m 0 c).arrAt 3 cfg0.N = G3 m c := by
  refine (dats m 0 c).arrAt_eq_of_covers 3 _ (by decide +kernel) fun t hf y => ?_
  blk_simp
  rw [after3]
  have e' : ((win0_3.blk t).view.emb y 2).val = (y 2).val := by
    blk_simp [idx3 t]
    try omega
  refine (rows_eq m c t y (y 0).val ((win0_3.blk t).view.emb y 0).val (y 1) ((win0_3.blk t).view.emb y 1) (y 2) rfl rfl rfl ?_ ?_).trans ?_
  · blk_simp [idx3 t]
    omega
  · blk_simp [idx3 t]
    omega
  unfold G3
  rw [e']

theorem arr4 : (dats m 0 c).arrAt 4 cfg0.N = G4 m c := by
  refine (dats m 0 c).arrAt_eq_of_covers 4 _ (by decide +kernel) fun t hf y => ?_
  blk_simp
  rw [after4]
  have e : ((win0_4.blk t).view.emb y 1 : Fin 64) = y 1 := Fin.ext (by
    blk_simp [idx4 t]
    try omega)
  have e' : ((win0_4.blk t).view.emb y 2).val = (y 2).val := by
    blk_simp [idx4 t]
    try omega
  refine (meta_eq m c t y (y 0).val ((win0_4.blk t).view.emb y 0).val (y 1) (y 2) rfl rfl rfl ?_).trans ?_
  · blk_simp [idx4 t]
    omega
  unfold G4
  rw [e, e']

/-- The two programs end with equal arrays. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => G3 m c, fun c => G4 m c, ?_, ?_⟩
  · refine (θ_run _ _ _).mono (fun r h c => ?_) (θ_run_and (Cert.Kernel3Ideal.Hand.run m g) (Cert.Kernel3Ideal.Hand.frame m g))
    obtain ⟨h, h'⟩ := h
    exact ⟨((h c).1 3).trans (arr3 m c), ((h c).1 4).trans (arr4 m c), h'.1 c⟩
  · refine (θ_run _ _ _).mono (fun r h c => ?_) (Cert.Reference3Ideal.Value.run (F := Ideal) m' g')
    obtain ⟨h0, h1, h2⟩ := h c
    obtain ⟨a0, a1, a2⟩ := hargs c
    refine ⟨h0.trans ?_, h1.trans ?_, h2⟩
    · rw [a0, a2]
      exact (Cert.Reference3Ideal.Read.val_main_v9_eq _ _).trans (funext fun i => ref0 _ _ i _ _ _ rfl rfl rfl)
    · rw [a1, a2]
      exact (Cert.Reference3Ideal.Read.val_main_v19_eq _ _).trans (funext fun i => ref1 _ _ i _ _ _ rfl rfl rfl)

end Cert.InArr3

end
-- ==== Proof.Inproj4.lean ====
/- The frame of the first layer's input-projection kernel: its grid has eight token blocks per block of columns. The first of them
   rounds the weights into the scratch and writes the meta rows; the other seven find the scratch as it was left and
   do not touch the meta rows' buffer, which the last of them writes back. -/
module

public import proofs.«01_k».proof.Proof.Gen.Kernel4Ideal.Frame
public import proofs.«01_k».proof.Proof.Gen.Kernel4Ideal.Skeleton
public import Idealize.ShloMosaic.Lib.Pipeline.TableIdle
public import Idealize.ShloMosaic.Lib.Claim

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at a point. -/
abbrev First (i : grid0.Coords) : Prop := k0_cond1 i = 1#1

/-- It is taken at the first token block of every column block. -/
theorem first_iff : ∀ t : Fin cfg0.N, First (grid0.coords t) ↔ t.val % 8 = 0 :=
  (by decide +kernel : ∀ t : Fin grid0.N, First (grid0.coords t) ↔ t.val % 8 = 0)

/-- The first point of the column block that point `t` works on. -/
def base (t : Fin cfg0.N) : Fin cfg0.N := ⟨t.val - t.val % 8, Nat.lt_of_le_of_lt (Nat.sub_le _ _) t.isLt⟩

theorem base_first (t : Fin cfg0.N) : First (grid0.coords (base t)) :=
  (first_iff _).mpr (by simp only [base]; omega)

theorem base_of_first (t : Fin cfg0.N) (h : t.val % 8 = 0) : base t = t := by
  apply Fin.ext; simp only [base]; omega

theorem base_pred (t : Fin cfg0.N) (h : ¬t.val % 8 = 0) :
    base ⟨t.val - 1, Nat.lt_of_le_of_lt (Nat.sub_le _ _) t.isLt⟩ = base t := by
  apply Fin.ext; simp only [base]; omega

/-- The staging buffers at a point. -/
abbrev b0 (t : Fin cfg0.N) : Memref sig .tc .vmem S1024x2048 .f32 := win0_0.stage (cfg0.slots t 0)
theorem w0 (t : Fin cfg0.N) : (b0 t).IsWhole := hstage0_0 ((cfg0.slots t 0).cast nbuf0_0)
abbrev b1 (t : Fin cfg0.N) : Memref sig .tc .vmem S64x2048 .f32 := win0_1.stage (cfg0.slots t 1)
theorem w1 (t : Fin cfg0.N) : (b1 t).IsWhole := hstage0_1 ((cfg0.slots t 1).cast nbuf0_1)
abbrev b2 (t : Fin cfg0.N) : Memref sig .tc .vmem S1x2048x1024 .f32 := win0_2.stage (cfg0.slots t 2)
theorem w2 (t : Fin cfg0.N) : (b2 t).IsWhole := hstage0_2 ((cfg0.slots t 2).cast nbuf0_2)
abbrev b3 (t : Fin cfg0.N) : Memref sig .tc .vmem S8x1024x128 .bf16 := win0_3.stage (cfg0.slots t 3)
theorem w3 (t : Fin cfg0.N) : (b3 t).IsWhole := hstage0_3 ((cfg0.slots t 3).cast nbuf0_3)
abbrev b4 (t : Fin cfg0.N) : Memref sig .tc .vmem S8x64x128 .bf16 := win0_4.stage (cfg0.slots t 4)
theorem w4 (t : Fin cfg0.N) : (b4 t).IsWhole := hstage0_4 ((cfg0.slots t 4).cast nbuf0_4)
/-- The scratch that holds the rounded weights. -/
abbrev bs : Memref sig .tc .vmem S2048x1024 .bf16 := Memref.whole cc0_scratch0
theorem ws : (bs).IsWhole := Memref.isWhole_whole _

/-- Buffers through which contents are stated. -/
abbrev R3 : View sig .tc .vmem S8x1024x128 .bf16 := (Memref.whole cc0_stg3_0 : Memref sig .tc .vmem S8x1024x128 .bf16).view
abbrev R4 : View sig .tc .vmem S8x64x128 .bf16 := (Memref.whole cc0_stg4_0 : Memref sig .tc .vmem S8x64x128 .bf16).view
abbrev Rs : View sig .tc .vmem S2048x1024 .bf16 := (bs).view

/-- What the region lends beside the windows: the scratch at some contents and the generator register. -/
theorem lent_eq (c : Dev nD) :
    (Pipeline.ΦA spec0 c : sProp 𝕄)
      = iprop(iprop((∃ d, owns (c : Thread nD τ) bs fullShare d)) ∗ (∃ r, prngReg c r)) := by
  unfold Pipeline.ΦA; rw [scopedRest0_eq]; simp only [bs, owns_whole]; try rfl

set_option maxHeartbeats 1000000 in
/-- The body at a first point: the pieces its stores leave in the two outputs and in the scratch. -/
noncomputable def runA (c : Dev nD) (i : grid0.Coords)
    (a2 : Memref sig .tc .vmem S1024x2048 .f32) (h2 : a2.IsWhole) (a3 : Memref sig .tc .vmem S64x2048 .f32) (h3 : a3.IsWhole)
    (a4 : Memref sig .tc .vmem S1x2048x1024 .f32) (h4 : a4.IsWhole) (a5 : Memref sig .tc .vmem S8x1024x128 .bf16) (h5 : a5.IsWhole)
    (a6 : Memref sig .tc .vmem S8x64x128 .bf16) (h6 : a6.IsWhole) (a7 : Memref sig .tc .vmem S2048x1024 .bf16) (h7 : a7.IsWhole)
    (hc : First i) (x0 : Vec F S1024x2048 .f32) (x1 : Vec F S64x2048 .f32) (x2 : Vec F S1x2048x1024 .f32) :
    Σ' (L3 : List (View.Piece (Elt F) S8x1024x128 .bf16)), Σ' (L4 : List (View.Piece (Elt F) S8x64x128 .bf16)),
      { Ls : List (View.Piece (Elt F) S2048x1024 .bf16) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d) ∗ (∃ d, owns (c : Thread nD τ) a7 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f Ls)) -∗ K ⟨⟩))
          ⊢ wp frame (wpE (defs₀ (F := F)) Variants.none c none) E (cc0_inproj i a2 h2 a3 h3 a4 h4 a5 h5 a6 h6 a7 h7) K } := by
  refine ⟨?_, ?_, ?_, fun E K => ?run⟩
  case run =>
    simp only [cc0_inproj_eq_skeleton]; unfold cc0_inproj_skel
    simp only [k0_part1_eq_skeleton, k0_part2_eq_skeleton]
    unfold owns
    iintro ⟨⟨%f0, %e0, H0⟩, ⟨%f1, %e1, H1⟩, ⟨%f2, %e2, H2⟩, ⟨%d3, %f3, -, H3⟩, ⟨%d4, %f4, -, H4⟩, ⟨%ds, %fs, -, Hs⟩, Hk⟩
    obtain rfl := h2.eq_unread e0; obtain rfl := h3.eq_unread e1; obtain rfl := h4.eq_unread e2
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]; · iexists _; iexact H4
    iexists _; iexact Hs

set_option maxHeartbeats 1000000 in
/-- The body at any other point: the scratch is read at what it holds, the meta rows' buffer is not touched. -/
noncomputable def runB (c : Dev nD) (i : grid0.Coords)
    (a2 : Memref sig .tc .vmem S1024x2048 .f32) (h2 : a2.IsWhole) (a3 : Memref sig .tc .vmem S64x2048 .f32) (h3 : a3.IsWhole)
    (a4 : Memref sig .tc .vmem S1x2048x1024 .f32) (h4 : a4.IsWhole) (a5 : Memref sig .tc .vmem S8x1024x128 .bf16) (h5 : a5.IsWhole)
    (a6 : Memref sig .tc .vmem S8x64x128 .bf16) (h6 : a6.IsWhole) (a7 : Memref sig .tc .vmem S2048x1024 .bf16) (h7 : a7.IsWhole)
    (hc : ¬First i) (x0 : Vec F S1024x2048 .f32) (xs : Vec F S2048x1024 .bf16) :
    { L3 : List (View.Piece (Elt F) S8x1024x128 .bf16) //
      ∀ (E : Set ℕ) (K : PUnit → sProp 𝕄),
        iprop(owns (c : Thread nD τ) a2 fullShare x0 ∗ (∃ d, owns (c : Thread nD τ) a5 fullShare d) ∗ owns (c : Thread nD τ) a7 fullShare xs
            ∗ (iprop(owns (c : Thread nD τ) a2 fullShare x0
                ∗ (∃ f, a5.view.loc (c : Thread nD τ) ↦[a5.view.set]{fullShare} a5.view.writes (Elt F) f L3)
                ∗ owns (c : Thread nD τ) a7 fullShare xs) -∗ K ⟨⟩))
          ⊢ wp frame (wpE (defs₀ (F := F)) Variants.none c none) E (cc0_inproj i a2 h2 a3 h3 a4 h4 a5 h5 a6 h6 a7 h7) K } := by
  refine ⟨?_, fun E K => ?run⟩
  case run =>
    simp only [cc0_inproj_eq_skeleton]; unfold cc0_inproj_skel
    simp only [k0_part2_eq_skeleton]
    unfold owns
    iintro ⟨⟨%f0, %e0, H0⟩, ⟨%d3, %f3, -, H3⟩, ⟨%fs, %es, Hs⟩, Hk⟩
    obtain rfl := h2.eq_unread e0; obtain rfl := h7.eq_unread es
    sl_exec (disch := sl_exact hc)
    sl_step
    iapply Hk
    isplitl [H0]
    · iexists _; isplitr; · ipureintro; exact h2.read_unread _
      iexact H0
    isplitl [H3]; · iexists _; iexact H3
    iexists _; isplitr; · ipureintro; exact h7.read_unread _
    iexact Hs

/-- The run at point `t`'s buffers and blocks, for a first point. -/
abbrev atA (c : Dev nD) (t : Fin cfg0.N) (hc : First (grid0.coords t)) :=
  runA (F := F) c (grid0.coords t) (b0 t) (w0 t) (b1 t) (w1 t) (b2 t) (w2 t) (b3 t) (w3 t) (b4 t) (w4 t) bs ws hc
    (iblk m c 0 t) (iblk m c 1 t) (iblk m c 2 t)

/-- The run at point `t`'s buffers and token block, for another point, the scratch at `xs`. -/
abbrev atB (c : Dev nD) (t : Fin cfg0.N) (hc : ¬First (grid0.coords t)) (xs : Vec F S2048x1024 .bf16) :=
  runB (F := F) c (grid0.coords t) (b0 t) (w0 t) (b1 t) (w1 t) (b2 t) (w2 t) (b3 t) (w3 t) (b4 t) (w4 t) bs ws hc
    (iblk m c 0 t) xs

theorem coverA3 (c : Dev nD) (t : Fin cfg0.N) (hc : First (grid0.coords t)) (y : S8x1024x128.Idx) :
    ∃ pc ∈ (atA m c t hc).1, y ∈ pc.1.set :=
  View.cover_of_tiledL (atA m c t hc).1 S1x1024x128.size (by sl_kernel_rfl) y
theorem coverA4 (c : Dev nD) (t : Fin cfg0.N) (hc : First (grid0.coords t)) (y : S8x64x128.Idx) :
    ∃ pc ∈ (atA m c t hc).2.1, y ∈ pc.1.set :=
  View.cover_of_tiledL (atA m c t hc).2.1 S1x64x128.size (by sl_kernel_rfl) y
theorem coverAs (c : Dev nD) (t : Fin cfg0.N) (hc : First (grid0.coords t)) (y : S2048x1024.Idx) :
    ∃ pc ∈ (atA m c t hc).2.2.1, y ∈ pc.1.set :=
  View.cover_of_tiledL (atA m c t hc).2.2.1 S2048x1024.size (by sl_kernel_rfl) y
theorem coverB3 (c : Dev nD) (t : Fin cfg0.N) (hc : ¬First (grid0.coords t)) (xs : Vec F S2048x1024 .bf16) (y : S8x1024x128.Idx) :
    ∃ pc ∈ (atB m c t hc xs).1, y ∈ pc.1.set :=
  View.cover_of_tiledL (atB m c t hc xs).1 S1x1024x128.size (by sl_kernel_rfl) y

/-- The rounded weights after point `t`: what the first point of its column block stored. -/
def wts (c : Dev nD) (t : Fin cfg0.N) : Vec F S2048x1024 .bf16 :=
  Rs.read (Elt F) (Rs.writes (Elt F) Rs.junk (atA m c (base t) (base_first t)).2.2.1)

/-- The meta rows' buffer after point `t`. -/
def meta4 (c : Dev nD) (t : Fin cfg0.N) : Vec F S8x64x128 .bf16 :=
  R4.read (Elt F) (R4.writes (Elt F) R4.junk (atA m c (base t) (base_first t)).2.1)

/-- The token rows' buffer after point `t`. -/
def rows3 (c : Dev nD) (t : Fin cfg0.N) : Vec F S8x1024x128 .bf16 :=
  if hc : First (grid0.coords t) then R3.read (Elt F) (R3.writes (Elt F) R3.junk (atA m c t hc).1)
  else R3.read (Elt F) (R3.writes (Elt F) R3.junk (atB m c t hc (wts m c t)).1)

theorem wts_pred (c : Dev nD) (t : Fin cfg0.N) (h : ¬t.val % 8 = 0) :
    wts m c ⟨t.val - 1, Nat.lt_of_le_of_lt (Nat.sub_le _ _) t.isLt⟩ = wts m c t := by
  unfold wts
  have e := base_pred t h
  have : ∀ (p q : Fin cfg0.N) (hp : First (grid0.coords p)) (hq : First (grid0.coords q)), p = q →
      Rs.read (Elt F) (Rs.writes (Elt F) Rs.junk (atA m c p hp).2.2.1) = Rs.read (Elt F) (Rs.writes (Elt F) Rs.junk (atA m c q hq).2.2.1) := by
    intro p q hp hq hpq; subst hpq; rfl
  exact this _ _ _ _ e

theorem meta4_pred (c : Dev nD) (t : Fin cfg0.N) (h : ¬t.val % 8 = 0) :
    meta4 m c ⟨t.val - 1, Nat.lt_of_le_of_lt (Nat.sub_le _ _) t.isLt⟩ = meta4 m c t := by
  unfold meta4
  have e := base_pred t h
  have : ∀ (p q : Fin cfg0.N) (hp : First (grid0.coords p)) (hq : First (grid0.coords q)), p = q →
      R4.read (Elt F) (R4.writes (Elt F) R4.junk (atA m c p hp).2.1) = R4.read (Elt F) (R4.writes (Elt F) R4.junk (atA m c q hq).2.1) := by
    intro p q hp hq hpq; subst hpq; rfl
  exact this _ _ _ _ e

theorem wts_first (c : Dev nD) (t : Fin cfg0.N) (h : t.val % 8 = 0) (hc : First (grid0.coords t)) :
    wts m c t = Rs.read (Elt F) (Rs.writes (Elt F) Rs.junk (atA m c t hc).2.2.1) := by
  unfold wts
  have : ∀ (p : Fin cfg0.N) (hp : First (grid0.coords p)), p = t →
      Rs.read (Elt F) (Rs.writes (Elt F) Rs.junk (atA m c p hp).2.2.1) = Rs.read (Elt F) (Rs.writes (Elt F) Rs.junk (atA m c t hc).2.2.1) := by
    intro p hp hpq; subst hpq; rfl
  exact this _ _ (base_of_first t h)

theorem meta4_first (c : Dev nD) (t : Fin cfg0.N) (h : t.val % 8 = 0) (hc : First (grid0.coords t)) :
    meta4 m c t = R4.read (Elt F) (R4.writes (Elt F) R4.junk (atA m c t hc).2.1) := by
  unfold meta4
  have : ∀ (p : Fin cfg0.N) (hp : First (grid0.coords p)), p = t →
      R4.read (Elt F) (R4.writes (Elt F) R4.junk (atA m c p hp).2.1) = R4.read (Elt F) (R4.writes (Elt F) R4.junk (atA m c t hc).2.1) := by
    intro p hp hpq; subst hpq; rfl
  exact this _ _ (base_of_first t h)

/-- What holds before point `n`: the scratch at some contents before the first, then at the rounded weights. -/
def inv (c : Dev nD) : (n : ℕ) → n ≤ cfg0.N → sProp 𝕄
  | 0, _ => Pipeline.ΦA spec0 c
  | n + 1, hn => iprop(iprop(owns (c : Thread nD τ) bs fullShare (wts m c ⟨n, hn⟩)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) bs fullShare (wts m c ⟨n, hn⟩)) ∗ (∃ r, prngReg c r)) := rfl
theorem inv_pos (c : Dev nD) (n : ℕ) (h : n ≤ cfg0.N) (hz : n ≠ 0) :
    inv m c n h = iprop(iprop(owns (c : Thread nD τ) bs fullShare (wts m c ⟨n - 1, by omega⟩)) ∗ (∃ r, prngReg c r)) := by
  cases n with
  | zero => exact absurd rfl hz
  | succ n => rfl

/-- Whatever the point, the invariant lends the scratch at some contents. -/
theorem inv_lent (c : Dev nD) (n : ℕ) (h : n ≤ cfg0.N) : inv m c n h ⊢ Pipeline.ΦA spec0 c := by
  by_cases hz : n = 0
  · rw [inv_zero m c n h hz]
  · rw [inv_pos m c n h hz, lent_eq]
    iintro ⟨Hs, Hg⟩
    isplitl [Hs]
    · iexists _; iexact Hs
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows3 m c t
    | ⟨4, _⟩ => meta4 m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem Φ_at (c : Dev nD) (t : Fin cfg0.N) : (dats m 0 c).Φ t.castSucc = inv m c t.val (Nat.le_of_lt t.isLt) := by
  dsimp only [dats]; exact Pipeline.Dat.Φ_castSucc (inv m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rows3 m c t := by dsimp only [dats]
theorem after4 (c : Dev nD) (t : Fin cfg0.N) : (dats m 0 c).after 4 t = meta4 m c t := by dsimp only [dats]
theorem bef0 (c : Dev nD) (t : Fin cfg0.N) (d) : (dats m 0 c).before 0 t d = iblk m c 0 t :=
  before0_0_of m (dats m 0 c) (A_eq m c 0) (after0 m c) t d
theorem bef1 (c : Dev nD) (t : Fin cfg0.N) (d) : (dats m 0 c).before 1 t d = iblk m c 1 t :=
  before0_1_of m (dats m 0 c) (A_eq m c 1) (after1 m c) t d
theorem bef2 (c : Dev nD) (t : Fin cfg0.N) (d) : (dats m 0 c).before 2 t d = iblk m c 2 t :=
  before0_2_of m (dats m 0 c) (A_eq m c 2) (after2 m c) t d

/-- The meta rows' buffer is left alone exactly at the points that are not first. -/
theorem idle4 : ∀ t : Fin cfg0.N, cfg0.idle 4 (grid0.coords t) = !decide (t.val % 8 = 0) := by decide +kernel
/-- It holds nothing of its column block only at a first point. -/
def fresh4 : ℕ → Bool := fun n => decide (n % 8 = 0)
theorem fresh4_step : ∀ t : Fin cfg0.N,
    fresh4 (t.val + 1) = ((cfg0.win 4).flush t || (cfg0.idle 4 (cfg0.grid.coords t) && fresh4 t.val)) := by decide +kernel
theorem fresh4_eq (t : Fin cfg0.N) : cfg0.fresh 4 t.val = fresh4 t.val :=
  Pipeline.Cfg.fresh_tab cfg0 4 fresh4 rfl fresh4_step t.val (Nat.le_of_lt t.isLt)

/-- At a point that is not first the meta rows' buffer holds its column block's rows. -/
theorem bef4 (c : Dev nD) (t : Fin cfg0.N) (h : ¬t.val % 8 = 0) (d) : (dats m 0 c).before 4 t d = meta4 m c t := by
  rw [Dat.before_out_traj (dats m 0 c) 4 rfl (fun _ _ => rfl) (fun t hz _ hf => by
      rw [fresh4_eq t] at hf
      have h' : ¬t.val % 8 = 0 := by simpa [fresh4] using hf
      rw [after4, after4, meta4_pred m c t h']) t.val t rfl d,
    if_neg (by rw [fresh4_eq t]; simp [fresh4, h]), after4, meta4_pred m c t h]

/-- So handing it back as it was found is what the pipeline asks there, written back or not. -/
theorem leaves4 (c : Dev nD) (t : Fin cfg0.N) (h : ¬t.val % 8 = 0) (d) :
    owns (c : Thread nD τ) (b4 t) fullShare ((dats m 0 c).before 4 t d) ⊢ ((dats m 0 c).leavesExact 4 t : sProp 𝕄) := by
  have hi : cfg0.idle 4 (cfg0.grid.coords t) = true := by
    refine (idle4 t).trans ?_; simp [h]
  cases hf : (cfg0.win 4).flush t
  · rw [Dat.leavesExact_idle _ 4 t hi hf]
    iintro H; iexists d; iexact H
  · rw [show (dats m 0 c).leavesExact 4 t = owns (c : Thread nD τ) (b4 t) fullShare ((dats m 0 c).after 4 t) from by
      unfold Dat.leavesExact; rw [hi, hf], bef4 m c t h d, after4]

/-- What the body finds at a point, window by window, -/
def pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d)))

/-- and what it leaves. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 3200000 in
/-- The body's triple at every point. -/
theorem body (c : Dev nD) (t : Fin cfg0.N) :
    pre m c t ⊢ wp frame (wpE (defs₀ (F := F)) Variants.none c none) Set.univ (bodyAt0 t) (fun _ => post m c t) := by
  unfold pre post bodyAt0
  simp only [bef0, bef1, bef2]
  rw [show (dats m 0 c).owesAt () t.succ = (dats m 0 c).owesAt () t.castSucc from rfl,
    show (dats m 0 c).Φ t.succ = inv m c (t.val + 1) t.isLt from rfl, inv_succ, Φ_at m c t,
    show (dats m 0 c).leavesExact 0 t = owns (c : Thread nD τ) (b0 t) fullShare ((dats m 0 c).after 0 t) from rfl,
    show (dats m 0 c).leavesExact 1 t = owns (c : Thread nD τ) (b1 t) fullShare ((dats m 0 c).after 1 t) from rfl,
    show (dats m 0 c).leavesExact 2 t = owns (c : Thread nD τ) (b2 t) fullShare ((dats m 0 c).after 2 t) from rfl,
    show (dats m 0 c).leavesExact 3 t = owns (c : Thread nD τ) (b3 t) fullShare ((dats m 0 c).after 3 t) from rfl,
    after0, after1, after2, after3]
  by_cases h : t.val % 8 = 0
  · have hc := (first_iff t).mpr h
    rw [show (dats m 0 c).leavesExact 4 t = owns (c : Thread nD τ) (b4 t) fullShare ((dats m 0 c).after 4 t) from by
        unfold Dat.leavesExact; rw [show cfg0.idle 4 (cfg0.grid.coords t) = false from (idle4 t).trans (by simp [h])],
      after4, show rows3 m c t = _ from dif_pos hc, wts_first m c t h hc, meta4_first m c t h hc]
    iintro ⟨Hi, Ho, ⟨%d0, H0⟩, ⟨%d1, H1⟩, ⟨%d2, H2⟩, ⟨%d3, H3⟩, ⟨%d4, H4⟩⟩
    ihave Hl := (inv_lent m c t.val (Nat.le_of_lt t.isLt)) $$ Hi
    ihave Hl' := (Entails.of_eq (lent_eq c)) $$ Hl
    icases Hl' with ⟨Hs, Hg⟩
    iapply ((atA m c t hc).2.2.2 Set.univ _)
    isplitl [H0]; · iexact H0
    isplitl [H1]; · iexact H1
    isplitl [H2]; · iexact H2
    isplitl [H3]; · iexists _; iexact H3
    isplitl [H4]; · iexists _; iexact H4
    isplitl [Hs]; · iexact Hs
    iintro ⟨H0, H1, H2, ⟨%e3, H3⟩, ⟨%e4, H4⟩, ⟨%es, Hs⟩⟩
    isplitl [Hs Hg]
    · isplitl [Hs]
      · unfold owns; iexists _; isplitr
        swap; · iexact Hs
        ipureintro; exact View.read_writes_of_cover _ _ _ _ _ (coverAs m c t hc)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA3 m c t hc)
    unfold owns; iexists _; isplitr
    swap; · iexact H4
    ipureintro; exact View.read_writes_of_cover _ _ _ _ _ (coverA4 m c t hc)
  · have hc : ¬First (grid0.coords t) := fun e => h ((first_iff t).mp e)
    have hz : t.val ≠ 0 := fun e => h (by rw [e])
    rw [inv_pos m c t.val _ hz, wts_pred m c t h, show rows3 m c t = _ from dif_neg hc]
    iintro ⟨⟨Hs, Hg⟩, Ho, ⟨%d0, H0⟩, ⟨%d1, H1⟩, ⟨%d2, H2⟩, ⟨%d3, H3⟩, ⟨%d4, H4⟩⟩
    iapply ((atB m c t hc (wts m c t)).2 Set.univ _)
    isplitl [H0]; · iexact H0
    isplitl [H3]; · iexists _; iexact H3
    isplitl [Hs]; · iexact Hs
    iintro ⟨H0, ⟨%e3, H3⟩, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 m c t hc _)
    iapply (leaves4 m c t h d4); iexact H4

/-- The body table's row at a point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- Every run ends with the arrays the proof data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by
      rw [show (dats m 0 c).Φ 0 = inv m c 0 (Nat.zero_le _) from rfl, inv_zero m c 0 _ rfl])
    (hout := fun c => by
      rw [show (dats m 0 c).Φ (Fin.last cfg0.N) = inv m c cfg0.N (Nat.le_refl _) from rfl]
      exact inv_lent m c _ _)

theorem run : θ_run defs (onTc (τ := τ) (main (F := F))) (s₀ m ρ) (Pipeline.FramePost cfgs (dats m) 0 (V m)) :=
  (θ_run defs _ _).mono (fun _ h => h.1) (run_quiet m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiet m ρ))

end Cert.Kernel4Ideal.Hand

end
-- ==== Proof.InVal4.lean ====
/- What the input-projection kernel writes: each block of 128 columns of the product with the weights, the first
   sixteen scaled. -/
module

public import proofs.«01_k».proof.Proof.Inproj4
public import proofs.«01_k».proof.Proof.InRef
public import proofs.«01_k».proof.Proof.InRows
public import Idealize.ShloMosaic.Lib.Pipeline.ReadBack
public import Idealize.ShloMosaic.Lib.Pipeline.ValueKit
public import Idealize.ShloMosaic.Lib.Tactic

@[expose] public section

set_option maxRecDepth 16384

noncomputable section

namespace Cert.InVal4

open Idealize.ShloMosaic Idealize.ShloMosaic.TcCoe Idealize.ShloMosaic.Tactic
open Cert.Kernel4Ideal Cert.Kernel4Ideal.Gen Cert.Kernel4Ideal.Hand
open Cert.InVal (at3)

/-- Column `d` of block `n` of a row of the product, scaled. -/
def slab {M : ℕ} (x : Vec Ideal ⟨2, ![M, 2048]⟩ .f32) (w : Vec Ideal S2048x1024 .bf16) (s : EReal) (n : ℕ) (r : Fin M) (d : ℕ) : EReal :=
  (∑ k : Fin 2048, (x (ix2 r k) : EReal) * if h : 128 * n + d < 1024 then w (ix2 k ⟨128 * n + d, h⟩) else 0) * s

variable (i : grid0.Coords) (x : Vec Ideal S1024x2048 .f32) (xm : Vec Ideal S64x2048 .f32) (w : Vec Ideal S2048x1024 .bf16) (s : Ideal .f32)

/-- One block of the rows' product, cut out and scaled. -/
theorem cut (n : ℕ) (v : FVec Ideal S1024x1024 .f32) (hv : v = k0_pay18 x w) (r : Fin 1024) (d : Fin 128)
    (h : 128 * n + d.val < 1024) : v (ix2 r ⟨128 * n + d.val, h⟩) * s = slab x w s n r d.val := by
  subst hv
  unfold slab
  simp only [dif_pos h]
  pointwise [k0_pay18]

/-- One block of the meta rows' product, cut out and scaled. -/
theorem cutm (n : ℕ) (v : FVec Ideal S64x1024 .f32) (hv : v = k0_pay7 xm w) (r : Fin 64) (d : Fin 128)
    (h : 128 * n + d.val < 1024) : v (ix2 r ⟨128 * n + d.val, h⟩) * s = slab xm w s n r d.val := by
  subst hv
  unfold slab
  simp only [dif_pos h]
  pointwise [k0_pay7]

variable (v : FVec Ideal S1024x1024 .f32) (hv : v = k0_pay18 x w) (vm : FVec Ideal S64x1024 .f32) (hvm : vm = k0_pay7 xm w)

theorem p0 (y : S1x1024x128.Idx) (r : Fin 1024) (d : Fin 128) (h1 : r.val = (y 1).val) (h2 : d.val = (y 2).val) :
    k0_pay19 i x w y = slab x w (k0_pay12 (F := Ideal) i) 0 r d.val := by
  obtain rfl := at3 y r d h1 h2
  rw [← cut x w _ 0 _ rfl r d (by omega)]
  pointwise [k0_pay19]
theorem p1 (y : S1x1024x128.Idx) (r : Fin 1024) (d : Fin 128) (h1 : r.val = (y 1).val) (h2 : d.val = (y 2).val) :
    k0_pay20 i x w y = slab x w (k0_pay12 (F := Ideal) i) 1 r d.val := by
  obtain rfl := at3 y r d h1 h2
  rw [← cut x w _ 1 _ rfl r d (by omega)]
  pointwise [k0_pay20]
theorem p2 (y : S1x1024x128.Idx) (r : Fin 1024) (d : Fin 128) (h1 : r.val = (y 1).val) (h2 : d.val = (y 2).val) :
    k0_pay21 i x w y = slab x w (k0_pay12 (F := Ideal) i) 2 r d.val := by
  obtain rfl := at3 y r d h1 h2
  rw [← cut x w _ 2 _ rfl r d (by omega)]
  pointwise [k0_pay21]
theorem p3 (y : S1x1024x128.Idx) (r : Fin 1024) (d : Fin 128) (h1 : r.val = (y 1).val) (h2 : d.val = (y 2).val) :
    k0_pay1 (k0_pay22 i x w) y = slab x w (k0_pay12 (F := Ideal) i) 3 r d.val := by
  obtain rfl := at3 y r d h1 h2
  rw [← cut x w _ 3 _ rfl r d (by omega)]
  pointwise [k0_pay1, k0_pay22]
include hv in
theorem p4 (y : S1x1024x128.Idx) (r : Fin 1024) (d : Fin 128) (h1 : r.val = (y 1).val) (h2 : d.val = (y 2).val) :
    k0_pay2 s v y = slab x w s 4 r d.val := by
  obtain rfl := at3 y r d h1 h2
  rw [← cut x w s 4 v hv r d (by omega)]
  pointwise [k0_pay2]
include hv in
theorem p5 (y : S1x1024x128.Idx) (r : Fin 1024) (d : Fin 128) (h1 : r.val = (y 1).val) (h2 : d.val = (y 2).val) :
    k0_pay3 s v y = slab x w s 5 r d.val := by
  obtain rfl := at3 y r d h1 h2
  rw [← cut x w s 5 v hv r d (by omega)]
  pointwise [k0_pay3]
include hv in
theorem p6 (y : S1x1024x128.Idx) (r : Fin 1024) (d : Fin 128) (h1 : r.val = (y 1).val) (h2 : d.val = (y 2).val) :
    k0_pay4 s v y = slab x w s 6 r d.val := by
  obtain rfl := at3 y r d h1 h2
  rw [← cut x w s 6 v hv r d (by omega)]
  pointwise [k0_pay4]
include hv in
theorem p7 (y : S1x1024x128.Idx) (r : Fin 1024) (d : Fin 128) (h1 : r.val = (y 1).val) (h2 : d.val = (y 2).val) :
    k0_pay5 s v y = slab x w s 7 r d.val := by
  obtain rfl := at3 y r d h1 h2
  rw [← cut x w s 7 v hv r d (by omega)]
  pointwise [k0_pay5]

theorem m0 (y : S1x64x128.Idx) (r : Fin 64) (d : Fin 128) (h1 : r.val = (y 1).val) (h2 : d.val = (y 2).val) :
    k0_pay8 s xm w y = slab xm w s 0 r d.val := by
  obtain rfl := at3 y r d h1 h2
  rw [← cutm xm w s 0 _ rfl r d (by omega)]
  pointwise [k0_pay8]
theorem m1 (y : S1x64x128.Idx) (r : Fin 64) (d : Fin 128) (h1 : r.val = (y 1).val) (h2 : d.val = (y 2).val) :
    k0_pay9 s xm w y = slab xm w s 1 r d.val := by
  obtain rfl := at3 y r d h1 h2
  rw [← cutm xm w s 1 _ rfl r d (by omega)]
  pointwise [k0_pay9]
theorem m2 (y : S1x64x128.Idx) (r : Fin 64) (d : Fin 128) (h1 : r.val = (y 1).val) (h2 : d.val = (y 2).val) :
    k0_pay10 s xm w y = slab xm w s 2 r d.val := by
  obtain rfl := at3 y r d h1 h2
  rw [← cutm xm w s 2 _ rfl r d (by omega)]
  pointwise [k0_pay10]
theorem m3 (y : S1x64x128.Idx) (r : Fin 64) (d : Fin 128) (h1 : r.val = (y 1).val) (h2 : d.val = (y 2).val) :
    k0_pay13 (k0_pay11 s xm w) y = slab xm w s 3 r d.val := by
  obtain rfl := at3 y r d h1 h2
  rw [← cutm xm w s 3 _ rfl r d (by omega)]
  pointwise [k0_pay13, k0_pay11]
include hvm in
theorem m4 (y : S1x64x128.Idx) (r : Fin 64) (d : Fin 128) (h1 : r.val = (y 1).val) (h2 : d.val = (y 2).val) :
    k0_pay14 i vm y = slab xm w (k0_pay12 (F := Ideal) i) 4 r d.val := by
  obtain rfl := at3 y r d h1 h2
  rw [← cutm xm w _ 4 vm hvm r d (by omega)]
  pointwise [k0_pay14]
include hvm in
theorem m5 (y : S1x64x128.Idx) (r : Fin 64) (d : Fin 128) (h1 : r.val = (y 1).val) (h2 : d.val = (y 2).val) :
    k0_pay15 i vm y = slab xm w (k0_pay12 (F := Ideal) i) 5 r d.val := by
  obtain rfl := at3 y r d h1 h2
  rw [← cutm xm w _ 5 vm hvm r d (by omega)]
  pointwise [k0_pay15]
include hvm in
theorem m6 (y : S1x64x128.Idx) (r : Fin 64) (d : Fin 128) (h1 : r.val = (y 1).val) (h2 : d.val = (y 2).val) :
    k0_pay16 i vm y = slab xm w (k0_pay12 (F := Ideal) i) 6 r d.val := by
  obtain rfl := at3 y r d h1 h2
  rw [← cutm xm w _ 6 vm hvm r d (by omega)]
  pointwise [k0_pay16]
include hvm in
theorem m7 (y : S1x64x128.Idx) (r : Fin 64) (d : Fin 128) (h1 : r.val = (y 1).val) (h2 : d.val = (y 2).val) :
    k0_pay17 i vm y = slab xm w (k0_pay12 (F := Ideal) i) 7 r d.val := by
  obtain rfl := at3 y r d h1 h2
  rw [← cutm xm w _ 7 vm hvm r d (by omega)]
  pointwise [k0_pay17]

end Cert.InVal4

end
-- ==== Proof.InRows4.lean ====
/- What a point of the input-projection kernel leaves in its buffers, and the arrays at the end. -/
module

public import proofs.«01_k».proof.Proof.InVal4

@[expose] public section

set_option maxRecDepth 16384

noncomputable section

namespace Cert.InRows4

open Idealize.ShloMosaic Idealize.ShloMosaic.TcCoe Idealize.ShloMosaic.Tactic
open Cert.Kernel4Ideal Cert.Kernel4Ideal.Gen Cert.Kernel4Ideal.Hand Cert.InVal4
open Cert.InVal (at3)
open Cert.InRows (whole2 cov2)

variable {sg : RefSig} {κ : Kind} {sp : Space}

/-- The weights' block without its leading axis. -/
def flat (X : Vec Ideal S1x2048x1024 .f32) : Vec Ideal S2048x1024 .bf16 := fun y => X (ix3 0 (y 0) (y 1))

variable (m : (ℓ : Loc nD τ sig) → Buf (Elt Ideal) ℓ) (c : Dev nD) (t : Fin cfg0.N)

theorem flat_eq (v : View sig κ sp S1x2048x1024 .f32) (X : Vec Ideal S1x2048x1024 .f32) (f : v.ty.Contents (Elt Ideal))
    (hf : v.read (Elt Ideal) f = X) (inb) :
    k0_pay6 (v.readAt (Elt Ideal) (Rect.unit (s := S1x2048x1024) ![0, 0, 0] ![1, 2048, 1024] inb).toLoadRect f) = flat X := by
  subst hf
  funext y
  pointwise [k0_pay6]
  show v.read (Elt Ideal) f ((Rect.unit (s := S1x2048x1024) ![0, 0, 0] ![1, 2048, 1024] inb).idx _) = v.read (Elt Ideal) f _
  congr 1
  funext e
  fin_cases e <;> exact Fin.ext (by simp [Rect.idx_unit_val])

theorem wtsA (hc : First (grid0.coords t)) : View.canon (atA m c t hc).2.2.1 = flat (iblk m c 2 t) := by
  unfold atA runA
  dsimp only
  unfold runA.sl.Hs_1
  funext y
  canon_tiles x h
  rw [flat_eq _ _ _ ((w2 t).read_unread (iblk m c 2 t))]
  congr 1
  funext a
  match a with
  | ⟨0, _⟩ => exact Fin.ext h0.symm
  | ⟨1, _⟩ => exact Fin.ext h1.symm

theorem v73 (hc : First (grid0.coords t)) : runA.sl.v73 c (b2 t) (w2 t) bs (iblk m c 2 t) = flat (iblk m c 2 t) := by
  have e := wtsA m c t hc
  unfold atA runA at e
  dsimp only at e
  unfold runA.sl.v73
  exact (cov2 _ _ _).trans e

theorem r2 (hc : First (grid0.coords t)) :
    runA.sl.r_2 c (b0 t) (w0 t) (b2 t) (w2 t) bs (iblk m c 0 t) (iblk m c 2 t) = k0_pay18 (iblk m c 0 t) (flat (iblk m c 2 t)) := by
  unfold runA.sl.r_2
  rw [v73 m c t hc]
  exact congrArg (fun X => k0_pay18 X _) (whole2 _ _ _ ((w0 t).read_unread (iblk m c 0 t)) _)

theorem r3 (hc : First (grid0.coords t)) :
    runA.sl.r_3 c (grid0.coords t) (b0 t) (w0 t) (b2 t) (w2 t) bs (iblk m c 0 t) (iblk m c 2 t)
      = k0_pay22 (grid0.coords t) (iblk m c 0 t) (flat (iblk m c 2 t)) := by
  unfold runA.sl.r_3
  rw [v73 m c t hc]
  exact congrArg (fun X => k0_pay22 _ X _) (whole2 _ _ _ ((w0 t).read_unread (iblk m c 0 t)) _)

/-- The rows a first point leaves. -/
theorem rowsA (hc : First (grid0.coords t)) (Y : S8x1024x128.Idx) (n : ℕ) (r : Fin 1024) (d : Fin 128)
    (hn : n = (Y 0).val) (hr : r.val = (Y 1).val) (hd : d.val = (Y 2).val) :
    View.canon (atA m c t hc).1 Y
      = slab (iblk m c 0 t) (flat (iblk m c 2 t)) (k0_pay12 (F := Ideal) (grid0.coords t)) n r d.val := by
  have e0 := whole2 _ _ _ ((w0 t).read_unread (iblk m c 0 t)) inb_S1024x2048_S1024x2048_0_0
  have e2 := v73 m c t hc
  have e3 := r2 m c t hc
  have e4 := r3 m c t hc
  unfold atA runA
  dsimp only
  canon_tiles x h
  · obtain rfl : n = 7 := by omega
    rw [e3]; exact p7 _ _ _ _ rfl x r d (by omega) (by omega)
  · obtain rfl : n = 6 := by omega
    rw [e3]; exact p6 _ _ _ _ rfl x r d (by omega) (by omega)
  · obtain rfl : n = 5 := by omega
    rw [e3]; exact p5 _ _ _ _ rfl x r d (by omega) (by omega)
  · obtain rfl : n = 4 := by omega
    rw [e3]; exact p4 _ _ _ _ rfl x r d (by omega) (by omega)
  · obtain rfl : n = 3 := by omega
    rw [e4]; exact p3 _ _ _ x r d (by omega) (by omega)
  · obtain rfl : n = 2 := by omega
    rw [e0, e2]; exact p2 _ _ _ x r d (by omega) (by omega)
  · obtain rfl : n = 1 := by omega
    rw [e0, e2]; exact p1 _ _ _ x r d (by omega) (by omega)
  · obtain rfl : n = 0 := by omega
    rw [e0, e2]; exact p0 _ _ _ x r d (by omega) (by omega)

/-- The rows another point leaves, the scratch at `xs`. -/
theorem rowsB (hc : ¬First (grid0.coords t)) (xs : Vec Ideal S2048x1024 .bf16) (Y : S8x1024x128.Idx) (n : ℕ) (r : Fin 1024)
    (d : Fin 128) (hn : n = (Y 0).val) (hr : r.val = (Y 1).val) (hd : d.val = (Y 2).val) :
    View.canon (atB m c t hc xs).1 Y = slab (iblk m c 0 t) xs (k0_pay12 (F := Ideal) (grid0.coords t)) n r d.val := by
  have e0 := whole2 _ _ _ ((w0 t).read_unread (iblk m c 0 t)) inb_S1024x2048_S1024x2048_0_0
  have e2 := whole2 _ _ _ (ws.read_unread xs) inb_S2048x1024_S2048x1024_0_0
  have e3 : runB.sl.r c (b0 t) (w0 t) bs ws (iblk m c 0 t) xs = k0_pay18 (iblk m c 0 t) xs := by
    unfold runB.sl.r
    exact congrArg₂ k0_pay18 e0 e2
  have e4 : runB.sl.r_1 c (grid0.coords t) (b0 t) (w0 t) bs ws (iblk m c 0 t) xs = k0_pay22 (grid0.coords t) (iblk m c 0 t) xs := by
    unfold runB.sl.r_1
    exact congrArg₂ (k0_pay22 (grid0.coords t)) e0 e2
  unfold atB runB
  dsimp only
  canon_tiles x h
  · obtain rfl : n = 7 := by omega
    rw [e3]; exact p7 _ _ _ _ rfl x r d (by omega) (by omega)
  · obtain rfl : n = 6 := by omega
    rw [e3]; exact p6 _ _ _ _ rfl x r d (by omega) (by omega)
  · obtain rfl : n = 5 := by omega
    rw [e3]; exact p5 _ _ _ _ rfl x r d (by omega) (by omega)
  · obtain rfl : n = 4 := by omega
    rw [e3]; exact p4 _ _ _ _ rfl x r d (by omega) (by omega)
  · obtain rfl : n = 3 := by omega
    rw [e4]; exact p3 _ _ _ x r d (by omega) (by omega)
  · obtain rfl : n = 2 := by omega
    exact (congrFun (congrArg₂ (k0_pay21 (grid0.coords t)) e0 e2) x).trans (p2 _ _ _ x r d (by omega) (by omega))
  · obtain rfl : n = 1 := by omega
    exact (congrFun (congrArg₂ (k0_pay20 (grid0.coords t)) e0 e2) x).trans (p1 _ _ _ x r d (by omega) (by omega))
  · obtain rfl : n = 0 := by omega
    exact (congrFun (congrArg₂ (k0_pay19 (grid0.coords t)) e0 e2) x).trans (p0 _ _ _ x r d (by omega) (by omega))

theorem rr (hc : First (grid0.coords t)) :
    runA.sl.r c (b1 t) (w1 t) (b2 t) (w2 t) bs (iblk m c 1 t) (iblk m c 2 t) = k0_pay7 (iblk m c 1 t) (flat (iblk m c 2 t)) := by
  unfold runA.sl.r
  rw [v73 m c t hc]
  exact congrArg (fun X => k0_pay7 X _) (whole2 _ _ _ ((w1 t).read_unread (iblk m c 1 t)) _)

theorem rr1 (hc : First (grid0.coords t)) :
    runA.sl.r_1 c (grid0.coords t) (b1 t) (w1 t) (b2 t) (w2 t) bs (iblk m c 1 t) (iblk m c 2 t)
      = k0_pay11 (k0_pay12 (F := Ideal) (grid0.coords t)) (iblk m c 1 t) (flat (iblk m c 2 t)) := by
  unfold runA.sl.r_1
  rw [v73 m c t hc]
  exact congrArg (fun X => k0_pay11 _ X _) (whole2 _ _ _ ((w1 t).read_unread (iblk m c 1 t)) _)

/-- The meta rows a first point leaves. -/
theorem metaA (hc : First (grid0.coords t)) (Y : S8x64x128.Idx) (n : ℕ) (r : Fin 64) (d : Fin 128)
    (hn : n = (Y 0).val) (hr : r.val = (Y 1).val) (hd : d.val = (Y 2).val) :
    View.canon (atA m c t hc).2.1 Y
      = slab (iblk m c 1 t) (flat (iblk m c 2 t)) (k0_pay12 (F := Ideal) (grid0.coords t)) n r d.val := by
  have e0 := whole2 _ _ _ ((w1 t).read_unread (iblk m c 1 t)) inb_S64x2048_S64x2048_0_0
  have e2 := v73 m c t hc
  have e3 := rr m c t hc
  have e4 := rr1 m c t hc
  unfold atA runA
  dsimp only
  canon_tiles x h
  · obtain rfl : n = 7 := by omega
    rw [e3]; exact m7 _ _ _ _ rfl x r d (by omega) (by omega)
  · obtain rfl : n = 6 := by omega
    rw [e3]; exact m6 _ _ _ _ rfl x r d (by omega) (by omega)
  · obtain rfl : n = 5 := by omega
    rw [e3]; exact m5 _ _ _ _ rfl x r d (by omega) (by omega)
  · obtain rfl : n = 4 := by omega
    rw [e3]; exact m4 _ _ _ _ rfl x r d (by omega) (by omega)
  · obtain rfl : n = 3 := by omega
    rw [e4]; exact m3 _ _ _ x r d (by omega) (by omega)
  · obtain rfl : n = 2 := by omega
    rw [e0, e2]; exact m2 _ _ _ x r d (by omega) (by omega)
  · obtain rfl : n = 1 := by omega
    rw [e0, e2]; exact m1 _ _ _ x r d (by omega) (by omega)
  · obtain rfl : n = 0 := by omega
    rw [e0, e2]; exact m0 _ _ _ x r d (by omega) (by omega)

/-- The rounded weights a column block leaves in the scratch. -/
theorem wts_eq : wts m c t = flat (iblk m c 2 (base t)) :=
  (View.read_writes_junk_eq_canon _ _).trans (wtsA m c (base t) (base_first t))

theorem idx2 : ∀ t : Fin grid0.N, win0_2.index t = ![0, 0, t.val / 8] := by decide +kernel

/-- The points of one column block read the same weights. -/
theorem wts_same : iblk m c 2 (base t) = iblk m c 2 t := by
  funext y
  blk_ext [iblk, idx2 t, idx2 (base t)]
  simp only [base]
  omega

end Cert.InRows4

end
-- ==== Proof.InRef4.lean ====
/- The input projection's reference, read at an index. -/
module

public import proofs.«01_k».proof.Proof.Gen.Reference4Ideal.Read
public import proofs.«01_k».proof.Proof.InVal4

@[expose] public section

set_option maxRecDepth 16384

noncomputable section

namespace Cert.InRef4

open Idealize.ShloMosaic Idealize.ShloMosaic.TcCoe Idealize.ShloMosaic.Tactic
open Cert.Reference4Ideal Cert.Reference4Ideal.Gen Cert.Reference4Ideal.Read
open Cert.InRef (scale)

/-- Row `r` of the product at column `128 * h + d`, with its factor. -/
def proj {M : ℕ} (X : Vec Ideal ⟨2, ![M, 2048]⟩ .f32) (W : Vec Ideal S2x2048x8192 .f32) (h : ℕ) (r : Fin M) (d : ℕ) : EReal :=
  (∑ k : Fin 2048, (X (ix2 r k) : EReal) * if g : 128 * h + d < 8192 then W (ix3 0 k ⟨128 * h + d, g⟩) else 0) * scale h

variable (x0 : Vec Ideal S8192x2048 .f32) (x1 : Vec Ideal S64x2048 .f32) (x2 : Vec Ideal S2x2048x8192 .f32)

theorem dot0 (r : Fin 8192) (h d : ℕ) (g : 128 * h + d < 8192) (j : S8192x8192.Idx) (h0 : (j 0).val = r.val)
    (h1 : (j 1).val = 128 * h + d) :
    (val_main_v2 (F := Ideal) x0 x2 j : EReal)
      = ∑ k : Fin 2048, (x0 (ix2 r k) : EReal) * if g : 128 * h + d < 8192 then x2 (ix3 0 k ⟨128 * h + d, g⟩) else 0 := by
  rw [val_main_v2_apply]
  simp only [dif_pos g, val_main_v1_apply, val_main_v0_apply]
  refine Finset.sum_congr rfl fun k _ => ?_
  congr 1
  · congr 1
    funext a
    match a with
    | ⟨0, _⟩ => exact Fin.ext h0
    | ⟨1, _⟩ => rfl
  · congr 1
    funext a
    have hk := k.isLt
    match a with
    | ⟨0, _⟩ => rfl
    | ⟨1, _⟩ => exact Fin.ext (show (k.val * 8192 + (j 1).val) / 8192 % 2048 = k.val by omega)
    | ⟨2, _⟩ => exact Fin.ext (show (k.val * 8192 + (j 1).val) % 8192 = 128 * h + d by omega)

/-- The first result at an index. -/
theorem ref0 (i : S64x8192x128.Idx) (h d : ℕ) (r : Fin 8192) (hh : h = (i 0).val) (hr : r.val = (i 1).val) (hd : d = (i 2).val) :
    (val_main_v10 (F := Ideal) x0 x2 i : EReal) = proj x0 x2 h r d := by
  have b0 : (i 0).val < 64 := (i 0).isLt
  have b1 : (i 1).val < 8192 := (i 1).isLt
  have b2 : (i 2).val < 128 := (i 2).isLt
  rw [val_main_v10_apply, val_main_v9_apply, val_main_v8_apply]
  unfold proj scale
  have e0 : (idx_main_v8 (idx_main_v9 i) 0).val = r.val := by
    show (((i 1).val * 64 + (i 0).val) * 128 + (i 2).val) / 8192 = _
    omega
  have e1 : (idx_main_v8 (idx_main_v9 i) 1).val = 128 * h + d := by
    show (((i 1).val * 64 + (i 0).val) * 128 + (i 2).val) % 8192 = _
    omega
  generalize idx_main_v8 (idx_main_v9 i) = j at e0 e1
  show (val_main_v7 (F := Ideal) x0 x2 j : EReal) = _
  unfold val_main_v7
  by_cases c : h < 16
  · rw [if_pos c]
    refine (concatenate_pair_apply_left (1 : Fin S8192x8192.rank) _ _ concatenates_S8192x2048_S8192x6144_S8192x8192_d1 j rfl
      (ix2 r ⟨128 * h + d, by omega⟩) fun b => ?_).trans ?_
    · match b with
      | ⟨0, _⟩ => exact e0.symm
      | ⟨1, _⟩ => exact e1.symm
    rw [val_main_v6_apply, val_main_v3_apply, val_main_v5_apply, val_main_cst_apply]
    show (val_main_v2 (F := Ideal) x0 x2 _ : EReal) * Ideal.ofBits .f32 0x3E0293EE#32 = _
    rw [dot0 x0 x2 r h d (by omega) _ rfl rfl]
  · rw [if_neg c, mul_one]
    refine (concatenate_pair_apply_right (1 : Fin S8192x8192.rank) _ _ concatenates_S8192x2048_S8192x6144_S8192x8192_d1 j rfl rfl
      (ix2 r ⟨128 * h + d - 2048, by omega⟩) (fun b hb => ?_) ?_).trans ?_
    · match b with
      | ⟨0, _⟩ => exact e0.symm
      | ⟨1, _⟩ => exact absurd rfl hb
    · show 128 * h + d - 2048 + 2048 = _
      omega
    rw [val_main_v4_apply]
    exact dot0 x0 x2 r h d (by omega) _ rfl (show 2048 + (128 * h + d - 2048) = _ by omega)

theorem dot1 (r : Fin 64) (h d : ℕ) (g : 128 * h + d < 8192) (j : S64x8192.Idx) (h0 : (j 0).val = r.val)
    (h1 : (j 1).val = 128 * h + d) :
    (val_main_v13 (F := Ideal) x1 x2 j : EReal)
      = ∑ k : Fin 2048, (x1 (ix2 r k) : EReal) * if g : 128 * h + d < 8192 then x2 (ix3 0 k ⟨128 * h + d, g⟩) else 0 := by
  rw [val_main_v13_apply]
  simp only [dif_pos g, val_main_v12_apply, val_main_v11_apply]
  refine Finset.sum_congr rfl fun k _ => ?_
  congr 1
  · congr 1
    funext a
    match a with
    | ⟨0, _⟩ => exact Fin.ext h0
    | ⟨1, _⟩ => rfl
  · congr 1
    funext a
    have hk := k.isLt
    match a with
    | ⟨0, _⟩ => rfl
    | ⟨1, _⟩ => exact Fin.ext (show (k.val * 8192 + (j 1).val) / 8192 % 2048 = k.val by omega)
    | ⟨2, _⟩ => exact Fin.ext (show (k.val * 8192 + (j 1).val) % 8192 = 128 * h + d by omega)

/-- The second result at an index. -/
theorem ref1 (i : S64x64x128.Idx) (h d : ℕ) (r : Fin 64) (hh : h = (i 0).val) (hr : r.val = (i 1).val) (hd : d = (i 2).val) :
    (val_main_v21 (F := Ideal) x1 x2 i : EReal) = proj x1 x2 h r d := by
  have b0 : (i 0).val < 64 := (i 0).isLt
  have b1 : (i 1).val < 64 := (i 1).isLt
  have b2 : (i 2).val < 128 := (i 2).isLt
  rw [val_main_v21_apply, val_main_v20_apply, val_main_v19_apply]
  unfold proj scale
  have e0 : (idx_main_v19 (idx_main_v20 i) 0).val = r.val := by
    show (((i 1).val * 64 + (i 0).val) * 128 + (i 2).val) / 8192 = _
    omega
  have e1 : (idx_main_v19 (idx_main_v20 i) 1).val = 128 * h + d := by
    show (((i 1).val * 64 + (i 0).val) * 128 + (i 2).val) % 8192 = _
    omega
  generalize idx_main_v19 (idx_main_v20 i) = j at e0 e1
  show (val_main_v18 (F := Ideal) x1 x2 j : EReal) = _
  unfold val_main_v18
  by_cases c : h < 16
  · rw [if_pos c]
    refine (concatenate_pair_apply_left (1 : Fin S64x8192.rank) _ _ concatenates_S64x2048_S64x6144_S64x8192_d1 j rfl
      (ix2 r ⟨128 * h + d, by omega⟩) fun b => ?_).trans ?_
    · match b with
      | ⟨0, _⟩ => exact e0.symm
      | ⟨1, _⟩ => exact e1.symm
    rw [val_main_v17_apply, val_main_v14_apply, val_main_v16_apply, val_main_cst_0_apply]
    show (val_main_v13 (F := Ideal) x1 x2 _ : EReal) * Ideal.ofBits .f32 0x3E0293EE#32 = _
    rw [dot1 x1 x2 r h d (by omega) _ rfl rfl]
  · rw [if_neg c, mul_one]
    refine (concatenate_pair_apply_right (1 : Fin S64x8192.rank) _ _ concatenates_S64x2048_S64x6144_S64x8192_d1 j rfl rfl
      (ix2 r ⟨128 * h + d - 2048, by omega⟩) (fun b hb => ?_) ?_).trans ?_
    · match b with
      | ⟨0, _⟩ => exact e0.symm
      | ⟨1, _⟩ => exact absurd rfl hb
    · show 128 * h + d - 2048 + 2048 = _
      omega
    rw [val_main_v15_apply]
    exact dot1 x1 x2 r h d (by omega) _ rfl (show 2048 + (128 * h + d - 2048) = _ by omega)

end Cert.InRef4

end
-- ==== Proof.InArr4.lean ====
/- The input projection's two arrays after a run, and the equality with the reference. -/
module

public import proofs.«01_k».proof.Defs
public import proofs.«01_k».proof.Proof.InRows4
public import proofs.«01_k».proof.Proof.InRef4
public import proofs.«01_k».proof.Proof.Gen.Reference4Ideal.Run

@[expose] public section

set_option maxRecDepth 16384

noncomputable section

namespace Cert.InArr4

open Idealize.ShloMosaic Idealize.ShloMosaic.TcCoe Idealize.ShloMosaic.Tactic Idealize.SL.Sem
open Cert.Kernel4Ideal Cert.Kernel4Ideal.Gen Cert.Kernel4Ideal.Hand Cert.InVal4 Cert.InRows4 Cert.InRef4
open Cert.InVal (at3)
open Cert.InRef (scale)

variable (m : (ℓ : Loc nD τ sig) → Buf (Elt Ideal) ℓ) (ρ : Dev nD → PrngReg) (c : Dev nD) (t : Fin cfg0.N)

theorem idx0 : ∀ t : Fin grid0.N, win0_0.index t = ![t.val % 8, 0] := by decide +kernel
theorem idx1 : ∀ t : Fin grid0.N, win0_1.index t = ![0, 0] := by decide +kernel
theorem idx3 : ∀ t : Fin grid0.N, win0_3.index t = ![t.val / 8, t.val % 8, 0] := by decide +kernel
theorem idx4 : ∀ t : Fin grid0.N, win0_4.index t = ![t.val / 8, 0, 0] := by decide +kernel

theorem pay12_bit : ∀ t : Fin grid0.N,
    Scalar.cmpi .slt (BitVec.ofNat 32 (grid0.coords t 0).val) 2#32 = if t.val / 8 < 2 then 1#1 else 0#1 := by decide +kernel

/-- The factor the kernel takes at a point. -/
theorem pay12 : (k0_pay12 (F := Ideal) (grid0.coords t) : EReal) = if t.val / 8 < 2 then Ideal.ofBits .f32 0x3E0293EE#32 else 1 := by
  unfold k0_pay12
  dsimp only
  rw [pay12_bit t]
  split
  · rfl
  · show Ideal.ofBits .f32 0x3F800000#32 = 1
    simp [Ideal.ofBits, Ideal.ieee]
    rw [← EReal.coe_mul]
    norm_num

/-- A block's column of the product is the whole product's column. -/
theorem slab_proj {M M' : ℕ} (xb : Vec Ideal ⟨2, ![M, 2048]⟩ .f32) (X : Vec Ideal ⟨2, ![M', 2048]⟩ .f32) (n h : ℕ) (r : Fin M)
    (r' : Fin M') (d : ℕ) (hn : n < 8) (hd : d < 128) (hh : h = 8 * (t.val / 8) + n) (hx : ∀ k, xb (ix2 r k) = X (ix2 r' k)) :
    slab xb (flat (iblk m c 2 t)) (k0_pay12 (F := Ideal) (grid0.coords t)) n r d
      = proj X (m ((c.tc : Thread nD τ).loc main_arg2)) h r' d := by
  have ht : t.val < 64 := t.isLt
  unfold slab proj scale
  rw [pay12]
  congr 1
  · refine Finset.sum_congr rfl fun k _ => ?_
    rw [hx k, dif_pos (by omega), dif_pos (by omega)]
    congr 1
    unfold flat
    blk_ext [iblk, V, idx2 t]
  · subst hh
    by_cases q : t.val / 8 < 2
    · rw [if_pos q, if_pos (by omega)]
    · rw [if_neg q, if_neg (by omega)]

/-- What a point leaves in the rows' buffer. -/
theorem rows_eq (Y : S8x1024x128.Idx) (n h : ℕ) (r : Fin 1024) (r' : Fin 8192) (d : Fin 128) (hn : n = (Y 0).val)
    (hr : r.val = (Y 1).val) (hd : d.val = (Y 2).val) (hh : h = 8 * (t.val / 8) + n) (hr' : r'.val = 1024 * (t.val % 8) + r.val) :
    (rows3 m c t Y : EReal) = proj (m ((c.tc : Thread nD τ).loc main_arg0)) (m ((c.tc : Thread nD τ).loc main_arg2)) h r' d.val := by
  have b0 : (Y 0).val < 8 := (Y 0).isLt
  have hx : ∀ k, (iblk m c 0 t : Vec Ideal S1024x2048 .f32) (ix2 r k) = m ((c.tc : Thread nD τ).loc main_arg0) (ix2 r' k) := fun k => by
    blk_ext [iblk, V, idx0 t]
  unfold rows3
  split
  · next hc =>
    rw [View.read_writes_junk_eq_canon, rowsA m c t hc Y n r d hn hr hd]
    exact slab_proj m c t _ _ n h r r' d.val (by omega) d.isLt hh hx
  · next hc =>
    rw [View.read_writes_junk_eq_canon, rowsB m c t hc _ Y n r d hn hr hd, wts_eq, wts_same]
    exact slab_proj m c t _ _ n h r r' d.val (by omega) d.isLt hh hx

/-- What the column block's first point leaves in the meta rows' buffer. -/
theorem meta_eq (Y : S8x64x128.Idx) (n h : ℕ) (r : Fin 64) (d : Fin 128) (hn : n = (Y 0).val)
    (hr : r.val = (Y 1).val) (hd : d.val = (Y 2).val) (hh : h = 8 * (t.val / 8) + n) :
    (meta4 m c t Y : EReal) = proj (m ((c.tc : Thread nD τ).loc main_arg1)) (m ((c.tc : Thread nD τ).loc main_arg2)) h r d.val := by
  have b0 : (Y 0).val < 8 := (Y 0).isLt
  unfold meta4
  rw [View.read_writes_junk_eq_canon, metaA m c (base t) (base_first t) Y n r d hn hr hd]
  refine slab_proj m c (base t) _ _ n h r r d.val (by omega) d.isLt ?_ fun k => ?_
  · simp only [base]; omega
  · blk_ext [iblk, V, idx1 (base t)]

/-- The rows' array after a run. -/
def G3 : Vec Ideal S64x8192x128 .bf16 := fun i =>
  proj (m ((c.tc : Thread nD τ).loc main_arg0)) (m ((c.tc : Thread nD τ).loc main_arg2)) (i 0).val (i 1) (i 2).val
/-- The meta rows' array after a run. -/
def G4 : Vec Ideal S64x64x128 .bf16 := fun i =>
  proj (m ((c.tc : Thread nD τ).loc main_arg1)) (m ((c.tc : Thread nD τ).loc main_arg2)) (i 0).val (i 1) (i 2).val

theorem arr3 : (dats m 0 c).arrAt 3 cfg0.N = G3 m c := by
  refine (dats m 0 c).arrAt_eq_of_covers 3 _ (by decide +kernel) fun t hf y => ?_
  blk_simp
  rw [after3]
  have e' : ((win0_3.blk t).view.emb y 2).val = (y 2).val := by
    blk_simp [idx3 t]
    try omega
  refine (rows_eq m c t y (y 0).val ((win0_3.blk t).view.emb y 0).val (y 1) ((win0_3.blk t).view.emb y 1) (y 2) rfl rfl rfl ?_ ?_).trans ?_
  · blk_simp [idx3 t]
    omega
  · blk_simp [idx3 t]
    omega
  unfold G3
  rw [e']

theorem arr4 : (dats m 0 c).arrAt 4 cfg0.N = G4 m c := by
  refine (dats m 0 c).arrAt_eq_of_covers 4 _ (by decide +kernel) fun t hf y => ?_
  blk_simp
  rw [after4]
  have e : ((win0_4.blk t).view.emb y 1 : Fin 64) = y 1 := Fin.ext (by
    blk_simp [idx4 t]
    try omega)
  have e' : ((win0_4.blk t).view.emb y 2).val = (y 2).val := by
    blk_simp [idx4 t]
    try omega
  refine (meta_eq m c t y (y 0).val ((win0_4.blk t).view.emb y 0).val (y 1) (y 2) rfl rfl rfl ?_).trans ?_
  · blk_simp [idx4 t]
    omega
  unfold G4
  rw [e, e']

/-- The two programs end with equal arrays. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => G3 m c, fun c => G4 m c, ?_, ?_⟩
  · refine (θ_run _ _ _).mono (fun r h c => ?_) (θ_run_and (Cert.Kernel4Ideal.Hand.run m g) (Cert.Kernel4Ideal.Hand.frame m g))
    obtain ⟨h, h'⟩ := h
    exact ⟨((h c).1 3).trans (arr3 m c), ((h c).1 4).trans (arr4 m c), h'.1 c⟩
  · refine (θ_run _ _ _).mono (fun r h c => ?_) (Cert.Reference4Ideal.Value.run (F := Ideal) m' g')
    obtain ⟨h0, h1, h2⟩ := h c
    obtain ⟨a0, a1, a2⟩ := hargs c
    refine ⟨h0.trans ?_, h1.trans ?_, h2⟩
    · rw [a0, a2]
      exact (Cert.Reference4Ideal.Read.val_main_v10_eq _ _).trans (funext fun i => ref0 _ _ i _ _ _ rfl rfl rfl)
    · rw [a1, a2]
      exact (Cert.Reference4Ideal.Read.val_main_v21_eq _ _).trans (funext fun i => ref1 _ _ i _ _ _ rfl rfl rfl)

end Cert.InArr4

end
-- ==== Proof.OutIdeal.lean ====
/- The frame of the output-projection kernel: its grid is the sixteen blocks of 512 rows. The first point rounds the
   weights into the scratch and writes the meta rows; the others find the scratch as it was left and do not touch the
   meta rows' buffer, which the last of them writes back. -/
module

public import proofs.«01_k».proof.Proof.Gen.Kernel5Ideal.Frame
public import proofs.«01_k».proof.Proof.Gen.Kernel5Ideal.Skeleton
public import Idealize.ShloMosaic.Lib.Pipeline.TableIdle
public import Idealize.ShloMosaic.Lib.Claim

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at a point. -/
abbrev First (i : grid0.Coords) : Prop := k0_cond1 i = 1#1

/-- It is taken at the first point alone. -/
theorem first_iff : ∀ t : Fin cfg0.N, First (grid0.coords t) ↔ t.val = 0 :=
  (by decide +kernel : ∀ t : Fin grid0.N, First (grid0.coords t) ↔ t.val = 0)

/-- The first point. -/
def base : Fin cfg0.N := ⟨0, (by decide : 0 < grid0.N)⟩

theorem base_first : First (grid0.coords base) := (first_iff _).mpr rfl

/-- The staging buffers at a point. -/
abbrev b0 (t : Fin cfg0.N) : Memref sig .tc .vmem S16x512x128 .bf16 := win0_0.stage (cfg0.slots t 0)
theorem w0 (t : Fin cfg0.N) : (b0 t).IsWhole := hstage0_0 ((cfg0.slots t 0).cast nbuf0_0)
abbrev b1 (t : Fin cfg0.N) : Memref sig .tc .vmem S16x64x128 .bf16 := win0_1.stage (cfg0.slots t 1)
theorem w1 (t : Fin cfg0.N) : (b1 t).IsWhole := hstage0_1 ((cfg0.slots t 1).cast nbuf0_1)
abbrev b2 (t : Fin cfg0.N) : Memref sig .tc .vmem S1x2048x2048 .f32 := win0_2.stage (cfg0.slots t 2)
theorem w2 (t : Fin cfg0.N) : (b2 t).IsWhole := hstage0_2 ((cfg0.slots t 2).cast nbuf0_2)
abbrev b3 (t : Fin cfg0.N) : Memref sig .tc .vmem S512x2048 .f32 := win0_3.stage (cfg0.slots t 3)
theorem w3 (t : Fin cfg0.N) : (b3 t).IsWhole := hstage0_3 ((cfg0.slots t 3).cast nbuf0_3)
abbrev b4 (t : Fin cfg0.N) : Memref sig .tc .vmem S64x2048 .f32 := win0_4.stage (cfg0.slots t 4)
theorem w4 (t : Fin cfg0.N) : (b4 t).IsWhole := hstage0_4 ((cfg0.slots t 4).cast nbuf0_4)
abbrev b5 (t : Fin cfg0.N) : Memref sig .tc .vmem S1x2048 .f32 := win0_5.stage (cfg0.slots t 5)
theorem w5 (t : Fin cfg0.N) : (b5 t).IsWhole := hstage0_5 ((cfg0.slots t 5).cast nbuf0_5)
abbrev b6 (t : Fin cfg0.N) : Memref sig .tc .vmem S1x2048 .f32 := win0_6.stage (cfg0.slots t 6)
theorem w6 (t : Fin cfg0.N) : (b6 t).IsWhole := hstage0_6 ((cfg0.slots t 6).cast nbuf0_6)
abbrev b7 (t : Fin cfg0.N) : Memref sig .tc .vmem S512x2048 .f32 := win0_7.stage (cfg0.slots t 7)
theorem w7 (t : Fin cfg0.N) : (b7 t).IsWhole := hstage0_7 ((cfg0.slots t 7).cast nbuf0_7)
abbrev b8 (t : Fin cfg0.N) : Memref sig .tc .vmem S64x2048 .f32 := win0_8.stage (cfg0.slots t 8)
theorem w8 (t : Fin cfg0.N) : (b8 t).IsWhole := hstage0_8 ((cfg0.slots t 8).cast nbuf0_8)
/-- The scratch that holds the rounded weights. -/
abbrev bs : Memref sig .tc .vmem S2048x2048 .bf16 := Memref.whole cc0_scratch0
theorem ws : (bs).IsWhole := Memref.isWhole_whole _

/-- Buffers through which contents are stated. -/
abbrev R7 : View sig .tc .vmem S512x2048 .f32 := (Memref.whole cc0_stg7_0 : Memref sig .tc .vmem S512x2048 .f32).view
abbrev R8 : View sig .tc .vmem S64x2048 .f32 := (Memref.whole cc0_stg8_0 : Memref sig .tc .vmem S64x2048 .f32).view
abbrev Rs : View sig .tc .vmem S2048x2048 .bf16 := (bs).view

/-- What the region lends beside the windows: the scratch at some contents and the generator register. -/
theorem lent_eq (c : Dev nD) :
    (Pipeline.ΦA spec0 c : sProp 𝕄)
      = iprop(iprop((∃ d, owns (c : Thread nD τ) bs fullShare d)) ∗ (∃ r, prngReg c r)) := by
  unfold Pipeline.ΦA; rw [scopedRest0_eq]; simp only [bs, owns_whole]; try rfl

set_option maxHeartbeats 2000000 in
/-- The body at the first point: the pieces its stores leave in the two outputs and in the scratch. -/
noncomputable def runA (c : Dev nD) (i : grid0.Coords)
    (a1 : Memref sig .tc .vmem S16x512x128 .bf16) (h1 : a1.IsWhole) (a2 : Memref sig .tc .vmem S16x64x128 .bf16) (h2 : a2.IsWhole)
    (a3 : Memref sig .tc .vmem S1x2048x2048 .f32) (h3 : a3.IsWhole) (a4 : Memref sig .tc .vmem S512x2048 .f32) (h4 : a4.IsWhole)
    (a5 : Memref sig .tc .vmem S64x2048 .f32) (h5 : a5.IsWhole) (a6 : Memref sig .tc .vmem S1x2048 .f32) (h6 : a6.IsWhole)
    (a7 : Memref sig .tc .vmem S1x2048 .f32) (h7 : a7.IsWhole) (a8 : Memref sig .tc .vmem S512x2048 .f32) (h8 : a8.IsWhole)
    (a9 : Memref sig .tc .vmem S64x2048 .f32) (h9 : a9.IsWhole) (a10 : Memref sig .tc .vmem S2048x2048 .bf16) (h10 : a10.IsWhole)
    (hc : First i) (x1 : Vec F S16x512x128 .bf16) (x2 : Vec F S16x64x128 .bf16) (x3 : Vec F S1x2048x2048 .f32)
    (x4 : Vec F S512x2048 .f32) (x5 : Vec F S64x2048 .f32) (x6 : Vec F S1x2048 .f32) (x7 : Vec F S1x2048 .f32) :
    Σ' (L8 : List (View.Piece (Elt F) S512x2048 .f32)), Σ' (L9 : List (View.Piece (Elt F) S64x2048 .f32)),
      { Ls : List (View.Piece (Elt F) S2048x2048 .bf16) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ (∃ d, owns (c : Thread nD τ) a8 fullShare d) ∗ (∃ d, owns (c : Thread nD τ) a9 fullShare d) ∗ (∃ d, owns (c : Thread nD τ) a10 fullShare d)
            ∗ (iprop(owns (c : Thread nD τ) a1 fullShare x1 ∗ owns (c : Thread nD τ) a2 fullShare x2 ∗ owns (c : Thread nD τ) a3 fullShare x3 ∗ owns (c : Thread nD τ) a4 fullShare x4
                ∗ owns (c : Thread nD τ) a5 fullShare x5 ∗ owns (c : Thread nD τ) a6 fullShare x6 ∗ owns (c : Thread nD τ) a7 fullShare x7
                ∗ (∃ f, a8.view.loc (c : Thread nD τ) ↦[a8.view.set]{fullShare} a8.view.writes (Elt F) f L8)
                ∗ (∃ f, a9.view.loc (c : Thread nD τ) ↦[a9.view.set]{fullShare} a9.view.writes (Elt F) f L9)
                ∗ (∃ f, a10.view.loc (c : Thread nD τ) ↦[a10.view.set]{fullShare} a10.view.writes (Elt F) f Ls)) -∗ K ⟨⟩))
          ⊢ wp frame (wpE (defs₀ (F := F)) Variants.none c none) E
              (cc0_outproj_ln i a1 h1 a2 h2 a3 h3 a4 h4 a5 h5 a6 h6 a7 h7 a8 h8 a9 h9 a10 h10) K } := by
  refine ⟨?_, ?_, ?_, fun E K => ?run⟩
  case run =>
    simp only [cc0_outproj_ln_eq_skeleton]; unfold cc0_outproj_ln_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%ds, %fs, -, Hs⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7
    sl_exec (disch := sl_exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    iexists _; iexact Hs

set_option maxHeartbeats 2000000 in
/-- The body at any other point: the scratch is read at what it holds, the meta rows' buffer is not touched. -/
noncomputable def runB (c : Dev nD) (i : grid0.Coords)
    (a1 : Memref sig .tc .vmem S16x512x128 .bf16) (h1 : a1.IsWhole) (a2 : Memref sig .tc .vmem S16x64x128 .bf16) (h2 : a2.IsWhole)
    (a3 : Memref sig .tc .vmem S1x2048x2048 .f32) (h3 : a3.IsWhole) (a4 : Memref sig .tc .vmem S512x2048 .f32) (h4 : a4.IsWhole)
    (a5 : Memref sig .tc .vmem S64x2048 .f32) (h5 : a5.IsWhole) (a6 : Memref sig .tc .vmem S1x2048 .f32) (h6 : a6.IsWhole)
    (a7 : Memref sig .tc .vmem S1x2048 .f32) (h7 : a7.IsWhole) (a8 : Memref sig .tc .vmem S512x2048 .f32) (h8 : a8.IsWhole)
    (a9 : Memref sig .tc .vmem S64x2048 .f32) (h9 : a9.IsWhole) (a10 : Memref sig .tc .vmem S2048x2048 .bf16) (h10 : a10.IsWhole)
    (hc : ¬First i) (x1 : Vec F S16x512x128 .bf16) (x4 : Vec F S512x2048 .f32) (x6 : Vec F S1x2048 .f32)
    (x7 : Vec F S1x2048 .f32) (xs : Vec F S2048x2048 .bf16) :
    { L8 : List (View.Piece (Elt F) S512x2048 .f32) //
      ∀ (E : Set ℕ) (K : PUnit → sProp 𝕄),
        iprop(owns (c : Thread nD τ) a1 fullShare x1 ∗ owns (c : Thread nD τ) a4 fullShare x4 ∗ owns (c : Thread nD τ) a6 fullShare x6 ∗ owns (c : Thread nD τ) a7 fullShare x7
            ∗ (∃ d, owns (c : Thread nD τ) a8 fullShare d) ∗ owns (c : Thread nD τ) a10 fullShare xs
            ∗ (iprop(owns (c : Thread nD τ) a1 fullShare x1 ∗ owns (c : Thread nD τ) a4 fullShare x4 ∗ owns (c : Thread nD τ) a6 fullShare x6 ∗ owns (c : Thread nD τ) a7 fullShare x7
                ∗ (∃ f, a8.view.loc (c : Thread nD τ) ↦[a8.view.set]{fullShare} a8.view.writes (Elt F) f L8)
                ∗ owns (c : Thread nD τ) a10 fullShare xs) -∗ K ⟨⟩))
          ⊢ wp frame (wpE (defs₀ (F := F)) Variants.none c none) E
              (cc0_outproj_ln i a1 h1 a2 h2 a3 h3 a4 h4 a5 h5 a6 h6 a7 h7 a8 h8 a9 h9 a10 h10) K } := by
  refine ⟨?_, fun E K => ?run⟩
  case run =>
    simp only [cc0_outproj_ln_eq_skeleton]; unfold cc0_outproj_ln_skel
    simp only [k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f1, %e1, H1⟩, ⟨%f4, %e4, H4⟩, ⟨%f6, %e6, H6⟩, ⟨%f7, %e7, H7⟩, ⟨%d8, %f8, -, H8⟩, ⟨%f10, %e10, H10⟩, Hk⟩
    obtain rfl := h1.eq_unread e1; obtain rfl := h4.eq_unread e4; obtain rfl := h6.eq_unread e6; obtain rfl := h7.eq_unread e7; obtain rfl := h10.eq_unread e10
    sl_exec (disch := sl_exact hc)
    sl_step
    iapply Hk
    isplitl [H1]
    · iexists _; isplitr; · ipureintro; exact h1.read_unread _
      iexact H1
    isplitl [H4]
    · iexists _; isplitr; · ipureintro; exact h4.read_unread _
      iexact H4
    isplitl [H6]
    · iexists _; isplitr; · ipureintro; exact h6.read_unread _
      iexact H6
    isplitl [H7]
    · iexists _; isplitr; · ipureintro; exact h7.read_unread _
      iexact H7
    isplitl [H8]; · iexists _; iexact H8
    iexists _; isplitr; · ipureintro; exact h10.read_unread _
    iexact H10

/-- The run at point `t`'s buffers and blocks, for the first point. -/
abbrev atA (c : Dev nD) (t : Fin cfg0.N) (hc : First (grid0.coords t)) :=
  runA (F := F) c (grid0.coords t) (b0 t) (w0 t) (b1 t) (w1 t) (b2 t) (w2 t) (b3 t) (w3 t) (b4 t) (w4 t) (b5 t) (w5 t) (b6 t) (w6 t) (b7 t) (w7 t) (b8 t) (w8 t)
    bs ws hc (iblk m c 0 t) (iblk m c 1 t) (iblk m c 2 t) (iblk m c 3 t) (iblk m c 4 t) (iblk m c 5 t) (iblk m c 6 t)

/-- The run at point `t`'s buffers and token block, for another point, the scratch at `xs`. -/
abbrev atB (c : Dev nD) (t : Fin cfg0.N) (hc : ¬First (grid0.coords t)) (xs : Vec F S2048x2048 .bf16) :=
  runB (F := F) c (grid0.coords t) (b0 t) (w0 t) (b1 t) (w1 t) (b2 t) (w2 t) (b3 t) (w3 t) (b4 t) (w4 t) (b5 t) (w5 t) (b6 t) (w6 t) (b7 t) (w7 t) (b8 t) (w8 t)
    bs ws hc (iblk m c 0 t) (iblk m c 3 t) (iblk m c 5 t) (iblk m c 6 t) xs

theorem coverA7 (c : Dev nD) (t : Fin cfg0.N) (hc : First (grid0.coords t)) (y : S512x2048.Idx) :
    ∃ pc ∈ (atA m c t hc).1, y ∈ pc.1.set :=
  View.cover_of_tiledL (atA m c t hc).1 S128x2048.size (by sl_kernel_rfl) y
theorem coverA8 (c : Dev nD) (t : Fin cfg0.N) (hc : First (grid0.coords t)) (y : S64x2048.Idx) :
    ∃ pc ∈ (atA m c t hc).2.1, y ∈ pc.1.set :=
  View.cover_of_tiledL (atA m c t hc).2.1 S64x2048.size (by sl_kernel_rfl) y
theorem coverAs (c : Dev nD) (t : Fin cfg0.N) (hc : First (grid0.coords t)) (y : S2048x2048.Idx) :
    ∃ pc ∈ (atA m c t hc).2.2.1, y ∈ pc.1.set :=
  View.cover_of_tiledL (atA m c t hc).2.2.1 S512x2048.size (by sl_kernel_rfl) y
theorem coverB7 (c : Dev nD) (t : Fin cfg0.N) (hc : ¬First (grid0.coords t)) (xs : Vec F S2048x2048 .bf16) (y : S512x2048.Idx) :
    ∃ pc ∈ (atB m c t hc xs).1, y ∈ pc.1.set :=
  View.cover_of_tiledL (atB m c t hc xs).1 S128x2048.size (by sl_kernel_rfl) y

/-- The rounded weights: what the first point stored. -/
def wts (c : Dev nD) : Vec F S2048x2048 .bf16 :=
  Rs.read (Elt F) (Rs.writes (Elt F) Rs.junk (atA m c base base_first).2.2.1)

/-- The meta rows' buffer after the first point. -/
def meta8 (c : Dev nD) : Vec F S64x2048 .f32 :=
  R8.read (Elt F) (R8.writes (Elt F) R8.junk (atA m c base base_first).2.1)

/-- The token rows' buffer after point `t`. -/
def rows7 (c : Dev nD) (t : Fin cfg0.N) : Vec F S512x2048 .f32 :=
  if hc : First (grid0.coords t) then R7.read (Elt F) (R7.writes (Elt F) R7.junk (atA m c t hc).1)
  else R7.read (Elt F) (R7.writes (Elt F) R7.junk (atB m c t hc (wts m c)).1)

theorem eq_base (t : Fin cfg0.N) (h : t.val = 0) : t = base := Fin.ext h

/-- What holds before point `n`: the scratch at some contents before the first, then at the rounded weights. -/
def inv (c : Dev nD) : (n : ℕ) → n ≤ cfg0.N → sProp 𝕄
  | 0, _ => Pipeline.ΦA spec0 c
  | n + 1, hn => iprop(iprop(owns (c : Thread nD τ) bs fullShare (wts m c)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) bs fullShare (wts m c)) ∗ (∃ r, prngReg c r)) := rfl
theorem inv_pos (c : Dev nD) (n : ℕ) (h : n ≤ cfg0.N) (hz : n ≠ 0) :
    inv m c n h = iprop(iprop(owns (c : Thread nD τ) bs fullShare (wts m c)) ∗ (∃ r, prngReg c r)) := by
  cases n with
  | zero => exact absurd rfl hz
  | succ n => rfl

/-- Whatever the point, the invariant lends the scratch at some contents. -/
theorem inv_lent (c : Dev nD) (n : ℕ) (h : n ≤ cfg0.N) : inv m c n h ⊢ Pipeline.ΦA spec0 c := by
  by_cases hz : n = 0
  · rw [inv_zero m c n h hz]
  · rw [inv_pos m c n h hz, lent_eq]
    iintro ⟨Hs, Hg⟩
    isplitl [Hs]
    · iexists _; iexact Hs
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rows7 m c t
    | ⟨8, _⟩ => meta8 m c
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem Φ_at (c : Dev nD) (t : Fin cfg0.N) : (dats m 0 c).Φ t.castSucc = inv m c t.val (Nat.le_of_lt t.isLt) := by
  dsimp only [dats]; exact Pipeline.Dat.Φ_castSucc (inv m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = rows7 m c t := by dsimp only [dats]
theorem after8 (c : Dev nD) (t : Fin cfg0.N) : (dats m 0 c).after 8 t = meta8 m c := by dsimp only [dats]
theorem bef0 (c : Dev nD) (t : Fin cfg0.N) (d) : (dats m 0 c).before 0 t d = iblk m c 0 t :=
  before0_0_of m (dats m 0 c) (A_eq m c 0) (after0 m c) t d
theorem bef1 (c : Dev nD) (t : Fin cfg0.N) (d) : (dats m 0 c).before 1 t d = iblk m c 1 t :=
  before0_1_of m (dats m 0 c) (A_eq m c 1) (after1 m c) t d
theorem bef2 (c : Dev nD) (t : Fin cfg0.N) (d) : (dats m 0 c).before 2 t d = iblk m c 2 t :=
  before0_2_of m (dats m 0 c) (A_eq m c 2) (after2 m c) t d
theorem bef3 (c : Dev nD) (t : Fin cfg0.N) (d) : (dats m 0 c).before 3 t d = iblk m c 3 t :=
  before0_3_of m (dats m 0 c) (A_eq m c 3) (after3 m c) t d
theorem bef4 (c : Dev nD) (t : Fin cfg0.N) (d) : (dats m 0 c).before 4 t d = iblk m c 4 t :=
  before0_4_of m (dats m 0 c) (A_eq m c 4) (after4 m c) t d
theorem bef5 (c : Dev nD) (t : Fin cfg0.N) (d) : (dats m 0 c).before 5 t d = iblk m c 5 t :=
  before0_5_of m (dats m 0 c) (A_eq m c 5) (after5 m c) t d
theorem bef6 (c : Dev nD) (t : Fin cfg0.N) (d) : (dats m 0 c).before 6 t d = iblk m c 6 t :=
  before0_6_of m (dats m 0 c) (A_eq m c 6) (after6 m c) t d

/-- The meta rows' buffer is left alone exactly at the points after the first. -/
theorem idle8 : ∀ t : Fin cfg0.N, cfg0.idle 8 (grid0.coords t) = !decide (t.val = 0) := by decide +kernel
/-- It holds nothing only at the first point. -/
def fresh8 : ℕ → Bool := fun n => decide (n % 16 = 0)
theorem fresh8_step : ∀ t : Fin cfg0.N,
    fresh8 (t.val + 1) = ((cfg0.win 8).flush t || (cfg0.idle 8 (cfg0.grid.coords t) && fresh8 t.val)) := by decide +kernel
theorem fresh8_eq (t : Fin cfg0.N) : cfg0.fresh 8 t.val = fresh8 t.val :=
  Pipeline.Cfg.fresh_tab cfg0 8 fresh8 rfl fresh8_step t.val (Nat.le_of_lt t.isLt)

/-- At a later point the meta rows' buffer holds their rows. -/
theorem bef8 (c : Dev nD) (t : Fin cfg0.N) (h : ¬t.val = 0) (d) : (dats m 0 c).before 8 t d = meta8 m c := by
  have ht : t.val < 16 := t.isLt
  rw [Dat.before_out_traj (dats m 0 c) 8 rfl (fun _ _ => rfl) (fun t hz _ hf => by
      rw [after8, after8]) t.val t rfl d,
    if_neg (by rw [fresh8_eq t]; simp [fresh8]; omega), after8]

/-- So handing it back as it was found is what the pipeline asks there, written back or not. -/
theorem leaves8 (c : Dev nD) (t : Fin cfg0.N) (h : ¬t.val = 0) (d) :
    owns (c : Thread nD τ) (b8 t) fullShare ((dats m 0 c).before 8 t d) ⊢ ((dats m 0 c).leavesExact 8 t : sProp 𝕄) := by
  have hi : cfg0.idle 8 (cfg0.grid.coords t) = true := by
    refine (idle8 t).trans ?_; simp [h]
  cases hf : (cfg0.win 8).flush t
  · rw [Dat.leavesExact_idle _ 8 t hi hf]
    iintro H; iexists d; iexact H
  · rw [show (dats m 0 c).leavesExact 8 t = owns (c : Thread nD τ) (b8 t) fullShare ((dats m 0 c).after 8 t) from by
      unfold Dat.leavesExact; rw [hi, hf], bef8 m c t h d, after8]

/-- What the body finds at a point, window by window, -/
def pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d))
    ∗ (∃ d, owns (c : Thread nD τ) (b8 t) fullShare ((dats m 0 c).before 8 t d)))

/-- and what it leaves. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (dats m 0 c).leavesExact 5 t ∗ (dats m 0 c).leavesExact 6 t ∗ (dats m 0 c).leavesExact 7 t ∗ (dats m 0 c).leavesExact 8 t)

set_option maxHeartbeats 6400000 in
/-- The body's triple at every point. -/
theorem body (c : Dev nD) (t : Fin cfg0.N) :
    pre m c t ⊢ wp frame (wpE (defs₀ (F := F)) Variants.none c none) Set.univ (bodyAt0 t) (fun _ => post m c t) := by
  unfold pre post bodyAt0
  simp only [bef0, bef1, bef2, bef3, bef4, bef5, bef6]
  rw [show (dats m 0 c).owesAt () t.succ = (dats m 0 c).owesAt () t.castSucc from rfl,
    show (dats m 0 c).Φ t.succ = inv m c (t.val + 1) t.isLt from rfl, inv_succ, Φ_at m c t,
    show (dats m 0 c).leavesExact 0 t = owns (c : Thread nD τ) (b0 t) fullShare ((dats m 0 c).after 0 t) from rfl,
    show (dats m 0 c).leavesExact 1 t = owns (c : Thread nD τ) (b1 t) fullShare ((dats m 0 c).after 1 t) from rfl,
    show (dats m 0 c).leavesExact 2 t = owns (c : Thread nD τ) (b2 t) fullShare ((dats m 0 c).after 2 t) from rfl,
    show (dats m 0 c).leavesExact 3 t = owns (c : Thread nD τ) (b3 t) fullShare ((dats m 0 c).after 3 t) from rfl,
    show (dats m 0 c).leavesExact 4 t = owns (c : Thread nD τ) (b4 t) fullShare ((dats m 0 c).after 4 t) from rfl,
    show (dats m 0 c).leavesExact 5 t = owns (c : Thread nD τ) (b5 t) fullShare ((dats m 0 c).after 5 t) from rfl,
    show (dats m 0 c).leavesExact 6 t = owns (c : Thread nD τ) (b6 t) fullShare ((dats m 0 c).after 6 t) from rfl,
    show (dats m 0 c).leavesExact 7 t = owns (c : Thread nD τ) (b7 t) fullShare ((dats m 0 c).after 7 t) from rfl,
    after0, after1, after2, after3, after4, after5, after6, after7]
  by_cases h : t.val = 0
  · have hc := (first_iff t).mpr h
    rw [show (dats m 0 c).leavesExact 8 t = owns (c : Thread nD τ) (b8 t) fullShare ((dats m 0 c).after 8 t) from by
        unfold Dat.leavesExact; rw [show cfg0.idle 8 (cfg0.grid.coords t) = false from (idle8 t).trans (by simp [h])],
      after8, show rows7 m c t = _ from dif_pos hc]
    obtain rfl := eq_base t h
    unfold wts meta8
    iintro ⟨Hi, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave Hl := (inv_lent m c base.val (Nat.le_of_lt base.isLt)) $$ Hi
    ihave Hl' := (Entails.of_eq (lent_eq c)) $$ Hl
    icases Hl' with ⟨Hs, Hg⟩
    iapply ((atA m c base hc).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [Hs]; · iexact Hs
    iintro ⟨H0, H1, H2, H3, H4, H5, H6, ⟨%e7, H7⟩, ⟨%e8, H8⟩, ⟨%es, Hs⟩⟩
    isplitl [Hs Hg]
    · isplitl [Hs]
      · unfold owns; iexists _; isplitr
        swap; · iexact Hs
        ipureintro; exact View.read_writes_of_cover _ _ _ _ _ (coverAs m c base hc)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA7 m c base hc)
    unfold owns; iexists _; isplitr
    swap; · iexact H8
    ipureintro; exact View.read_writes_of_cover _ _ _ _ _ (coverA8 m c base hc)
  · have hc : ¬First (grid0.coords t) := fun e => h ((first_iff t).mp e)
    rw [inv_pos m c t.val _ h, show rows7 m c t = _ from dif_neg hc]
    iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atB m c t hc (wts m c)).2 Set.univ _)
    isplitl [H0]; · iexact H0
    isplitl [H3]; · iexact H3
    isplitl [H5]; · iexact H5
    isplitl [H6]; · iexact H6
    isplitl [H7]; · iexists _; iexact H7
    isplitl [Hs]; · iexact Hs
    iintro ⟨H0, H3, H5, H6, ⟨%e7, H7⟩, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB7 m c t hc _)
    iapply (leaves8 m c t h d8); iexact H8

/-- The body table's row at a point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- Every run ends with the arrays the proof data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by
      rw [show (dats m 0 c).Φ 0 = inv m c 0 (Nat.zero_le _) from rfl, inv_zero m c 0 _ rfl])
    (hout := fun c => by
      rw [show (dats m 0 c).Φ (Fin.last cfg0.N) = inv m c cfg0.N (Nat.le_refl _) from rfl]
      exact inv_lent m c _ _)

theorem run : θ_run defs (onTc (τ := τ) (main (F := F))) (s₀ m ρ) (Pipeline.FramePost cfgs (dats m) 0 (V m)) :=
  (θ_run defs _ _).mono (fun _ h => h.1) (run_quiet m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiet m ρ))

end Cert.Kernel5Ideal.Hand

end
-- ==== Proof.OutVal.lean ====
/- What the output-projection kernel writes: each row of the scaled stream plus the projection, normalised. -/
module

public import proofs.«01_k».proof.Proof.OutIdeal
public import proofs.«01_k».proof.Proof.InRows
public import Idealize.ShloMosaic.Lib.Pipeline.ReadBack
public import Idealize.ShloMosaic.Lib.Pipeline.ValueKit
public import Idealize.ShloMosaic.Lib.Tactic

@[expose] public section

set_option maxRecDepth 16384

noncomputable section

namespace Cert.OutVal

open Idealize.ShloMosaic Idealize.ShloMosaic.TcCoe Idealize.ShloMosaic.Tactic
open Cert.Kernel5Ideal Cert.Kernel5Ideal.Gen Cert.Kernel5Ideal.Hand
open Cert.InRows (whole2 cov2)

/-- A row's mean. -/
def mean (z : Fin 2048 → EReal) : EReal := Ideal.div (∑ x, z x) (Ideal.ofBits .f32 0x45000000#32)

/-- Entry `j` of a row normalised, scaled by `g` and shifted by `b`. -/
def norm (z : Fin 2048 → EReal) (g b : EReal) (j : Fin 2048) : EReal :=
  (z j - mean z) * Ideal.rsqrt (Ideal.div (∑ x, (z x - mean z) * (z x - mean z)) (Ideal.ofBits .f32 0x45000000#32)
    + Ideal.ofBits .f32 0x3727C5AC#32) * g + b

/-- Row `r` before it is normalised. -/
def row (h : Fin 2048 → EReal) (y : Fin 2048 → EReal) (w : Fin 2048 → Fin 2048 → EReal) (e : Fin 2048) : EReal :=
  Ideal.ofBits .f32 0x3FD744FD#32 * h e + ∑ k, y k * w k e

theorem pay52 (Z : FVec Ideal S128x2048 .f32) (g b : Vec Ideal S1x2048 .f32) (r : Fin 128) (j : Fin 2048) :
    (k0_pay52 Z g b (ix2 r j) : EReal) = norm (fun e => Z (ix2 r e)) (g (ix2 0 j)) (b (ix2 0 j)) j := by
  unfold norm mean
  pointwise [k0_pay52]

theorem pay20 (H : Vec Ideal S64x2048 .f32) (Y : FVec Ideal S64x2048 .bf16) (W : Vec Ideal S2048x2048 .bf16)
    (g b : Vec Ideal S1x2048 .f32) (r : Fin 64) (j : Fin 2048) :
    (k0_pay20 H Y W g b (ix2 r j) : EReal)
      = norm (row (fun e => H (ix2 r e)) (fun k => Y (ix2 r k)) fun k e => W (ix2 k e)) (g (ix2 0 j)) (b (ix2 0 j)) j := by
  unfold norm mean row
  pointwise [k0_pay20]

/-- Entry `j` of row `r` of the result: `y` the heads' rows, `h` the stream. -/
def out {M : ℕ} (y : Vec Ideal ⟨3, ![16, M, 128]⟩ .bf16) (h : Vec Ideal ⟨2, ![M, 2048]⟩ .f32) (w : Fin 2048 → Fin 2048 → EReal)
    (g b : EReal) (r : Fin M) (j : Fin 2048) : EReal :=
  norm (row (fun e => h (ix2 r e)) (fun k => y (ix3 ⟨k.val / 128, by omega⟩ r ⟨k.val % 128, by omega⟩)) w) g b j

/-- Sixteen heads' tiles side by side. -/
def side (S : Fin 16 → FVec Ideal S128x128 .bf16) : FVec Ideal S128x2048 .bf16 :=
  concatenate S128x2048 1 [⟨S128x128, S 0⟩, ⟨S128x128, S 1⟩, ⟨S128x128, S 2⟩, ⟨S128x128, S 3⟩, ⟨S128x128, S 4⟩, ⟨S128x128, S 5⟩,
    ⟨S128x128, S 6⟩, ⟨S128x128, S 7⟩, ⟨S128x128, S 8⟩, ⟨S128x128, S 9⟩, ⟨S128x128, S 10⟩, ⟨S128x128, S 11⟩, ⟨S128x128, S 12⟩,
    ⟨S128x128, S 13⟩, ⟨S128x128, S 14⟩, ⟨S128x128, S 15⟩]
    concatenates_S128x128_S128x128_S128x128_S128x128_S128x128_S128x128_S128x128_S128x128_S128x128_S128x128_S128x128_S128x128_S128x128_S128x128_S128x128_S128x128_S128x2048_d1

theorem side_apply (S : Fin 16 → FVec Ideal S128x128 .bf16) (r : Fin 128) (k : Fin 2048) :
    side S (ix2 r k) = S ⟨k.val / 128, by omega⟩ (ix2 r ⟨k.val % 128, by omega⟩) :=
  concatenate_ofFn_apply (t := S128x2048) (s₁ := S128x128) 1 S
    concatenates_S128x128_S128x128_S128x128_S128x128_S128x128_S128x128_S128x128_S128x128_S128x128_S128x128_S128x128_S128x128_S128x128_S128x128_S128x128_S128x128_S128x2048_d1
    rfl 128 rfl (ix2 r k) ⟨k.val / 128, by omega⟩ rfl (ix2 r ⟨k.val % 128, by omega⟩) rfl fun b hb => by
      match b with
      | ⟨0, _⟩ => rfl
      | ⟨1, _⟩ => exact absurd rfl hb

/-- The same for the meta rows. -/
def sidem (S : Fin 16 → FVec Ideal S64x128 .bf16) : FVec Ideal S64x2048 .bf16 :=
  concatenate S64x2048 1 [⟨S64x128, S 0⟩, ⟨S64x128, S 1⟩, ⟨S64x128, S 2⟩, ⟨S64x128, S 3⟩, ⟨S64x128, S 4⟩, ⟨S64x128, S 5⟩,
    ⟨S64x128, S 6⟩, ⟨S64x128, S 7⟩, ⟨S64x128, S 8⟩, ⟨S64x128, S 9⟩, ⟨S64x128, S 10⟩, ⟨S64x128, S 11⟩, ⟨S64x128, S 12⟩,
    ⟨S64x128, S 13⟩, ⟨S64x128, S 14⟩, ⟨S64x128, S 15⟩]
    concatenates_S64x128_S64x128_S64x128_S64x128_S64x128_S64x128_S64x128_S64x128_S64x128_S64x128_S64x128_S64x128_S64x128_S64x128_S64x128_S64x128_S64x2048_d1

theorem sidem_apply (S : Fin 16 → FVec Ideal S64x128 .bf16) (r : Fin 64) (k : Fin 2048) :
    sidem S (ix2 r k) = S ⟨k.val / 128, by omega⟩ (ix2 r ⟨k.val % 128, by omega⟩) :=
  concatenate_ofFn_apply (t := S64x2048) (s₁ := S64x128) 1 S
    concatenates_S64x128_S64x128_S64x128_S64x128_S64x128_S64x128_S64x128_S64x128_S64x128_S64x128_S64x128_S64x128_S64x128_S64x128_S64x128_S64x128_S64x2048_d1
    rfl 128 rfl (ix2 r k) ⟨k.val / 128, by omega⟩ rfl (ix2 r ⟨k.val % 128, by omega⟩) rfl fun b hb => by
      match b with
      | ⟨0, _⟩ => rfl
      | ⟨1, _⟩ => exact absurd rfl hb

variable {sg : RefSig} {κ : Kind} {sp : Space}

theorem inbs (o : ℕ) (ho : o ≤ 384) (n : Fin 16) : ∀ a, (![n.val, o, 0] : Fin 3 → ℕ) a + S1x128x128.size a ≤ S16x512x128.size a := fun a => by
  match a with
  | ⟨0, _⟩ => show n.val + 1 ≤ 16; omega
  | ⟨1, _⟩ => show o + 128 ≤ 512; omega
  | ⟨2, _⟩ => show 0 + 128 ≤ 128; omega

/-- Head `n`'s tile of 128 rows from row `o`. -/
def head (v : View sg κ sp S16x512x128 .bf16) (f : v.ty.Contents (Elt Ideal)) (o : ℕ) (ho : o ≤ 384) (n : Fin 16) : FVec Ideal S128x128 .bf16 :=
  k0_pay45 (v.readAt (Elt Ideal) (Rect.unit (s := S16x512x128) ![n.val, o, 0] S1x128x128.size (inbs o ho n)).toLoadRect f)

theorem head_apply (v : View sg κ sp S16x512x128 .bf16) (X : Vec Ideal S16x512x128 .bf16) (f : v.ty.Contents (Elt Ideal))
    (hf : v.read (Elt Ideal) f = X) (o : ℕ) (ho : o ≤ 384) (n : Fin 16) (r d : Fin 128) :
    head v f o ho n (ix2 r d) = X (ix3 n ⟨o + r.val, by omega⟩ d) := by
  subst hf
  unfold head
  pointwise [k0_pay45]
  show v.read (Elt Ideal) f ((Rect.unit (s := S16x512x128) ![n.val, o, 0] S1x128x128.size (inbs o ho n)).idx _) = v.read (Elt Ideal) f _
  congr 1
  funext e
  fin_cases e <;> exact Fin.ext (by simp [Rect.idx_unit_val])

theorem inbm (n : Fin 16) : ∀ a, (![n.val, 0, 0] : Fin 3 → ℕ) a + S1x64x128.size a ≤ S16x64x128.size a := fun a => by
  match a with
  | ⟨0, _⟩ => show n.val + 1 ≤ 16; omega
  | ⟨1, _⟩ => show 0 + 64 ≤ 64; omega
  | ⟨2, _⟩ => show 0 + 128 ≤ 128; omega

/-- Head `n`'s meta rows. -/
def headm (v : View sg κ sp S16x64x128 .bf16) (f : v.ty.Contents (Elt Ideal)) (n : Fin 16) : FVec Ideal S64x128 .bf16 :=
  k0_pay7 (v.readAt (Elt Ideal) (Rect.unit (s := S16x64x128) ![n.val, 0, 0] S1x64x128.size (inbm n)).toLoadRect f)

theorem headm_apply (v : View sg κ sp S16x64x128 .bf16) (X : Vec Ideal S16x64x128 .bf16) (f : v.ty.Contents (Elt Ideal))
    (hf : v.read (Elt Ideal) f = X) (n : Fin 16) (r : Fin 64) (d : Fin 128) :
    headm v f n (ix2 r d) = X (ix3 n r d) := by
  subst hf
  unfold headm
  pointwise [k0_pay7]
  show v.read (Elt Ideal) f ((Rect.unit (s := S16x64x128) ![n.val, 0, 0] S1x64x128.size (inbm n)).idx _) = v.read (Elt Ideal) f _
  congr 1
  funext e
  fin_cases e <;> exact Fin.ext (by simp [Rect.idx_unit_val])

/-- The rows of one tile before they are normalised. -/
def pre (H : Vec Ideal S128x2048 .f32) (Y : FVec Ideal S128x2048 .bf16) (W : FVec Ideal S2048x2048 .bf16) : FVec Ideal S128x2048 .f32 :=
  addf (mulf (broadcast S128x2048 (Scalar.ofBits (F := Ideal) .f32 0x3FD744FD#32)) H)
    (matmul dot_S128x2048_S2048x2048_S128x2048_1_0_0_1_n_n none Y W (constant S128x2048 .f32 0x00000000#32))

theorem pre_apply (H : Vec Ideal S128x2048 .f32) (Y : FVec Ideal S128x2048 .bf16) (W : FVec Ideal S2048x2048 .bf16) (r : Fin 128) (e : Fin 2048) :
    (pre H Y W (ix2 r e) : EReal) = row (fun e => H (ix2 r e)) (fun k => Y (ix2 r k)) (fun k e => W (ix2 k e)) e := by
  unfold row
  pointwise [pre]

/-- The first tile is worked out as the third is. -/
theorem first33 (h : Vec Ideal S128x2048 .f32) (s0 s1 s2 s3 s4 s5 s6 s7 s8 s9 : FVec Ideal S128x128 .bf16) (s10 s11 s12 s13 s14 s15 : Vec Ideal S1x128x128 .bf16)
    (w : Vec Ideal S2048x2048 .bf16) (g b : Vec Ideal S1x2048 .f32) :
    k0_pay33 (k0_pay31 h s0 s1 s2 s3 s4 s5 s6 s7 s8 s9 s10 s11 s12 s13 s14 s15 w) (k0_pay32 h s0 s1 s2 s3 s4 s5 s6 s7 s8 s9 s10 s11 s12 s13 s14 s15 w) g b
      = k0_pay52 (pre h (concatenate S128x2048 1 [⟨S128x128, s0⟩, ⟨S128x128, s1⟩, ⟨S128x128, s2⟩, ⟨S128x128, s3⟩, ⟨S128x128, s4⟩, ⟨S128x128, s5⟩, ⟨S128x128, s6⟩, ⟨S128x128, s7⟩, ⟨S128x128, s8⟩, ⟨S128x128, s9⟩, ⟨S128x128, k0_pay45 s10⟩, ⟨S128x128, k0_pay45 s11⟩, ⟨S128x128, k0_pay45 s12⟩, ⟨S128x128, k0_pay45 s13⟩, ⟨S128x128, k0_pay45 s14⟩, ⟨S128x128, k0_pay45 s15⟩]
          concatenates_S128x128_S128x128_S128x128_S128x128_S128x128_S128x128_S128x128_S128x128_S128x128_S128x128_S128x128_S128x128_S128x128_S128x128_S128x128_S128x128_S128x2048_d1) w) g b := rfl

/-- So is the second. -/
theorem second44 (h : Vec Ideal S128x2048 .f32) (s0 s1 s2 s3 s4 s5 s6 s7 : FVec Ideal S128x128 .bf16) (s8 s9 s10 s11 s12 s13 s14 s15 : Vec Ideal S1x128x128 .bf16)
    (w : Vec Ideal S2048x2048 .bf16) (g b : Vec Ideal S1x2048 .f32) :
    k0_pay44 (k0_pay42 h s0 s1 s2 s3 s4 s5 s6 s7 s8 s9 s10 s11 s12 s13 s14 s15 w) (k0_pay43 h s0 s1 s2 s3 s4 s5 s6 s7 s8 s9 s10 s11 s12 s13 s14 s15 w) g b
      = k0_pay52 (pre h (concatenate S128x2048 1 [⟨S128x128, s0⟩, ⟨S128x128, s1⟩, ⟨S128x128, s2⟩, ⟨S128x128, s3⟩, ⟨S128x128, s4⟩, ⟨S128x128, s5⟩, ⟨S128x128, s6⟩, ⟨S128x128, s7⟩, ⟨S128x128, k0_pay45 s8⟩, ⟨S128x128, k0_pay45 s9⟩, ⟨S128x128, k0_pay45 s10⟩, ⟨S128x128, k0_pay45 s11⟩, ⟨S128x128, k0_pay45 s12⟩, ⟨S128x128, k0_pay45 s13⟩, ⟨S128x128, k0_pay45 s14⟩, ⟨S128x128, k0_pay45 s15⟩]
          concatenates_S128x128_S128x128_S128x128_S128x128_S128x128_S128x128_S128x128_S128x128_S128x128_S128x128_S128x128_S128x128_S128x128_S128x128_S128x128_S128x128_S128x2048_d1) w) g b := rfl

/-- The third itself. -/
theorem third51 (h : Vec Ideal S128x2048 .f32) (s0 s1 s2 s3 s4 s5 : FVec Ideal S128x128 .bf16) (s6 s7 s8 s9 s10 s11 s12 s13 s14 s15 : Vec Ideal S1x128x128 .bf16)
    (w : Vec Ideal S2048x2048 .bf16) (g b : Vec Ideal S1x2048 .f32) :
    k0_pay52 (k0_pay51 h s0 s1 s2 s3 s4 s5 s6 s7 s8 s9 s10 s11 s12 s13 s14 s15 w) g b
      = k0_pay52 (pre h (concatenate S128x2048 1 [⟨S128x128, s0⟩, ⟨S128x128, s1⟩, ⟨S128x128, s2⟩, ⟨S128x128, s3⟩, ⟨S128x128, s4⟩, ⟨S128x128, s5⟩, ⟨S128x128, k0_pay45 s6⟩, ⟨S128x128, k0_pay45 s7⟩, ⟨S128x128, k0_pay45 s8⟩, ⟨S128x128, k0_pay45 s9⟩, ⟨S128x128, k0_pay45 s10⟩, ⟨S128x128, k0_pay45 s11⟩, ⟨S128x128, k0_pay45 s12⟩, ⟨S128x128, k0_pay45 s13⟩, ⟨S128x128, k0_pay45 s14⟩, ⟨S128x128, k0_pay45 s15⟩]
          concatenates_S128x128_S128x128_S128x128_S128x128_S128x128_S128x128_S128x128_S128x128_S128x128_S128x128_S128x128_S128x128_S128x128_S128x128_S128x128_S128x128_S128x2048_d1) w) g b := rfl

/-- And the fourth. -/
theorem fourth1 (h : Vec Ideal S128x2048 .f32) (y : FVec Ideal S128x2048 .bf16) (w : Vec Ideal S2048x2048 .bf16)
    (g b : Vec Ideal S1x2048 .f32) : k0_pay1 h y w g b = k0_pay52 (pre h y w) g b := rfl

theorem at2 {a b : ℕ} (x : Shape.Idx ⟨2, ![a, b]⟩) (r : Fin a) (j : Fin b) (h0 : r.val = (x 0).val) (h1 : j.val = (x 1).val) : x = ix2 r j := by
  funext e
  match e with
  | ⟨0, _⟩ => exact Fin.ext h0.symm
  | ⟨1, _⟩ => exact Fin.ext h1.symm

/-- One tile of 128 rows as it is stored. -/
theorem tile (v0 : View sg κ sp S16x512x128 .bf16) (X0 : Vec Ideal S16x512x128 .bf16) (f0 : v0.ty.Contents (Elt Ideal))
    (hf0 : v0.read (Elt Ideal) f0 = X0) (v3 : View sg κ sp S512x2048 .f32) (X3 : Vec Ideal S512x2048 .f32)
    (f3 : v3.ty.Contents (Elt Ideal)) (hf3 : v3.read (Elt Ideal) f3 = X3) (v5 : View sg κ sp S1x2048 .f32) (X5 : Vec Ideal S1x2048 .f32)
    (f5 : v5.ty.Contents (Elt Ideal)) (hf5 : v5.read (Elt Ideal) f5 = X5) (v6 : View sg κ sp S1x2048 .f32) (X6 : Vec Ideal S1x2048 .f32)
    (f6 : v6.ty.Contents (Elt Ideal)) (hf6 : v6.read (Elt Ideal) f6 = X6) (W : Vec Ideal S2048x2048 .bf16) (o : ℕ) (ho : o ≤ 384)
    (inb3 inb5 inb6) (x : S128x2048.Idx) (r : Fin 512) (j : Fin 2048) (h0 : r.val = o + (x 0).val) (h1 : j.val = (x 1).val) :
    (k0_pay52 (pre (v3.readAt (Elt Ideal) (Rect.unit (s := S512x2048) ![o, 0] S128x2048.size inb3).toLoadRect f3) (side (head v0 f0 o ho)) W)
      (v5.readAt (Elt Ideal) (Rect.unit (s := S1x2048) ![0, 0] S1x2048.size inb5).toLoadRect f5)
      (v6.readAt (Elt Ideal) (Rect.unit (s := S1x2048) ![0, 0] S1x2048.size inb6).toLoadRect f6) x : EReal)
      = out X0 X3 (fun k e => W (ix2 k e)) (X5 (ix2 0 j)) (X6 (ix2 0 j)) r j := by
  have e5 := whole2 v5 X5 f5 hf5 inb5
  have e6 := whole2 v6 X6 f6 hf6 inb6
  obtain ⟨q, hq⟩ : ∃ q : Fin 128, q.val = (x 0).val := ⟨x 0, rfl⟩
  rw [← hq] at h0
  obtain rfl := at2 x q j hq h1
  refine (congrArg₂ (fun g b => k0_pay52 _ g b _) e5 e6).trans ((pay52 _ _ _ _ _).trans ?_)
  unfold out
  congr 1
  funext e
  rw [pre_apply]
  unfold row
  congr 1
  · congr 1
    subst hf3
    show v3.read (Elt Ideal) f3 ((Rect.unit (s := S512x2048) ![o, 0] S128x2048.size inb3).idx _) = _
    congr 1
    funext a
    fin_cases a <;> exact Fin.ext (by simp [Rect.idx_unit_val, h0])
  · refine Finset.sum_congr rfl fun k _ => ?_
    congr 1
    refine (side_apply _ _ _).trans ((head_apply v0 X0 f0 hf0 o ho _ _ _).trans ?_)
    exact congrArg (fun r => X0 (ix3 _ r _)) (Fin.ext h0.symm)

end Cert.OutVal

end
-- ==== Proof.OutRows.lean ====
/- What a point of the output-projection kernel leaves in its buffers. -/
module

public import proofs.«01_k».proof.Proof.OutVal

@[expose] public section

set_option maxRecDepth 16384

noncomputable section

namespace Cert.OutRows

open Idealize.ShloMosaic Idealize.ShloMosaic.TcCoe Idealize.ShloMosaic.Tactic
open Cert.Kernel5Ideal Cert.Kernel5Ideal.Gen Cert.Kernel5Ideal.Hand Cert.OutVal
open Cert.InRows (whole2 cov2)

variable {sg : RefSig} {κ : Kind} {sp : Space}
variable (m : (ℓ : Loc nD τ sig) → Buf (Elt Ideal) ℓ) (c : Dev nD) (t : Fin cfg0.N)

/-- The weights' block without its leading axis. -/
def flat (X : Vec Ideal S1x2048x2048 .f32) : Vec Ideal S2048x2048 .bf16 := fun y => X (ix3 0 (y 0) (y 1))

/-- A quarter of the rounded weights. -/
theorem quarter (v : View sg κ sp S1x2048x2048 .f32) (X : Vec Ideal S1x2048x2048 .f32) (f : v.ty.Contents (Elt Ideal))
    (hf : v.read (Elt Ideal) f = X) (o : ℕ) (inb) (x : S512x2048.Idx) (Y : S2048x2048.Idx) (h0 : (Y 0).val = o + (x 0).val)
    (h1 : (Y 1).val = (x 1).val) :
    (k0_pay2 (v.readAt (Elt Ideal) (Rect.unit (s := S1x2048x2048) ![0, o, 0] S1x512x2048.size inb).toLoadRect f) x : EReal) = flat X Y := by
  subst hf
  obtain ⟨q, hq⟩ : ∃ q : Fin 512, q.val = (x 0).val := ⟨x 0, rfl⟩
  obtain ⟨j, hj⟩ : ∃ j : Fin 2048, j.val = (x 1).val := ⟨x 1, rfl⟩
  rw [← hq] at h0
  rw [← hj] at h1
  obtain rfl := at2 x q j hq hj
  pointwise [k0_pay2]
  show v.read (Elt Ideal) f ((Rect.unit (s := S1x2048x2048) ![0, o, 0] S1x512x2048.size inb).idx _) = v.read (Elt Ideal) f _
  congr 1
  funext e
  fin_cases e <;> exact Fin.ext (by simp [Rect.idx_unit_val]; try omega)

theorem wtsA (hc : First (grid0.coords t)) : View.canon (atA m c t hc).2.2.1 = flat (iblk m c 2 t) := by
  unfold atA runA
  dsimp only
  unfold runA.sl.Hs_4
  funext y
  canon_tiles x h
  · exact quarter _ _ _ ((w2 t).read_unread (iblk m c 2 t)) 1536 _ x y (by omega) (by omega)
  · exact quarter _ _ _ ((w2 t).read_unread (iblk m c 2 t)) 1024 _ x y (by omega) (by omega)
  · exact quarter _ _ _ ((w2 t).read_unread (iblk m c 2 t)) 512 _ x y (by omega) (by omega)
  · exact quarter _ _ _ ((w2 t).read_unread (iblk m c 2 t)) 0 _ x y (by omega) (by omega)

theorem v319 (hc : First (grid0.coords t)) : runA.sl.v319 c (b2 t) (w2 t) bs (iblk m c 2 t) = flat (iblk m c 2 t) := by
  have e := wtsA m c t hc
  unfold atA runA at e
  dsimp only at e
  unfold runA.sl.v319
  exact (cov2 _ _ _).trans e

/-- A tile of 128 rows at point `t`'s blocks. -/
theorem tileAt (W : Vec Ideal S2048x2048 .bf16) (o : ℕ) (ho : o ≤ 384) (inb3 inb5 inb6) (x : S128x2048.Idx) (r : Fin 512)
    (j : Fin 2048) (h0 : r.val = o + (x 0).val) (h1 : j.val = (x 1).val) :
    (k0_pay52 (pre ((b3 t).view.readAt (Elt Ideal) (Rect.unit (s := S512x2048) ![o, 0] S128x2048.size inb3).toLoadRect ((w3 t).unread (iblk m c 3 t)))
        (side (head (b0 t).view ((w0 t).unread (iblk m c 0 t)) o ho)) W)
      ((b5 t).view.readAt (Elt Ideal) (Rect.unit (s := S1x2048) ![0, 0] S1x2048.size inb5).toLoadRect ((w5 t).unread (iblk m c 5 t)))
      ((b6 t).view.readAt (Elt Ideal) (Rect.unit (s := S1x2048) ![0, 0] S1x2048.size inb6).toLoadRect ((w6 t).unread (iblk m c 6 t))) x : EReal)
      = out (iblk m c 0 t) (iblk m c 3 t) (fun k e => W (ix2 k e)) (iblk m c 5 t (ix2 0 j)) (iblk m c 6 t (ix2 0 j)) r j :=
  tile (b0 t).view _ _ ((w0 t).read_unread (iblk m c 0 t)) (b3 t).view _ _ ((w3 t).read_unread (iblk m c 3 t))
    (b5 t).view _ _ ((w5 t).read_unread (iblk m c 5 t)) (b6 t).view _ _ ((w6 t).read_unread (iblk m c 6 t)) W o ho inb3 inb5 inb6 x r j h0 h1

/-- The rows the first point leaves. -/
theorem rowsA (hc : First (grid0.coords t)) (Y : S512x2048.Idx) (r : Fin 512) (j : Fin 2048) (hr : r.val = (Y 0).val)
    (hj : j.val = (Y 1).val) :
    (View.canon (atA m c t hc).1 Y : EReal)
      = out (iblk m c 0 t) (iblk m c 3 t) (fun k e => flat (iblk m c 2 t) (ix2 k e)) (iblk m c 5 t (ix2 0 j)) (iblk m c 6 t (ix2 0 j)) r j := by
  rw [← v319 m c t hc]
  unfold atA runA
  dsimp only
  canon_tiles x h
  · exact (congrFun (fourth1 ..) x).trans (tileAt m c t (runA.sl.v319 c (b2 t) (w2 t) bs (iblk m c 2 t)) 384 (by omega) inb_S512x2048_S128x2048_384_0 inb_S1x2048_S1x2048_0_0
      inb_S1x2048_S1x2048_0_0 x r j (by omega) (by omega))
  · unfold runA.sl.r_35; exact (congrFun (third51 ..) x).trans (tileAt m c t (runA.sl.v319 c (b2 t) (w2 t) bs (iblk m c 2 t)) 256 (by omega) inb_S512x2048_S128x2048_256_0 inb_S1x2048_S1x2048_0_0
      inb_S1x2048_S1x2048_0_0 x r j (by omega) (by omega))
  · unfold runA.sl.r_26 runA.sl.r_27; exact (congrFun (second44 ..) x).trans (tileAt m c t (runA.sl.v319 c (b2 t) (w2 t) bs (iblk m c 2 t)) 128 (by omega) inb_S512x2048_S128x2048_128_0 inb_S1x2048_S1x2048_0_0
      inb_S1x2048_S1x2048_0_0 x r j (by omega) (by omega))
  · unfold runA.sl.r_15 runA.sl.r_16; exact (congrFun (first33 ..) x).trans (tileAt m c t (runA.sl.v319 c (b2 t) (w2 t) bs (iblk m c 2 t)) 0 (by omega) inb_S512x2048_S128x2048_0_0 inb_S1x2048_S1x2048_0_0
      inb_S1x2048_S1x2048_0_0 x r j (by omega) (by omega))

/-- The rows another point leaves, the scratch at `xs`. -/
theorem rowsB (hc : ¬First (grid0.coords t)) (xs : Vec Ideal S2048x2048 .bf16) (Y : S512x2048.Idx) (r : Fin 512) (j : Fin 2048)
    (hr : r.val = (Y 0).val) (hj : j.val = (Y 1).val) :
    (View.canon (atB m c t hc xs).1 Y : EReal)
      = out (iblk m c 0 t) (iblk m c 3 t) (fun k e => xs (ix2 k e)) (iblk m c 5 t (ix2 0 j)) (iblk m c 6 t (ix2 0 j)) r j := by
  have eW := whole2 bs.view _ _ (ws.read_unread xs) inb_S2048x2048_S2048x2048_0_0
  refine Eq.trans (b := out (iblk m c 0 t) (iblk m c 3 t) (fun k e => (bs.view.readAt (Elt Ideal) (Rect.unit (s := S2048x2048) ![0, 0] ![2048, 2048]
    inb_S2048x2048_S2048x2048_0_0).toLoadRect (ws.unread xs) : Vec Ideal S2048x2048 .bf16) (ix2 k e)) (iblk m c 5 t (ix2 0 j)) (iblk m c 6 t (ix2 0 j)) r j) ?_
    (congrArg (fun W : Vec Ideal S2048x2048 .bf16 => out (iblk m c 0 t) (iblk m c 3 t) (fun k e => W (ix2 k e)) _ _ r j) eW)
  unfold atB runB
  dsimp only
  canon_tiles x h
  · exact (congrFun (fourth1 ..) x).trans (tileAt m c t _ 384 (by omega) inb_S512x2048_S128x2048_384_0 inb_S1x2048_S1x2048_0_0
      inb_S1x2048_S1x2048_0_0 x r j (by omega) (by omega))
  · unfold runB.sl.r_31; exact (congrFun (third51 ..) x).trans (tileAt m c t _ 256 (by omega) inb_S512x2048_S128x2048_256_0 inb_S1x2048_S1x2048_0_0
      inb_S1x2048_S1x2048_0_0 x r j (by omega) (by omega))
  · unfold runB.sl.r_22 runB.sl.r_23; exact (congrFun (second44 ..) x).trans (tileAt m c t _ 128 (by omega) inb_S512x2048_S128x2048_128_0 inb_S1x2048_S1x2048_0_0
      inb_S1x2048_S1x2048_0_0 x r j (by omega) (by omega))
  · unfold runB.sl.r_11 runB.sl.r_12; exact (congrFun (first33 ..) x).trans (tileAt m c t _ 0 (by omega) inb_S512x2048_S128x2048_0_0 inb_S1x2048_S1x2048_0_0
      inb_S1x2048_S1x2048_0_0 x r j (by omega) (by omega))

/-- The meta rows the first point leaves. -/
theorem metaA (hc : First (grid0.coords t)) (Y : S64x2048.Idx) (r : Fin 64) (j : Fin 2048) (hr : r.val = (Y 0).val)
    (hj : j.val = (Y 1).val) :
    (View.canon (atA m c t hc).2.1 Y : EReal)
      = out (iblk m c 1 t) (iblk m c 4 t) (fun k e => flat (iblk m c 2 t) (ix2 k e)) (iblk m c 5 t (ix2 0 j)) (iblk m c 6 t (ix2 0 j)) r j := by
  have e4 := whole2 (b4 t).view _ _ ((w4 t).read_unread (iblk m c 4 t)) inb_S64x2048_S64x2048_0_0
  have e5 := whole2 (b5 t).view _ _ ((w5 t).read_unread (iblk m c 5 t)) inb_S1x2048_S1x2048_0_0
  have e6 := whole2 (b6 t).view _ _ ((w6 t).read_unread (iblk m c 6 t)) inb_S1x2048_S1x2048_0_0
  rw [← v319 m c t hc]
  unfold atA runA
  dsimp only
  canon_tiles x h
  obtain rfl := at2 x r j (by omega) (by omega)
  refine ((congr (congrArg₂ (fun H g => k0_pay20 H (sidem (headm (b1 t).view ((w1 t).unread (iblk m c 1 t))))
    (runA.sl.v319 c (b2 t) (w2 t) bs (iblk m c 2 t)) g) e4 e5) e6).trans rfl |> fun h => congrFun h (ix2 r j)).trans ((pay20 _ _ _ _ _ _ _).trans ?_)
  unfold out
  congr 1
  unfold OutVal.row
  funext e
  congr 1
  refine Finset.sum_congr rfl fun k _ => ?_
  congr 1
  exact (sidem_apply _ _ _).trans (headm_apply _ _ _ ((w1 t).read_unread (iblk m c 1 t)) _ _ _)

end Cert.OutRows

end
-- ==== Proof.OutRef.lean ====
/- The output projection's reference, read at an index. -/
module

public import proofs.«01_k».proof.Proof.Gen.Reference5Ideal.Read
public import proofs.«01_k».proof.Proof.OutVal

@[expose] public section

set_option maxRecDepth 16384

noncomputable section

namespace Cert.OutRef

open Idealize.ShloMosaic Idealize.ShloMosaic.TcCoe Idealize.ShloMosaic.Tactic
open Cert.Reference5Ideal Cert.Reference5Ideal.Gen Cert.Reference5Ideal.Read
open Cert.OutVal

theorem zero : (FloatOps.ofBits (F := Ideal) .f32 0x00000000#32 : EReal) = 0 := by
  show Ideal.ofBits .f32 0x00000000#32 = 0
  simp [Ideal.ofBits, Ideal.ieee]

variable (x0 : Vec Ideal S16x8192x128 .bf16) (x2 : Vec Ideal S4x2048x2048 .f32) (x3 : Vec Ideal S8192x2048 .f32)
  (x5 x6 : Vec Ideal S2048 .f32)

/-- The last layer's weights. -/
abbrev last (x2 : Vec Ideal S4x2048x2048 .f32) (k e : Fin 2048) : EReal := x2 (ix3 3 k e)

/-- A row before it is normalised. -/
theorem row0 (r : Fin 8192) (e : Fin 2048) (j : S8192x2048.Idx) (h0 : (j 0).val = r.val) (h1 : (j 1).val = e.val) :
    (val_main_v7 (F := Ideal) x0 x2 x3 j : EReal)
      = row (fun e => x3 (ix2 r e)) (fun k => x0 (ix3 ⟨k.val / 128, by omega⟩ r ⟨k.val % 128, by omega⟩)) (last x2) e := by
  obtain rfl := at2 j r e h0.symm h1.symm
  rw [val_main_v7_apply, val_main_v6_apply, val_main_v5_apply, val_main_cst_apply, val_main_v4_apply]
  unfold row
  show (_ + _ : EReal) = _
  congr 1
  refine Finset.sum_congr rfl fun k _ => ?_
  rw [val_main_v1_apply, val_main_v0_apply, val_main_v3_apply, val_main_v2_apply]
  have hk := k.isLt
  have hr := r.isLt
  have he := e.isLt
  congr 1
  · congr 1
    funext a
    match a with
    | ⟨0, _⟩ => exact Fin.ext (show (r.val * 2048 + k.val) / 128 % 16 = k.val / 128 by omega)
    | ⟨1, _⟩ => exact Fin.ext (show (r.val * 2048 + k.val) / 2048 = r.val by omega)
    | ⟨2, _⟩ => exact Fin.ext (show (r.val * 2048 + k.val) % 128 = k.val % 128 by omega)
  · congr 1
    funext a
    match a with
    | ⟨0, _⟩ => rfl
    | ⟨1, _⟩ => exact Fin.ext (show (k.val * 2048 + e.val) / 2048 % 2048 = k.val by omega)
    | ⟨2, _⟩ => exact Fin.ext (show (k.val * 2048 + e.val) % 2048 = e.val by omega)

/-- The first result at an index. -/
theorem ref0 (r : Fin 8192) (j : Fin 2048) :
    (val_main_v31 (F := Ideal) x0 x2 x3 x5 x6 (ix2 r j) : EReal) = out x0 x3 (last x2) (x5 (ix1 j)) (x6 (ix1 j)) r j := by
  simp only [val_main_v31_apply, val_main_v28_apply, val_main_v25_apply, val_main_v24_apply, val_main_v23_apply, val_main_v22_apply, val_main_v21_apply, val_main_v18_apply,
    val_main_v16_apply, val_main_v15_apply, val_main_v20_apply, val_main_v14_apply, val_main_v13_apply, val_main_v12_apply, val_main_v19_apply, val_main_v11_apply, val_main_v9_apply, val_main_v8_apply, val_main_v27_apply, val_main_v26_apply, val_main_v17_apply, val_main_v10_apply,
    val_main_v29_apply, val_main_v30_apply, val_main_cst_apply, val_main_cst_0_apply, val_main_cst_1_apply, val_main_cst_2_apply, val_main_cst_3_apply, val_main_cst_4_apply, zero, zero_add]
  have e : val_main_v7 (F := Ideal) x0 x2 x3 = fun q => row (fun e => x3 (ix2 (q 0) e))
      (fun k => x0 (ix3 ⟨k.val / 128, by omega⟩ (q 0) ⟨k.val % 128, by omega⟩)) (last x2) (q 1) :=
    funext fun q => row0 x0 x2 x3 (q 0) (q 1) q rfl rfl
  have g5 : idx_main_v26 (idx_main_v27 (ix2 r j)) = ix1 j := funext fun a => match a with | ⟨0, _⟩ => rfl
  have g6 : idx_main_v29 (idx_main_v30 (ix2 r j)) = ix1 j := funext fun a => match a with | ⟨0, _⟩ => rfl
  rw [e, g5, g6]
  rfl

variable (x1 : Vec Ideal S16x64x128 .bf16) (x4 : Vec Ideal S64x2048 .f32)

/-- A meta row before it is normalised. -/
theorem row1 (r : Fin 64) (e : Fin 2048) (j : S64x2048.Idx) (h0 : (j 0).val = r.val) (h1 : (j 1).val = e.val) :
    (val_main_v39 (F := Ideal) x1 x2 x4 j : EReal)
      = row (fun e => x4 (ix2 r e)) (fun k => x1 (ix3 ⟨k.val / 128, by omega⟩ r ⟨k.val % 128, by omega⟩)) (last x2) e := by
  obtain rfl := at2 j r e h0.symm h1.symm
  rw [val_main_v39_apply, val_main_v38_apply, val_main_v37_apply, val_main_cst_5_apply, val_main_v36_apply]
  unfold row
  show (_ + _ : EReal) = _
  congr 1
  refine Finset.sum_congr rfl fun k _ => ?_
  rw [val_main_v33_apply, val_main_v32_apply, val_main_v35_apply, val_main_v34_apply]
  have hk := k.isLt
  have hr := r.isLt
  have he := e.isLt
  congr 1
  · congr 1
    funext a
    match a with
    | ⟨0, _⟩ => exact Fin.ext (show (r.val * 2048 + k.val) / 128 % 16 = k.val / 128 by omega)
    | ⟨1, _⟩ => exact Fin.ext (show (r.val * 2048 + k.val) / 2048 = r.val by omega)
    | ⟨2, _⟩ => exact Fin.ext (show (r.val * 2048 + k.val) % 128 = k.val % 128 by omega)
  · congr 1
    funext a
    match a with
    | ⟨0, _⟩ => rfl
    | ⟨1, _⟩ => exact Fin.ext (show (k.val * 2048 + e.val) / 2048 % 2048 = k.val by omega)
    | ⟨2, _⟩ => exact Fin.ext (show (k.val * 2048 + e.val) % 2048 = e.val by omega)

/-- The second result at an index. -/
theorem ref1 (r : Fin 64) (j : Fin 2048) :
    (val_main_v63 (F := Ideal) x1 x2 x4 x5 x6 (ix2 r j) : EReal) = out x1 x4 (last x2) (x5 (ix1 j)) (x6 (ix1 j)) r j := by
  simp only [val_main_v63_apply, val_main_v60_apply, val_main_v57_apply, val_main_v56_apply, val_main_v55_apply, val_main_v54_apply, val_main_v53_apply, val_main_v50_apply,
    val_main_v48_apply, val_main_v47_apply, val_main_v52_apply, val_main_v46_apply, val_main_v45_apply, val_main_v44_apply, val_main_v51_apply, val_main_v43_apply, val_main_v41_apply, val_main_v40_apply, val_main_v59_apply, val_main_v58_apply, val_main_v49_apply, val_main_v42_apply,
    val_main_v61_apply, val_main_v62_apply, val_main_cst_5_apply, val_main_cst_6_apply, val_main_cst_7_apply, val_main_cst_8_apply, val_main_cst_9_apply, val_main_cst_10_apply, zero, zero_add]
  have e : val_main_v39 (F := Ideal) x1 x2 x4 = fun q => row (fun e => x4 (ix2 (q 0) e))
      (fun k => x1 (ix3 ⟨k.val / 128, by omega⟩ (q 0) ⟨k.val % 128, by omega⟩)) (last x2) (q 1) :=
    funext fun q => row1 x2 x1 x4 (q 0) (q 1) q rfl rfl
  have g5 : idx_main_v58 (idx_main_v59 (ix2 r j)) = ix1 j := funext fun a => match a with | ⟨0, _⟩ => rfl
  have g6 : idx_main_v61 (idx_main_v62 (ix2 r j)) = ix1 j := funext fun a => match a with | ⟨0, _⟩ => rfl
  rw [e, g5, g6]
  rfl

end Cert.OutRef

end
-- ==== Proof.OutArr.lean ====
/- The output projection's two arrays after a run, and the equality with the reference. -/
module

public import proofs.«01_k».proof.Defs
public import proofs.«01_k».proof.Proof.OutRows
public import proofs.«01_k».proof.Proof.OutRef
public import proofs.«01_k».proof.Proof.Gen.Reference5Ideal.Run

@[expose] public section

set_option maxRecDepth 16384

noncomputable section

namespace Cert.OutArr

open Idealize.ShloMosaic Idealize.ShloMosaic.TcCoe Idealize.ShloMosaic.Tactic Idealize.SL.Sem
open Cert.Kernel5Ideal Cert.Kernel5Ideal.Gen Cert.Kernel5Ideal.Hand Cert.OutVal Cert.OutRows
open Cert.OutRef (last)

variable (m : (ℓ : Loc nD τ sig) → Buf (Elt Ideal) ℓ) (ρ : Dev nD → PrngReg) (c : Dev nD) (t : Fin cfg0.N)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![3, 0, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![t.val, 0] := by decide +kernel
theorem idx8 : ∀ t : Fin grid0.N, win0_8.index t = ![0, 0] := by decide +kernel

/-- The weights every point works with. -/
theorem wfull (k e : Fin 2048) : (flat (iblk m c 2 t) (ix2 k e) : EReal) = last (m ((c.tc : Thread nD τ).loc main_arg2)) k e := by
  unfold flat last
  blk_ext [iblk, V, idx2 t]

theorem wts_eq : wts m c = flat (iblk m c 2 base) :=
  (View.read_writes_junk_eq_canon _ _).trans (wtsA m c base base_first)

/-- The norm's two vectors. -/
theorem gfull (j : Fin 2048) : (iblk m c 5 t (ix2 0 j) : EReal) = m ((c.tc : Thread nD τ).loc main_arg5) (ix1 j) := by
  have e : ((win0_5.blk t).view.emb (ix2 0 j) : S1x2048.Idx) = ix2 0 j := by
    funext a
    match a with
    | ⟨0, _⟩ => exact Subsingleton.elim (α := Fin 1) _ _
    | ⟨1, _⟩ =>
      refine Fin.ext ?_
      blk_simp [idx5 t]
      try omega
  refine (congrArg (V m c main_v0) e).trans ?_
  have h : V m c main_v0 = shapeCast S1x2048 (m ((c.tc : Thread nD τ).loc main_arg5)) shapeCasts_S2048_S1x2048 := by
    unfold_abbrev_sides
    after_results
    rfl
  rw [h]
  exact shapeCast_apply _ shapeCasts_S2048_S1x2048 (ix2 0 j) (ix1 j) (by
    rw [Shape.rowMajor_val_two, Shape.rowMajor_val_one]
    show j.val = 0 * 2048 + j.val
    omega)
theorem bfull (j : Fin 2048) : (iblk m c 6 t (ix2 0 j) : EReal) = m ((c.tc : Thread nD τ).loc main_arg6) (ix1 j) := by
  have e : ((win0_6.blk t).view.emb (ix2 0 j) : S1x2048.Idx) = ix2 0 j := by
    funext a
    match a with
    | ⟨0, _⟩ => exact Subsingleton.elim (α := Fin 1) _ _
    | ⟨1, _⟩ =>
      refine Fin.ext ?_
      blk_simp [idx6 t]
      try omega
  refine (congrArg (V m c main_v1) e).trans ?_
  have h : V m c main_v1 = shapeCast S1x2048 (m ((c.tc : Thread nD τ).loc main_arg6)) shapeCasts_S2048_S1x2048 := by
    unfold_abbrev_sides
    after_results
    rfl
  rw [h]
  exact shapeCast_apply _ shapeCasts_S2048_S1x2048 (ix2 0 j) (ix1 j) (by
    rw [Shape.rowMajor_val_two, Shape.rowMajor_val_one]
    show j.val = 0 * 2048 + j.val
    omega)

/-- The token rows' array after a run. -/
def G7 : Vec Ideal S8192x2048 .f32 := fun i =>
  out (m ((c.tc : Thread nD τ).loc main_arg0)) (m ((c.tc : Thread nD τ).loc main_arg3)) (last (m ((c.tc : Thread nD τ).loc main_arg2)))
    (m ((c.tc : Thread nD τ).loc main_arg5) (ix1 (i 1))) (m ((c.tc : Thread nD τ).loc main_arg6) (ix1 (i 1))) (i 0) (i 1)
/-- The meta rows' array after a run. -/
def G8 : Vec Ideal S64x2048 .f32 := fun i =>
  out (m ((c.tc : Thread nD τ).loc main_arg1)) (m ((c.tc : Thread nD τ).loc main_arg4)) (last (m ((c.tc : Thread nD τ).loc main_arg2)))
    (m ((c.tc : Thread nD τ).loc main_arg5) (ix1 (i 1))) (m ((c.tc : Thread nD τ).loc main_arg6) (ix1 (i 1))) (i 0) (i 1)

/-- A point's blocks carry the arrays' rows. -/
theorem out_eq (W : Vec Ideal S2048x2048 .bf16) (s : Fin cfg0.N) (hW : W = flat (iblk m c 2 s)) (r : Fin 512) (r' : Fin 8192) (j : Fin 2048)
    (hr : r'.val = 512 * t.val + r.val) :
    out (iblk m c 0 t) (iblk m c 3 t) (fun k e => W (ix2 k e)) (iblk m c 5 t (ix2 0 j)) (iblk m c 6 t (ix2 0 j)) r j
      = out (m ((c.tc : Thread nD τ).loc main_arg0)) (m ((c.tc : Thread nD τ).loc main_arg3)) (last (m ((c.tc : Thread nD τ).loc main_arg2)))
        (m ((c.tc : Thread nD τ).loc main_arg5) (ix1 j)) (m ((c.tc : Thread nD τ).loc main_arg6) (ix1 j)) r' j := by
  subst hW
  rw [gfull m c t, bfull m c t]
  unfold out
  have eh : (fun e => (iblk m c 3 t : Vec Ideal S512x2048 .f32) (ix2 r e)) = fun e => m ((c.tc : Thread nD τ).loc main_arg3) (ix2 r' e) := by
    funext e
    blk_ext [iblk, V, idx3 t]
  have ey : (fun k : Fin 2048 => (iblk m c 0 t : Vec Ideal S16x512x128 .bf16) (ix3 ⟨k.val / 128, by omega⟩ r ⟨k.val % 128, by omega⟩))
      = fun k => m ((c.tc : Thread nD τ).loc main_arg0) (ix3 ⟨k.val / 128, by omega⟩ r' ⟨k.val % 128, by omega⟩) := by
    funext k
    blk_ext [iblk, V, idx0 t]
  have ew : (fun k e => flat (iblk m c 2 s) (ix2 k e)) = last (m ((c.tc : Thread nD τ).loc main_arg2)) :=
    funext fun k => funext fun e => wfull m c s k e
  rw [eh, ey, ew]

/-- The meta rows' blocks are their arrays. -/
theorem outm_eq (r : Fin 64) (j : Fin 2048) :
    out (iblk m c 1 t) (iblk m c 4 t) (fun k e => flat (iblk m c 2 t) (ix2 k e)) (iblk m c 5 t (ix2 0 j)) (iblk m c 6 t (ix2 0 j)) r j
      = out (m ((c.tc : Thread nD τ).loc main_arg1)) (m ((c.tc : Thread nD τ).loc main_arg4)) (last (m ((c.tc : Thread nD τ).loc main_arg2)))
        (m ((c.tc : Thread nD τ).loc main_arg5) (ix1 j)) (m ((c.tc : Thread nD τ).loc main_arg6) (ix1 j)) r j := by
  rw [gfull m c t, bfull m c t]
  unfold out
  have eh : (fun e => (iblk m c 4 t : Vec Ideal S64x2048 .f32) (ix2 r e)) = fun e => m ((c.tc : Thread nD τ).loc main_arg4) (ix2 r e) := by
    funext e
    blk_ext [iblk, V, idx4 t]
  have ey : (fun k : Fin 2048 => (iblk m c 1 t : Vec Ideal S16x64x128 .bf16) (ix3 ⟨k.val / 128, by omega⟩ r ⟨k.val % 128, by omega⟩))
      = fun k => m ((c.tc : Thread nD τ).loc main_arg1) (ix3 ⟨k.val / 128, by omega⟩ r ⟨k.val % 128, by omega⟩) := by
    funext k
    blk_ext [iblk, V, idx1 t]
  have ew : (fun k e => flat (iblk m c 2 t) (ix2 k e)) = last (m ((c.tc : Thread nD τ).loc main_arg2)) :=
    funext fun k => funext fun e => wfull m c t k e
  rw [eh, ey, ew]

/-- What a point leaves in the token rows' buffer. -/
theorem rows_eq (Y : S512x2048.Idx) (r : Fin 512) (r' : Fin 8192) (j : Fin 2048) (h0 : r.val = (Y 0).val) (hj : j.val = (Y 1).val)
    (hr : r'.val = 512 * t.val + r.val) :
    (rows7 m c t Y : EReal) = out (m ((c.tc : Thread nD τ).loc main_arg0)) (m ((c.tc : Thread nD τ).loc main_arg3))
      (last (m ((c.tc : Thread nD τ).loc main_arg2))) (m ((c.tc : Thread nD τ).loc main_arg5) (ix1 j))
      (m ((c.tc : Thread nD τ).loc main_arg6) (ix1 j)) r' j := by
  unfold rows7
  split
  · next hc =>
    rw [View.read_writes_junk_eq_canon, rowsA m c t hc Y r j h0 hj]
    exact out_eq m c t _ t rfl r r' j hr
  · next hc =>
    rw [View.read_writes_junk_eq_canon, rowsB m c t hc _ Y r j h0 hj]
    exact out_eq m c t _ base (wts_eq m c) r r' j hr

theorem arr7 : (dats m 0 c).arrAt 7 cfg0.N = G7 m c := by
  refine (dats m 0 c).arrAt_eq_of_covers 7 _ (by decide +kernel) fun t hf y => ?_
  blk_simp
  rw [after7]
  have e' : ((win0_7.blk t).view.emb y 1 : Fin 2048) = y 1 := Fin.ext (by
    blk_simp [idx7 t]
    try omega)
  refine (rows_eq m c t y (y 0) ((win0_7.blk t).view.emb y 0) (y 1) rfl rfl ?_).trans ?_
  · blk_simp [idx7 t]
    omega
  unfold G7
  rw [e']

theorem arr8 : (dats m 0 c).arrAt 8 cfg0.N = G8 m c := by
  refine (dats m 0 c).arrAt_eq_of_covers 8 _ (by decide +kernel) fun t hf y => ?_
  blk_simp
  rw [after8]
  have e : ((win0_8.blk t).view.emb y 0 : Fin 64) = y 0 := Fin.ext (by
    blk_simp [idx8 t]
    try omega)
  have e' : ((win0_8.blk t).view.emb y 1 : Fin 2048) = y 1 := Fin.ext (by
    blk_simp [idx8 t]
    try omega)
  unfold meta8 G8
  rw [e, e', View.read_writes_junk_eq_canon, metaA m c base base_first y (y 0) (y 1) rfl rfl]
  exact outm_eq m c base (y 0) (y 1)

/-- The two programs end with equal arrays. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => G7 m c, fun c => G8 m c, ?_, ?_⟩
  · refine (θ_run _ _ _).mono (fun r h c => ?_) (θ_run_and (Cert.Kernel5Ideal.Hand.run m g) (Cert.Kernel5Ideal.Hand.frame m g))
    obtain ⟨h, h'⟩ := h
    exact ⟨((h c).1 7).trans (arr7 m c), ((h c).1 8).trans (arr8 m c), h'.1 c⟩
  · refine (θ_run _ _ _).mono (fun r h c => ?_) (Cert.Reference5Ideal.Value.run (F := Ideal) m' g')
    obtain ⟨h0, h1, h2⟩ := h c
    obtain ⟨a0, a1, a2, a3, a4, a5, a6⟩ := hargs c
    refine ⟨h0.trans ?_, h1.trans ?_, h2⟩
    · refine (Cert.Reference5Ideal.Read.val_main_v31_eq m' c).trans ?_
      rw [a0, a2, a3, a5, a6]
      refine funext fun i => ?_
      exact (congrArg _ (at2 i (i 0) (i 1) rfl rfl)).trans (Cert.OutRef.ref0 _ _ _ _ _ _ _)
    · refine (Cert.Reference5Ideal.Read.val_main_v63_eq m' c).trans ?_
      rw [a1, a2, a4, a5, a6]
      refine funext fun i => ?_
      exact (congrArg _ (at2 i (i 0) (i 1) rfl rfl)).trans (Cert.OutRef.ref1 _ _ _ _ _ _ _)

end Cert.OutArr

end
-- ==== Proof.Out6Ideal.lean ====
/- The frame of the output projection of an inner layer, which returns each result in bfloat16 too: its grid is the sixteen
   blocks of 512 rows. The first point rounds the weights into the scratch and writes the meta rows twice; the others find
   the scratch as it was left and do not touch the meta rows' two buffers, which the last of them writes back. -/
module

public import proofs.«01_k».proof.Proof.Gen.Kernel6Ideal.Frame
public import proofs.«01_k».proof.Proof.Gen.Kernel6Ideal.Skeleton
public import Idealize.ShloMosaic.Lib.Pipeline.TableIdle
public import Idealize.ShloMosaic.Lib.Claim

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at a point. -/
abbrev First (i : grid0.Coords) : Prop := k0_cond1 i = 1#1

/-- It is taken at the first point alone. -/
theorem first_iff : ∀ t : Fin cfg0.N, First (grid0.coords t) ↔ t.val = 0 :=
  (by decide +kernel : ∀ t : Fin grid0.N, First (grid0.coords t) ↔ t.val = 0)

/-- The first point. -/
def base : Fin cfg0.N := ⟨0, (by decide : 0 < grid0.N)⟩

theorem base_first : First (grid0.coords base) := (first_iff _).mpr rfl

/-- The staging buffers at a point. -/
abbrev b0 (t : Fin cfg0.N) : Memref sig .tc .vmem S16x512x128 .bf16 := win0_0.stage (cfg0.slots t 0)
theorem w0 (t : Fin cfg0.N) : (b0 t).IsWhole := hstage0_0 ((cfg0.slots t 0).cast nbuf0_0)
abbrev b1 (t : Fin cfg0.N) : Memref sig .tc .vmem S16x64x128 .bf16 := win0_1.stage (cfg0.slots t 1)
theorem w1 (t : Fin cfg0.N) : (b1 t).IsWhole := hstage0_1 ((cfg0.slots t 1).cast nbuf0_1)
abbrev b2 (t : Fin cfg0.N) : Memref sig .tc .vmem S1x2048x2048 .f32 := win0_2.stage (cfg0.slots t 2)
theorem w2 (t : Fin cfg0.N) : (b2 t).IsWhole := hstage0_2 ((cfg0.slots t 2).cast nbuf0_2)
abbrev b3 (t : Fin cfg0.N) : Memref sig .tc .vmem S512x2048 .f32 := win0_3.stage (cfg0.slots t 3)
theorem w3 (t : Fin cfg0.N) : (b3 t).IsWhole := hstage0_3 ((cfg0.slots t 3).cast nbuf0_3)
abbrev b4 (t : Fin cfg0.N) : Memref sig .tc .vmem S64x2048 .f32 := win0_4.stage (cfg0.slots t 4)
theorem w4 (t : Fin cfg0.N) : (b4 t).IsWhole := hstage0_4 ((cfg0.slots t 4).cast nbuf0_4)
abbrev b5 (t : Fin cfg0.N) : Memref sig .tc .vmem S1x2048 .f32 := win0_5.stage (cfg0.slots t 5)
theorem w5 (t : Fin cfg0.N) : (b5 t).IsWhole := hstage0_5 ((cfg0.slots t 5).cast nbuf0_5)
abbrev b6 (t : Fin cfg0.N) : Memref sig .tc .vmem S1x2048 .f32 := win0_6.stage (cfg0.slots t 6)
theorem w6 (t : Fin cfg0.N) : (b6 t).IsWhole := hstage0_6 ((cfg0.slots t 6).cast nbuf0_6)
abbrev b7 (t : Fin cfg0.N) : Memref sig .tc .vmem S512x2048 .f32 := win0_7.stage (cfg0.slots t 7)
theorem w7 (t : Fin cfg0.N) : (b7 t).IsWhole := hstage0_7 ((cfg0.slots t 7).cast nbuf0_7)
abbrev b8 (t : Fin cfg0.N) : Memref sig .tc .vmem S64x2048 .f32 := win0_8.stage (cfg0.slots t 8)
theorem w8 (t : Fin cfg0.N) : (b8 t).IsWhole := hstage0_8 ((cfg0.slots t 8).cast nbuf0_8)
abbrev b9 (t : Fin cfg0.N) : Memref sig .tc .vmem S512x2048 .bf16 := win0_9.stage (cfg0.slots t 9)
theorem w9 (t : Fin cfg0.N) : (b9 t).IsWhole := hstage0_9 ((cfg0.slots t 9).cast nbuf0_9)
abbrev b10 (t : Fin cfg0.N) : Memref sig .tc .vmem S64x2048 .bf16 := win0_10.stage (cfg0.slots t 10)
theorem w10 (t : Fin cfg0.N) : (b10 t).IsWhole := hstage0_10 ((cfg0.slots t 10).cast nbuf0_10)
/-- The scratch that holds the rounded weights. -/
abbrev bs : Memref sig .tc .vmem S2048x2048 .bf16 := Memref.whole cc0_scratch0
theorem ws : (bs).IsWhole := Memref.isWhole_whole _

/-- Buffers through which contents are stated. -/
abbrev R7 : View sig .tc .vmem S512x2048 .f32 := (Memref.whole cc0_stg7_0 : Memref sig .tc .vmem S512x2048 .f32).view
abbrev R8 : View sig .tc .vmem S64x2048 .f32 := (Memref.whole cc0_stg8_0 : Memref sig .tc .vmem S64x2048 .f32).view
abbrev R9 : View sig .tc .vmem S512x2048 .bf16 := (Memref.whole cc0_stg9_0 : Memref sig .tc .vmem S512x2048 .bf16).view
abbrev R10 : View sig .tc .vmem S64x2048 .bf16 := (Memref.whole cc0_stg10_0 : Memref sig .tc .vmem S64x2048 .bf16).view
abbrev Rs : View sig .tc .vmem S2048x2048 .bf16 := (bs).view

/-- What the region lends beside the windows: the scratch at some contents and the generator register. -/
theorem lent_eq (c : Dev nD) :
    (Pipeline.ΦA spec0 c : sProp 𝕄)
      = iprop(iprop((∃ d, owns (c : Thread nD τ) bs fullShare d)) ∗ (∃ r, prngReg c r)) := by
  unfold Pipeline.ΦA; rw [scopedRest0_eq]; simp only [bs, owns_whole]; try rfl

set_option maxHeartbeats 2000000 in
/-- The body at the first point: the pieces its stores leave in the two outputs and in the scratch. -/
noncomputable def runA (c : Dev nD) (i : grid0.Coords)
    (a1 : Memref sig .tc .vmem S16x512x128 .bf16) (h1 : a1.IsWhole) (a2 : Memref sig .tc .vmem S16x64x128 .bf16) (h2 : a2.IsWhole)
    (a3 : Memref sig .tc .vmem S1x2048x2048 .f32) (h3 : a3.IsWhole) (a4 : Memref sig .tc .vmem S512x2048 .f32) (h4 : a4.IsWhole)
    (a5 : Memref sig .tc .vmem S64x2048 .f32) (h5 : a5.IsWhole) (a6 : Memref sig .tc .vmem S1x2048 .f32) (h6 : a6.IsWhole)
    (a7 : Memref sig .tc .vmem S1x2048 .f32) (h7 : a7.IsWhole) (a8 : Memref sig .tc .vmem S512x2048 .f32) (h8 : a8.IsWhole)
    (a9 : Memref sig .tc .vmem S64x2048 .f32) (h9 : a9.IsWhole) (a10 : Memref sig .tc .vmem S512x2048 .bf16) (h10 : a10.IsWhole)
    (a11 : Memref sig .tc .vmem S64x2048 .bf16) (h11 : a11.IsWhole) (a12 : Memref sig .tc .vmem S2048x2048 .bf16) (h12 : a12.IsWhole)
    (hc : First i) (x1 : Vec F S16x512x128 .bf16) (x2 : Vec F S16x64x128 .bf16) (x3 : Vec F S1x2048x2048 .f32)
    (x4 : Vec F S512x2048 .f32) (x5 : Vec F S64x2048 .f32) (x6 : Vec F S1x2048 .f32) (x7 : Vec F S1x2048 .f32) :
    Σ' (L8 : List (View.Piece (Elt F) S512x2048 .f32)), Σ' (L9 : List (View.Piece (Elt F) S64x2048 .f32)),
      Σ' (L10 : List (View.Piece (Elt F) S512x2048 .bf16)), Σ' (L11 : List (View.Piece (Elt F) S64x2048 .bf16)),
      { Ls : List (View.Piece (Elt F) S2048x2048 .bf16) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ (∃ d, owns (c : Thread nD τ) a8 fullShare d) ∗ (∃ d, owns (c : Thread nD τ) a9 fullShare d) ∗ (∃ d, owns (c : Thread nD τ) a10 fullShare d)
            ∗ (∃ d, owns (c : Thread nD τ) a11 fullShare d) ∗ (∃ d, owns (c : Thread nD τ) a12 fullShare d)
            ∗ (iprop(owns (c : Thread nD τ) a1 fullShare x1 ∗ owns (c : Thread nD τ) a2 fullShare x2 ∗ owns (c : Thread nD τ) a3 fullShare x3 ∗ owns (c : Thread nD τ) a4 fullShare x4
                ∗ owns (c : Thread nD τ) a5 fullShare x5 ∗ owns (c : Thread nD τ) a6 fullShare x6 ∗ owns (c : Thread nD τ) a7 fullShare x7
                ∗ (∃ f, a8.view.loc (c : Thread nD τ) ↦[a8.view.set]{fullShare} a8.view.writes (Elt F) f L8)
                ∗ (∃ f, a9.view.loc (c : Thread nD τ) ↦[a9.view.set]{fullShare} a9.view.writes (Elt F) f L9)
                ∗ (∃ f, a10.view.loc (c : Thread nD τ) ↦[a10.view.set]{fullShare} a10.view.writes (Elt F) f L10)
                ∗ (∃ f, a11.view.loc (c : Thread nD τ) ↦[a11.view.set]{fullShare} a11.view.writes (Elt F) f L11)
                ∗ (∃ f, a12.view.loc (c : Thread nD τ) ↦[a12.view.set]{fullShare} a12.view.writes (Elt F) f Ls)) -∗ K ⟨⟩))
          ⊢ wp frame (wpE (defs₀ (F := F)) Variants.none c none) E
              (cc0_outproj_ln i a1 h1 a2 h2 a3 h3 a4 h4 a5 h5 a6 h6 a7 h7 a8 h8 a9 h9 a10 h10 a11 h11 a12 h12) K } := by
  refine ⟨?_, ?_, ?_, ?_, ?_, fun E K => ?run⟩
  case run =>
    simp only [cc0_outproj_ln_eq_skeleton]; unfold cc0_outproj_ln_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%ds, %fs, -, Hs⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7
    sl_exec (disch := sl_exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    iexists _; iexact Hs

set_option maxHeartbeats 2000000 in
/-- The body at any other point: the scratch is read at what it holds, the meta rows' buffer is not touched. -/
noncomputable def runB (c : Dev nD) (i : grid0.Coords)
    (a1 : Memref sig .tc .vmem S16x512x128 .bf16) (h1 : a1.IsWhole) (a2 : Memref sig .tc .vmem S16x64x128 .bf16) (h2 : a2.IsWhole)
    (a3 : Memref sig .tc .vmem S1x2048x2048 .f32) (h3 : a3.IsWhole) (a4 : Memref sig .tc .vmem S512x2048 .f32) (h4 : a4.IsWhole)
    (a5 : Memref sig .tc .vmem S64x2048 .f32) (h5 : a5.IsWhole) (a6 : Memref sig .tc .vmem S1x2048 .f32) (h6 : a6.IsWhole)
    (a7 : Memref sig .tc .vmem S1x2048 .f32) (h7 : a7.IsWhole) (a8 : Memref sig .tc .vmem S512x2048 .f32) (h8 : a8.IsWhole)
    (a9 : Memref sig .tc .vmem S64x2048 .f32) (h9 : a9.IsWhole) (a10 : Memref sig .tc .vmem S512x2048 .bf16) (h10 : a10.IsWhole)
    (a11 : Memref sig .tc .vmem S64x2048 .bf16) (h11 : a11.IsWhole) (a12 : Memref sig .tc .vmem S2048x2048 .bf16) (h12 : a12.IsWhole)
    (hc : ¬First i) (x1 : Vec F S16x512x128 .bf16) (x4 : Vec F S512x2048 .f32) (x6 : Vec F S1x2048 .f32)
    (x7 : Vec F S1x2048 .f32) (xs : Vec F S2048x2048 .bf16) :
    Σ' (L8 : List (View.Piece (Elt F) S512x2048 .f32)), { L10 : List (View.Piece (Elt F) S512x2048 .bf16) //
      ∀ (E : Set ℕ) (K : PUnit → sProp 𝕄),
        iprop(owns (c : Thread nD τ) a1 fullShare x1 ∗ owns (c : Thread nD τ) a4 fullShare x4 ∗ owns (c : Thread nD τ) a6 fullShare x6 ∗ owns (c : Thread nD τ) a7 fullShare x7
            ∗ (∃ d, owns (c : Thread nD τ) a8 fullShare d) ∗ (∃ d, owns (c : Thread nD τ) a10 fullShare d) ∗ owns (c : Thread nD τ) a12 fullShare xs
            ∗ (iprop(owns (c : Thread nD τ) a1 fullShare x1 ∗ owns (c : Thread nD τ) a4 fullShare x4 ∗ owns (c : Thread nD τ) a6 fullShare x6 ∗ owns (c : Thread nD τ) a7 fullShare x7
                ∗ (∃ f, a8.view.loc (c : Thread nD τ) ↦[a8.view.set]{fullShare} a8.view.writes (Elt F) f L8)
                ∗ (∃ f, a10.view.loc (c : Thread nD τ) ↦[a10.view.set]{fullShare} a10.view.writes (Elt F) f L10)
                ∗ owns (c : Thread nD τ) a12 fullShare xs) -∗ K ⟨⟩))
          ⊢ wp frame (wpE (defs₀ (F := F)) Variants.none c none) E
              (cc0_outproj_ln i a1 h1 a2 h2 a3 h3 a4 h4 a5 h5 a6 h6 a7 h7 a8 h8 a9 h9 a10 h10 a11 h11 a12 h12) K } := by
  refine ⟨?_, ?_, fun E K => ?run⟩
  case run =>
    simp only [cc0_outproj_ln_eq_skeleton]; unfold cc0_outproj_ln_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %e1, H1⟩, ⟨%f4, %e4, H4⟩, ⟨%f6, %e6, H6⟩, ⟨%f7, %e7, H7⟩, ⟨%d8, %f8, -, H8⟩, ⟨%d10, %f10, -, H10⟩, ⟨%f12, %e12, H12⟩, Hk⟩
    obtain rfl := h1.eq_unread e1; obtain rfl := h4.eq_unread e4; obtain rfl := h6.eq_unread e6; obtain rfl := h7.eq_unread e7; obtain rfl := h12.eq_unread e12
    sl_exec (disch := sl_exact hc)
    sl_step
    iapply Hk
    isplitl [H1]
    · iexists _; isplitr; · ipureintro; exact h1.read_unread _
      iexact H1
    isplitl [H4]
    · iexists _; isplitr; · ipureintro; exact h4.read_unread _
      iexact H4
    isplitl [H6]
    · iexists _; isplitr; · ipureintro; exact h6.read_unread _
      iexact H6
    isplitl [H7]
    · iexists _; isplitr; · ipureintro; exact h7.read_unread _
      iexact H7
    isplitl [H8]; · iexists _; iexact H8
    isplitl [H10]; · iexists _; iexact H10
    iexists _; isplitr; · ipureintro; exact h12.read_unread _
    iexact H12

/-- The run at point `t`'s buffers and blocks, for the first point. -/
abbrev atA (c : Dev nD) (t : Fin cfg0.N) (hc : First (grid0.coords t)) :=
  runA (F := F) c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t)
    bs ws hc (iblk m c 0 t) (iblk m c 1 t) (iblk m c 2 t) (iblk m c 3 t) (iblk m c 4 t) (iblk m c 5 t) (iblk m c 6 t)

/-- The run at point `t`'s buffers and token block, for another point, the scratch at `xs`. -/
abbrev atB (c : Dev nD) (t : Fin cfg0.N) (hc : ¬First (grid0.coords t)) (xs : Vec F S2048x2048 .bf16) :=
  runB (F := F) c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t)
    bs ws hc (iblk m c 0 t) (iblk m c 3 t) (iblk m c 5 t) (iblk m c 6 t) xs

theorem coverA7 (c : Dev nD) (t : Fin cfg0.N) (hc : First (grid0.coords t)) (y : S512x2048.Idx) :
    ∃ pc ∈ (atA m c t hc).1, y ∈ pc.1.set :=
  View.cover_of_tiledL (atA m c t hc).1 S128x2048.size (by sl_kernel_rfl) y
theorem coverA8 (c : Dev nD) (t : Fin cfg0.N) (hc : First (grid0.coords t)) (y : S64x2048.Idx) :
    ∃ pc ∈ (atA m c t hc).2.1, y ∈ pc.1.set :=
  View.cover_of_tiledL (atA m c t hc).2.1 S64x2048.size (by sl_kernel_rfl) y
theorem coverA9 (c : Dev nD) (t : Fin cfg0.N) (hc : First (grid0.coords t)) (y : S512x2048.Idx) :
    ∃ pc ∈ (atA m c t hc).2.2.1, y ∈ pc.1.set :=
  View.cover_of_tiledL (atA m c t hc).2.2.1 S128x2048.size (by sl_kernel_rfl) y
theorem coverA10 (c : Dev nD) (t : Fin cfg0.N) (hc : First (grid0.coords t)) (y : S64x2048.Idx) :
    ∃ pc ∈ (atA m c t hc).2.2.2.1, y ∈ pc.1.set :=
  View.cover_of_tiledL (atA m c t hc).2.2.2.1 S64x2048.size (by sl_kernel_rfl) y
theorem coverAs (c : Dev nD) (t : Fin cfg0.N) (hc : First (grid0.coords t)) (y : S2048x2048.Idx) :
    ∃ pc ∈ (atA m c t hc).2.2.2.2.1, y ∈ pc.1.set :=
  View.cover_of_tiledL (atA m c t hc).2.2.2.2.1 S512x2048.size (by sl_kernel_rfl) y
theorem coverB7 (c : Dev nD) (t : Fin cfg0.N) (hc : ¬First (grid0.coords t)) (xs : Vec F S2048x2048 .bf16) (y : S512x2048.Idx) :
    ∃ pc ∈ (atB m c t hc xs).1, y ∈ pc.1.set :=
  View.cover_of_tiledL (atB m c t hc xs).1 S128x2048.size (by sl_kernel_rfl) y
theorem coverB9 (c : Dev nD) (t : Fin cfg0.N) (hc : ¬First (grid0.coords t)) (xs : Vec F S2048x2048 .bf16) (y : S512x2048.Idx) :
    ∃ pc ∈ (atB m c t hc xs).2.1, y ∈ pc.1.set :=
  View.cover_of_tiledL (atB m c t hc xs).2.1 S128x2048.size (by sl_kernel_rfl) y

/-- The rounded weights: what the first point stored. -/
def wts (c : Dev nD) : Vec F S2048x2048 .bf16 :=
  Rs.read (Elt F) (Rs.writes (Elt F) Rs.junk (atA m c base base_first).2.2.2.2.1)

/-- The meta rows' buffer after the first point. -/
def meta8 (c : Dev nD) : Vec F S64x2048 .f32 :=
  R8.read (Elt F) (R8.writes (Elt F) R8.junk (atA m c base base_first).2.1)

/-- Their rounded copy's buffer after the first point. -/
def meta10 (c : Dev nD) : Vec F S64x2048 .bf16 :=
  R10.read (Elt F) (R10.writes (Elt F) R10.junk (atA m c base base_first).2.2.2.1)

/-- The token rows' buffer after point `t`. -/
def rows7 (c : Dev nD) (t : Fin cfg0.N) : Vec F S512x2048 .f32 :=
  if hc : First (grid0.coords t) then R7.read (Elt F) (R7.writes (Elt F) R7.junk (atA m c t hc).1)
  else R7.read (Elt F) (R7.writes (Elt F) R7.junk (atB m c t hc (wts m c)).1)

/-- Their rounded copy's buffer after point `t`. -/
def rows9 (c : Dev nD) (t : Fin cfg0.N) : Vec F S512x2048 .bf16 :=
  if hc : First (grid0.coords t) then R9.read (Elt F) (R9.writes (Elt F) R9.junk (atA m c t hc).2.2.1)
  else R9.read (Elt F) (R9.writes (Elt F) R9.junk (atB m c t hc (wts m c)).2.1)

theorem eq_base (t : Fin cfg0.N) (h : t.val = 0) : t = base := Fin.ext h

/-- What holds before point `n`: the scratch at some contents before the first, then at the rounded weights. -/
def inv (c : Dev nD) : (n : ℕ) → n ≤ cfg0.N → sProp 𝕄
  | 0, _ => Pipeline.ΦA spec0 c
  | n + 1, hn => iprop(iprop(owns (c : Thread nD τ) bs fullShare (wts m c)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) bs fullShare (wts m c)) ∗ (∃ r, prngReg c r)) := rfl
theorem inv_pos (c : Dev nD) (n : ℕ) (h : n ≤ cfg0.N) (hz : n ≠ 0) :
    inv m c n h = iprop(iprop(owns (c : Thread nD τ) bs fullShare (wts m c)) ∗ (∃ r, prngReg c r)) := by
  cases n with
  | zero => exact absurd rfl hz
  | succ n => rfl

/-- Whatever the point, the invariant lends the scratch at some contents. -/
theorem inv_lent (c : Dev nD) (n : ℕ) (h : n ≤ cfg0.N) : inv m c n h ⊢ Pipeline.ΦA spec0 c := by
  by_cases hz : n = 0
  · rw [inv_zero m c n h hz]
  · rw [inv_pos m c n h hz, lent_eq]
    iintro ⟨Hs, Hg⟩
    isplitl [Hs]
    · iexists _; iexact Hs
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rows7 m c t
    | ⟨8, _⟩ => meta8 m c
    | ⟨9, _⟩ => rows9 m c t
    | ⟨10, _⟩ => meta10 m c
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem Φ_at (c : Dev nD) (t : Fin cfg0.N) : (dats m 0 c).Φ t.castSucc = inv m c t.val (Nat.le_of_lt t.isLt) := by
  dsimp only [dats]; exact Pipeline.Dat.Φ_castSucc (inv m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = rows7 m c t := by dsimp only [dats]
theorem after8 (c : Dev nD) (t : Fin cfg0.N) : (dats m 0 c).after 8 t = meta8 m c := by dsimp only [dats]
theorem after9 (c : Dev nD) (t : Fin cfg0.N) : (dats m 0 c).after 9 t = rows9 m c t := by dsimp only [dats]
theorem after10 (c : Dev nD) (t : Fin cfg0.N) : (dats m 0 c).after 10 t = meta10 m c := by dsimp only [dats]
theorem bef0 (c : Dev nD) (t : Fin cfg0.N) (d) : (dats m 0 c).before 0 t d = iblk m c 0 t :=
  before0_0_of m (dats m 0 c) (A_eq m c 0) (after0 m c) t d
theorem bef1 (c : Dev nD) (t : Fin cfg0.N) (d) : (dats m 0 c).before 1 t d = iblk m c 1 t :=
  before0_1_of m (dats m 0 c) (A_eq m c 1) (after1 m c) t d
theorem bef2 (c : Dev nD) (t : Fin cfg0.N) (d) : (dats m 0 c).before 2 t d = iblk m c 2 t :=
  before0_2_of m (dats m 0 c) (A_eq m c 2) (after2 m c) t d
theorem bef3 (c : Dev nD) (t : Fin cfg0.N) (d) : (dats m 0 c).before 3 t d = iblk m c 3 t :=
  before0_3_of m (dats m 0 c) (A_eq m c 3) (after3 m c) t d
theorem bef4 (c : Dev nD) (t : Fin cfg0.N) (d) : (dats m 0 c).before 4 t d = iblk m c 4 t :=
  before0_4_of m (dats m 0 c) (A_eq m c 4) (after4 m c) t d
theorem bef5 (c : Dev nD) (t : Fin cfg0.N) (d) : (dats m 0 c).before 5 t d = iblk m c 5 t :=
  before0_5_of m (dats m 0 c) (A_eq m c 5) (after5 m c) t d
theorem bef6 (c : Dev nD) (t : Fin cfg0.N) (d) : (dats m 0 c).before 6 t d = iblk m c 6 t :=
  before0_6_of m (dats m 0 c) (A_eq m c 6) (after6 m c) t d

/-- The meta rows' buffer is left alone exactly at the points after the first. -/
theorem idle8 : ∀ t : Fin cfg0.N, cfg0.idle 8 (grid0.coords t) = !decide (t.val = 0) := by decide +kernel
/-- It holds nothing only at the first point. -/
def fresh8 : ℕ → Bool := fun n => decide (n % 16 = 0)
theorem fresh8_step : ∀ t : Fin cfg0.N,
    fresh8 (t.val + 1) = ((cfg0.win 8).flush t || (cfg0.idle 8 (cfg0.grid.coords t) && fresh8 t.val)) := by decide +kernel
theorem fresh8_eq (t : Fin cfg0.N) : cfg0.fresh 8 t.val = fresh8 t.val :=
  Pipeline.Cfg.fresh_tab cfg0 8 fresh8 rfl fresh8_step t.val (Nat.le_of_lt t.isLt)

/-- At a later point the meta rows' buffer holds their rows. -/
theorem bef8 (c : Dev nD) (t : Fin cfg0.N) (h : ¬t.val = 0) (d) : (dats m 0 c).before 8 t d = meta8 m c := by
  have ht : t.val < 16 := t.isLt
  rw [Dat.before_out_traj (dats m 0 c) 8 rfl (fun _ _ => rfl) (fun t hz _ hf => by
      rw [after8, after8]) t.val t rfl d,
    if_neg (by rw [fresh8_eq t]; simp [fresh8]; omega), after8]

/-- So handing it back as it was found is what the pipeline asks there, written back or not. -/
theorem leaves8 (c : Dev nD) (t : Fin cfg0.N) (h : ¬t.val = 0) (d) :
    owns (c : Thread nD τ) (b8 t) fullShare ((dats m 0 c).before 8 t d) ⊢ ((dats m 0 c).leavesExact 8 t : sProp 𝕄) := by
  have hi : cfg0.idle 8 (cfg0.grid.coords t) = true := by
    refine (idle8 t).trans ?_; simp [h]
  cases hf : (cfg0.win 8).flush t
  · rw [Dat.leavesExact_idle _ 8 t hi hf]
    iintro H; iexists d; iexact H
  · rw [show (dats m 0 c).leavesExact 8 t = owns (c : Thread nD τ) (b8 t) fullShare ((dats m 0 c).after 8 t) from by
      unfold Dat.leavesExact; rw [hi, hf], bef8 m c t h d, after8]

/-- The rounded meta rows' buffer is left alone exactly at the points after the first. -/
theorem idle10 : ∀ t : Fin cfg0.N, cfg0.idle 10 (grid0.coords t) = !decide (t.val = 0) := by decide +kernel
/-- It holds nothing only at the first point. -/
def fresh10 : ℕ → Bool := fun n => decide (n % 16 = 0)
theorem fresh10_step : ∀ t : Fin cfg0.N,
    fresh10 (t.val + 1) = ((cfg0.win 10).flush t || (cfg0.idle 10 (cfg0.grid.coords t) && fresh10 t.val)) := by decide +kernel
theorem fresh10_eq (t : Fin cfg0.N) : cfg0.fresh 10 t.val = fresh10 t.val :=
  Pipeline.Cfg.fresh_tab cfg0 10 fresh10 rfl fresh10_step t.val (Nat.le_of_lt t.isLt)

/-- At a later point it holds the rounded meta rows. -/
theorem bef10 (c : Dev nD) (t : Fin cfg0.N) (h : ¬t.val = 0) (d) : (dats m 0 c).before 10 t d = meta10 m c := by
  have ht : t.val < 16 := t.isLt
  rw [Dat.before_out_traj (dats m 0 c) 10 rfl (fun _ _ => rfl) (fun t hz _ hf => by
      rw [after10, after10]) t.val t rfl d,
    if_neg (by rw [fresh10_eq t]; simp [fresh10]; omega), after10]

/-- So handing it back as it was found is what the pipeline asks there, written back or not. -/
theorem leaves10 (c : Dev nD) (t : Fin cfg0.N) (h : ¬t.val = 0) (d) :
    owns (c : Thread nD τ) (b10 t) fullShare ((dats m 0 c).before 10 t d) ⊢ ((dats m 0 c).leavesExact 10 t : sProp 𝕄) := by
  have hi : cfg0.idle 10 (cfg0.grid.coords t) = true := by
    refine (idle10 t).trans ?_; simp [h]
  cases hf : (cfg0.win 10).flush t
  · rw [Dat.leavesExact_idle _ 10 t hi hf]
    iintro H; iexists d; iexact H
  · rw [show (dats m 0 c).leavesExact 10 t = owns (c : Thread nD τ) (b10 t) fullShare ((dats m 0 c).after 10 t) from by
      unfold Dat.leavesExact; rw [hi, hf], bef10 m c t h d, after10]

/-- What the body finds at a point, window by window, -/
def pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d))
    ∗ (∃ d, owns (c : Thread nD τ) (b8 t) fullShare ((dats m 0 c).before 8 t d))
    ∗ (∃ d, owns (c : Thread nD τ) (b9 t) fullShare ((dats m 0 c).before 9 t d))
    ∗ (∃ d, owns (c : Thread nD τ) (b10 t) fullShare ((dats m 0 c).before 10 t d)))

/-- and what it leaves. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (dats m 0 c).leavesExact 5 t ∗ (dats m 0 c).leavesExact 6 t ∗ (dats m 0 c).leavesExact 7 t ∗ (dats m 0 c).leavesExact 8 t
    ∗ (dats m 0 c).leavesExact 9 t ∗ (dats m 0 c).leavesExact 10 t)

set_option maxHeartbeats 6400000 in
/-- The body's triple at every point. -/
theorem body (c : Dev nD) (t : Fin cfg0.N) :
    pre m c t ⊢ wp frame (wpE (defs₀ (F := F)) Variants.none c none) Set.univ (bodyAt0 t) (fun _ => post m c t) := by
  unfold pre post bodyAt0
  simp only [bef0, bef1, bef2, bef3, bef4, bef5, bef6]
  rw [show (dats m 0 c).owesAt () t.succ = (dats m 0 c).owesAt () t.castSucc from rfl,
    show (dats m 0 c).Φ t.succ = inv m c (t.val + 1) t.isLt from rfl, inv_succ, Φ_at m c t,
    show (dats m 0 c).leavesExact 0 t = owns (c : Thread nD τ) (b0 t) fullShare ((dats m 0 c).after 0 t) from rfl,
    show (dats m 0 c).leavesExact 1 t = owns (c : Thread nD τ) (b1 t) fullShare ((dats m 0 c).after 1 t) from rfl,
    show (dats m 0 c).leavesExact 2 t = owns (c : Thread nD τ) (b2 t) fullShare ((dats m 0 c).after 2 t) from rfl,
    show (dats m 0 c).leavesExact 3 t = owns (c : Thread nD τ) (b3 t) fullShare ((dats m 0 c).after 3 t) from rfl,
    show (dats m 0 c).leavesExact 4 t = owns (c : Thread nD τ) (b4 t) fullShare ((dats m 0 c).after 4 t) from rfl,
    show (dats m 0 c).leavesExact 5 t = owns (c : Thread nD τ) (b5 t) fullShare ((dats m 0 c).after 5 t) from rfl,
    show (dats m 0 c).leavesExact 6 t = owns (c : Thread nD τ) (b6 t) fullShare ((dats m 0 c).after 6 t) from rfl,
    show (dats m 0 c).leavesExact 7 t = owns (c : Thread nD τ) (b7 t) fullShare ((dats m 0 c).after 7 t) from rfl,
    show (dats m 0 c).leavesExact 9 t = owns (c : Thread nD τ) (b9 t) fullShare ((dats m 0 c).after 9 t) from rfl,
    after0, after1, after2, after3, after4, after5, after6, after7, after9]
  by_cases h : t.val = 0
  · have hc := (first_iff t).mpr h
    rw [show (dats m 0 c).leavesExact 8 t = owns (c : Thread nD τ) (b8 t) fullShare ((dats m 0 c).after 8 t) from by
        unfold Dat.leavesExact; rw [show cfg0.idle 8 (cfg0.grid.coords t) = false from (idle8 t).trans (by simp [h])],
      show (dats m 0 c).leavesExact 10 t = owns (c : Thread nD τ) (b10 t) fullShare ((dats m 0 c).after 10 t) from by
        unfold Dat.leavesExact; rw [show cfg0.idle 10 (cfg0.grid.coords t) = false from (idle10 t).trans (by simp [h])],
      after8, after10, show rows7 m c t = _ from dif_pos hc, show rows9 m c t = _ from dif_pos hc]
    obtain rfl := eq_base t h
    unfold wts meta8 meta10
    iintro ⟨Hi, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave Hl := (inv_lent m c base.val (Nat.le_of_lt base.isLt)) $$ Hi
    ihave Hl' := (Entails.of_eq (lent_eq c)) $$ Hl
    icases Hl' with ⟨Hs, Hg⟩
    iapply ((atA m c base hc).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [Hs]; · iexact Hs
    iintro ⟨H0, H1, H2, H3, H4, H5, H6, ⟨%e7, H7⟩, ⟨%e8, H8⟩, ⟨%e9, H9⟩, ⟨%e10, H10⟩, ⟨%es, Hs⟩⟩
    isplitl [Hs Hg]
    · isplitl [Hs]
      · unfold owns; iexists _; isplitr
        swap; · iexact Hs
        ipureintro; exact View.read_writes_of_cover _ _ _ _ _ (coverAs m c base hc)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA7 m c base hc)
    isplitl [H8]
    · unfold owns; iexists _; isplitr
      swap; · iexact H8
      ipureintro; exact View.read_writes_of_cover _ _ _ _ _ (coverA8 m c base hc)
    isplitl [H9]
    · unfold owns; iexists _; isplitr
      swap; · iexact H9
      ipureintro; exact View.read_writes_of_cover _ _ _ _ _ (coverA9 m c base hc)
    unfold owns; iexists _; isplitr
    swap; · iexact H10
    ipureintro; exact View.read_writes_of_cover _ _ _ _ _ (coverA10 m c base hc)
  · have hc : ¬First (grid0.coords t) := fun e => h ((first_iff t).mp e)
    rw [inv_pos m c t.val _ h, show rows7 m c t = _ from dif_neg hc, show rows9 m c t = _ from dif_neg hc]
    iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atB m c t hc (wts m c)).2.2 Set.univ _)
    isplitl [H0]; · iexact H0
    isplitl [H3]; · iexact H3
    isplitl [H5]; · iexact H5
    isplitl [H6]; · iexact H6
    isplitl [H7]; · iexists _; iexact H7
    isplitl [H9]; · iexists _; iexact H9
    isplitl [Hs]; · iexact Hs
    iintro ⟨H0, H3, H5, H6, ⟨%e7, H7⟩, ⟨%e9, H9⟩, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB7 m c t hc _)
    isplitl [H8]
    · iapply (leaves8 m c t h d8); iexact H8
    isplitl [H9]
    · unfold owns; iexists _; isplitr
      swap; · iexact H9
      ipureintro; exact View.read_writes_of_cover _ _ _ _ _ (coverB9 m c t hc _)
    iapply (leaves10 m c t h d10); iexact H10

/-- The body table's row at a point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- Every run ends with the arrays the proof data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by
      rw [show (dats m 0 c).Φ 0 = inv m c 0 (Nat.zero_le _) from rfl, inv_zero m c 0 _ rfl])
    (hout := fun c => by
      rw [show (dats m 0 c).Φ (Fin.last cfg0.N) = inv m c cfg0.N (Nat.le_refl _) from rfl]
      exact inv_lent m c _ _)

theorem run : θ_run defs (onTc (τ := τ) (main (F := F))) (s₀ m ρ) (Pipeline.FramePost cfgs (dats m) 0 (V m)) :=
  (θ_run defs _ _).mono (fun _ h => h.1) (run_quiet m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiet m ρ))

end Cert.Kernel6Ideal.Hand

end
-- ==== Proof.Out6Rows.lean ====
/- What a point of an inner layer's output projection leaves in its buffers: the rows, and the same rows rounded. -/
module

public import proofs.«01_k».proof.Proof.OutRows
public import proofs.«01_k».proof.Proof.Out6Ideal

@[expose] public section

set_option maxRecDepth 16384

noncomputable section

namespace Cert.Out6Rows

open Idealize.ShloMosaic Idealize.ShloMosaic.TcCoe Idealize.ShloMosaic.Tactic
open Cert.Kernel6Ideal Cert.Kernel6Ideal.Gen Cert.Kernel6Ideal.Hand
open Cert.InRows (whole2 cov2)
open Cert.OutVal (pre side sidem head headm out at2 tile norm pay20 sidem_apply headm_apply)
open Cert.OutRows (flat)

variable {sg : RefSig} {κ : Kind} {sp : Space}
variable (m : (ℓ : Loc nD τ sig) → Buf (Elt Ideal) ℓ) (c : Dev nD) (t : Fin cfg0.N)

/-- The first tile is worked out as the last layer works out its third. -/
theorem first (h : Vec Ideal S128x2048 .f32) (s0 s1 s2 s3 s4 s5 s6 s7 s8 s9 : FVec Ideal S128x128 .bf16) (s10 s11 s12 s13 s14 s15 : Vec Ideal S1x128x128 .bf16)
    (w : Vec Ideal S2048x2048 .bf16) (g b : Vec Ideal S1x2048 .f32) :
    k0_pay33 (k0_pay31 h s0 s1 s2 s3 s4 s5 s6 s7 s8 s9 s10 s11 s12 s13 s14 s15 w) (k0_pay32 h s0 s1 s2 s3 s4 s5 s6 s7 s8 s9 s10 s11 s12 s13 s14 s15 w) g b
      = Cert.Kernel5Ideal.Gen.k0_pay52 (pre h (concatenate S128x2048 1 [⟨S128x128, s0⟩, ⟨S128x128, s1⟩, ⟨S128x128, s2⟩, ⟨S128x128, s3⟩, ⟨S128x128, s4⟩, ⟨S128x128, s5⟩, ⟨S128x128, s6⟩, ⟨S128x128, s7⟩, ⟨S128x128, s8⟩, ⟨S128x128, s9⟩, ⟨S128x128, Cert.Kernel5Ideal.Gen.k0_pay45 s10⟩, ⟨S128x128, Cert.Kernel5Ideal.Gen.k0_pay45 s11⟩, ⟨S128x128, Cert.Kernel5Ideal.Gen.k0_pay45 s12⟩, ⟨S128x128, Cert.Kernel5Ideal.Gen.k0_pay45 s13⟩, ⟨S128x128, Cert.Kernel5Ideal.Gen.k0_pay45 s14⟩, ⟨S128x128, Cert.Kernel5Ideal.Gen.k0_pay45 s15⟩]
          concatenates_S128x128_S128x128_S128x128_S128x128_S128x128_S128x128_S128x128_S128x128_S128x128_S128x128_S128x128_S128x128_S128x128_S128x128_S128x128_S128x128_S128x2048_d1) w) g b := rfl

/-- Its rounded copy is the same over the reals. -/
theorem firstr (h : Vec Ideal S128x2048 .f32) (s0 s1 s2 s3 s4 s5 s6 s7 s8 s9 : FVec Ideal S128x128 .bf16) (s10 s11 s12 s13 s14 s15 : Vec Ideal S1x128x128 .bf16)
    (w : Vec Ideal S2048x2048 .bf16) (g b : Vec Ideal S1x2048 .f32) :
    (k0_pay34 (k0_pay31 h s0 s1 s2 s3 s4 s5 s6 s7 s8 s9 s10 s11 s12 s13 s14 s15 w) (k0_pay32 h s0 s1 s2 s3 s4 s5 s6 s7 s8 s9 s10 s11 s12 s13 s14 s15 w) g b : S128x2048.Idx → EReal)
      = Cert.Kernel5Ideal.Gen.k0_pay52 (pre h (concatenate S128x2048 1 [⟨S128x128, s0⟩, ⟨S128x128, s1⟩, ⟨S128x128, s2⟩, ⟨S128x128, s3⟩, ⟨S128x128, s4⟩, ⟨S128x128, s5⟩, ⟨S128x128, s6⟩, ⟨S128x128, s7⟩, ⟨S128x128, s8⟩, ⟨S128x128, s9⟩, ⟨S128x128, Cert.Kernel5Ideal.Gen.k0_pay45 s10⟩, ⟨S128x128, Cert.Kernel5Ideal.Gen.k0_pay45 s11⟩, ⟨S128x128, Cert.Kernel5Ideal.Gen.k0_pay45 s12⟩, ⟨S128x128, Cert.Kernel5Ideal.Gen.k0_pay45 s13⟩, ⟨S128x128, Cert.Kernel5Ideal.Gen.k0_pay45 s14⟩, ⟨S128x128, Cert.Kernel5Ideal.Gen.k0_pay45 s15⟩]
          concatenates_S128x128_S128x128_S128x128_S128x128_S128x128_S128x128_S128x128_S128x128_S128x128_S128x128_S128x128_S128x128_S128x128_S128x128_S128x128_S128x128_S128x2048_d1) w) g b := rfl

/-- So is the second. -/
theorem second (h : Vec Ideal S128x2048 .f32) (s0 s1 s2 s3 s4 s5 s6 : FVec Ideal S128x128 .bf16) (s7 s8 s9 s10 s11 s12 s13 s14 s15 : Vec Ideal S1x128x128 .bf16)
    (w : Vec Ideal S2048x2048 .bf16) (g b : Vec Ideal S1x2048 .f32) :
    k0_pay45 (k0_pay42 h s0 s1 s2 s3 s4 s5 s6 s7 s8 s9 s10 s11 s12 s13 s14 s15 w) (k0_pay43 h s0 s1 s2 s3 s4 s5 s6 s7 s8 s9 s10 s11 s12 s13 s14 s15 w) k0_pay44 g b
      = Cert.Kernel5Ideal.Gen.k0_pay52 (pre h (concatenate S128x2048 1 [⟨S128x128, s0⟩, ⟨S128x128, s1⟩, ⟨S128x128, s2⟩, ⟨S128x128, s3⟩, ⟨S128x128, s4⟩, ⟨S128x128, s5⟩, ⟨S128x128, s6⟩, ⟨S128x128, Cert.Kernel5Ideal.Gen.k0_pay45 s7⟩, ⟨S128x128, Cert.Kernel5Ideal.Gen.k0_pay45 s8⟩, ⟨S128x128, Cert.Kernel5Ideal.Gen.k0_pay45 s9⟩, ⟨S128x128, Cert.Kernel5Ideal.Gen.k0_pay45 s10⟩, ⟨S128x128, Cert.Kernel5Ideal.Gen.k0_pay45 s11⟩, ⟨S128x128, Cert.Kernel5Ideal.Gen.k0_pay45 s12⟩, ⟨S128x128, Cert.Kernel5Ideal.Gen.k0_pay45 s13⟩, ⟨S128x128, Cert.Kernel5Ideal.Gen.k0_pay45 s14⟩, ⟨S128x128, Cert.Kernel5Ideal.Gen.k0_pay45 s15⟩]
          concatenates_S128x128_S128x128_S128x128_S128x128_S128x128_S128x128_S128x128_S128x128_S128x128_S128x128_S128x128_S128x128_S128x128_S128x128_S128x128_S128x128_S128x2048_d1) w) g b := rfl

/-- Its rounded copy is the same over the reals. -/
theorem secondr (h : Vec Ideal S128x2048 .f32) (s0 s1 s2 s3 s4 s5 s6 : FVec Ideal S128x128 .bf16) (s7 s8 s9 s10 s11 s12 s13 s14 s15 : Vec Ideal S1x128x128 .bf16)
    (w : Vec Ideal S2048x2048 .bf16) (g b : Vec Ideal S1x2048 .f32) :
    (k0_pay46 (k0_pay42 h s0 s1 s2 s3 s4 s5 s6 s7 s8 s9 s10 s11 s12 s13 s14 s15 w) (k0_pay43 h s0 s1 s2 s3 s4 s5 s6 s7 s8 s9 s10 s11 s12 s13 s14 s15 w) k0_pay44 g b : S128x2048.Idx → EReal)
      = Cert.Kernel5Ideal.Gen.k0_pay52 (pre h (concatenate S128x2048 1 [⟨S128x128, s0⟩, ⟨S128x128, s1⟩, ⟨S128x128, s2⟩, ⟨S128x128, s3⟩, ⟨S128x128, s4⟩, ⟨S128x128, s5⟩, ⟨S128x128, s6⟩, ⟨S128x128, Cert.Kernel5Ideal.Gen.k0_pay45 s7⟩, ⟨S128x128, Cert.Kernel5Ideal.Gen.k0_pay45 s8⟩, ⟨S128x128, Cert.Kernel5Ideal.Gen.k0_pay45 s9⟩, ⟨S128x128, Cert.Kernel5Ideal.Gen.k0_pay45 s10⟩, ⟨S128x128, Cert.Kernel5Ideal.Gen.k0_pay45 s11⟩, ⟨S128x128, Cert.Kernel5Ideal.Gen.k0_pay45 s12⟩, ⟨S128x128, Cert.Kernel5Ideal.Gen.k0_pay45 s13⟩, ⟨S128x128, Cert.Kernel5Ideal.Gen.k0_pay45 s14⟩, ⟨S128x128, Cert.Kernel5Ideal.Gen.k0_pay45 s15⟩]
          concatenates_S128x128_S128x128_S128x128_S128x128_S128x128_S128x128_S128x128_S128x128_S128x128_S128x128_S128x128_S128x128_S128x128_S128x128_S128x128_S128x128_S128x2048_d1) w) g b := rfl

/-- So is the third. -/
theorem third (h : Vec Ideal S128x2048 .f32) (s0 s1 s2 s3 s4 s5 s6 s7 s8 s9 s10 s11 s12 s13 s14 s15 : FVec Ideal S128x128 .bf16)
    (w : Vec Ideal S2048x2048 .bf16) (g b : Vec Ideal S1x2048 .f32) :
    k0_pay63 h s0 s1 s2 s3 s4 s5 s6 s7 s8 s9 s10 s11 s12 s13 s14 s15 w g b
      = Cert.Kernel5Ideal.Gen.k0_pay52 (pre h (concatenate S128x2048 1 [⟨S128x128, s0⟩, ⟨S128x128, s1⟩, ⟨S128x128, s2⟩, ⟨S128x128, s3⟩, ⟨S128x128, s4⟩, ⟨S128x128, s5⟩, ⟨S128x128, s6⟩, ⟨S128x128, s7⟩, ⟨S128x128, s8⟩, ⟨S128x128, s9⟩, ⟨S128x128, s10⟩, ⟨S128x128, s11⟩, ⟨S128x128, s12⟩, ⟨S128x128, s13⟩, ⟨S128x128, s14⟩, ⟨S128x128, s15⟩]
          concatenates_S128x128_S128x128_S128x128_S128x128_S128x128_S128x128_S128x128_S128x128_S128x128_S128x128_S128x128_S128x128_S128x128_S128x128_S128x128_S128x128_S128x2048_d1) w) g b := rfl

/-- Its rounded copy is the same over the reals. -/
theorem thirdr (h : Vec Ideal S128x2048 .f32) (s0 s1 s2 s3 s4 s5 s6 s7 s8 s9 s10 s11 s12 s13 s14 s15 : FVec Ideal S128x128 .bf16)
    (w : Vec Ideal S2048x2048 .bf16) (g b : Vec Ideal S1x2048 .f32) :
    (k0_pay64 h s0 s1 s2 s3 s4 s5 s6 s7 s8 s9 s10 s11 s12 s13 s14 s15 w g b : S128x2048.Idx → EReal)
      = Cert.Kernel5Ideal.Gen.k0_pay52 (pre h (concatenate S128x2048 1 [⟨S128x128, s0⟩, ⟨S128x128, s1⟩, ⟨S128x128, s2⟩, ⟨S128x128, s3⟩, ⟨S128x128, s4⟩, ⟨S128x128, s5⟩, ⟨S128x128, s6⟩, ⟨S128x128, s7⟩, ⟨S128x128, s8⟩, ⟨S128x128, s9⟩, ⟨S128x128, s10⟩, ⟨S128x128, s11⟩, ⟨S128x128, s12⟩, ⟨S128x128, s13⟩, ⟨S128x128, s14⟩, ⟨S128x128, s15⟩]
          concatenates_S128x128_S128x128_S128x128_S128x128_S128x128_S128x128_S128x128_S128x128_S128x128_S128x128_S128x128_S128x128_S128x128_S128x128_S128x128_S128x128_S128x2048_d1) w) g b := rfl

/-- And the fourth. -/
theorem fourth (h : Vec Ideal S128x2048 .f32) (s0 s1 s2 s3 s4 s5 s6 s7 s8 s9 s10 s11 s12 : FVec Ideal S128x128 .bf16) (s13 s14 s15 : Vec Ideal S1x128x128 .bf16)
    (w : Vec Ideal S2048x2048 .bf16) (g b : Vec Ideal S1x2048 .f32) :
    k0_pay78 h s0 s1 s2 s3 s4 s5 s6 s7 s8 s9 s10 s11 s12 s13 s14 s15 w g b
      = Cert.Kernel5Ideal.Gen.k0_pay52 (pre h (concatenate S128x2048 1 [⟨S128x128, s0⟩, ⟨S128x128, s1⟩, ⟨S128x128, s2⟩, ⟨S128x128, s3⟩, ⟨S128x128, s4⟩, ⟨S128x128, s5⟩, ⟨S128x128, s6⟩, ⟨S128x128, s7⟩, ⟨S128x128, s8⟩, ⟨S128x128, s9⟩, ⟨S128x128, s10⟩, ⟨S128x128, s11⟩, ⟨S128x128, s12⟩, ⟨S128x128, Cert.Kernel5Ideal.Gen.k0_pay45 s13⟩, ⟨S128x128, Cert.Kernel5Ideal.Gen.k0_pay45 s14⟩, ⟨S128x128, Cert.Kernel5Ideal.Gen.k0_pay45 s15⟩]
          concatenates_S128x128_S128x128_S128x128_S128x128_S128x128_S128x128_S128x128_S128x128_S128x128_S128x128_S128x128_S128x128_S128x128_S128x128_S128x128_S128x128_S128x2048_d1) w) g b := rfl

/-- Its rounded copy is the same over the reals. -/
theorem fourthr (h : Vec Ideal S128x2048 .f32) (s0 s1 s2 s3 s4 s5 s6 s7 s8 s9 s10 s11 s12 : FVec Ideal S128x128 .bf16) (s13 s14 s15 : Vec Ideal S1x128x128 .bf16)
    (w : Vec Ideal S2048x2048 .bf16) (g b : Vec Ideal S1x2048 .f32) :
    (k0_pay1 (k0_pay78 h s0 s1 s2 s3 s4 s5 s6 s7 s8 s9 s10 s11 s12 s13 s14 s15 w g b) : S128x2048.Idx → EReal)
      = Cert.Kernel5Ideal.Gen.k0_pay52 (pre h (concatenate S128x2048 1 [⟨S128x128, s0⟩, ⟨S128x128, s1⟩, ⟨S128x128, s2⟩, ⟨S128x128, s3⟩, ⟨S128x128, s4⟩, ⟨S128x128, s5⟩, ⟨S128x128, s6⟩, ⟨S128x128, s7⟩, ⟨S128x128, s8⟩, ⟨S128x128, s9⟩, ⟨S128x128, s10⟩, ⟨S128x128, s11⟩, ⟨S128x128, s12⟩, ⟨S128x128, Cert.Kernel5Ideal.Gen.k0_pay45 s13⟩, ⟨S128x128, Cert.Kernel5Ideal.Gen.k0_pay45 s14⟩, ⟨S128x128, Cert.Kernel5Ideal.Gen.k0_pay45 s15⟩]
          concatenates_S128x128_S128x128_S128x128_S128x128_S128x128_S128x128_S128x128_S128x128_S128x128_S128x128_S128x128_S128x128_S128x128_S128x128_S128x128_S128x128_S128x2048_d1) w) g b := rfl

/-- The meta rows are worked out as the last layer's are. -/
theorem metar (h : Vec Ideal S64x2048 .f32) (s0 s1 s2 s3 s4 s5 s6 s7 s8 s9 s10 s11 s12 : FVec Ideal S64x128 .bf16) (s13 s14 s15 : Vec Ideal S1x64x128 .bf16)
    (w : Vec Ideal S2048x2048 .bf16) (g b : Vec Ideal S1x2048 .f32) :
    k0_pay19 h s0 s1 s2 s3 s4 s5 s6 s7 s8 s9 s10 s11 s12 s13 s14 s15 w g b
      = Cert.Kernel5Ideal.Gen.k0_pay20 h (concatenate S64x2048 1 [⟨S64x128, s0⟩, ⟨S64x128, s1⟩, ⟨S64x128, s2⟩, ⟨S64x128, s3⟩, ⟨S64x128, s4⟩, ⟨S64x128, s5⟩, ⟨S64x128, s6⟩, ⟨S64x128, s7⟩, ⟨S64x128, s8⟩, ⟨S64x128, s9⟩, ⟨S64x128, s10⟩, ⟨S64x128, s11⟩, ⟨S64x128, s12⟩, ⟨S64x128, Cert.Kernel5Ideal.Gen.k0_pay7 s13⟩, ⟨S64x128, Cert.Kernel5Ideal.Gen.k0_pay7 s14⟩, ⟨S64x128, Cert.Kernel5Ideal.Gen.k0_pay7 s15⟩]
          concatenates_S64x128_S64x128_S64x128_S64x128_S64x128_S64x128_S64x128_S64x128_S64x128_S64x128_S64x128_S64x128_S64x128_S64x128_S64x128_S64x128_S64x2048_d1) w g b := rfl

/-- Its rounded copy is the same over the reals. -/
theorem metarr (h : Vec Ideal S64x2048 .f32) (s0 s1 s2 s3 s4 s5 s6 s7 s8 s9 s10 s11 s12 : FVec Ideal S64x128 .bf16) (s13 s14 s15 : Vec Ideal S1x64x128 .bf16)
    (w : Vec Ideal S2048x2048 .bf16) (g b : Vec Ideal S1x2048 .f32) :
    (k0_pay20 h s0 s1 s2 s3 s4 s5 s6 s7 s8 s9 s10 s11 s12 s13 s14 s15 w g b : S64x2048.Idx → EReal)
      = Cert.Kernel5Ideal.Gen.k0_pay20 h (concatenate S64x2048 1 [⟨S64x128, s0⟩, ⟨S64x128, s1⟩, ⟨S64x128, s2⟩, ⟨S64x128, s3⟩, ⟨S64x128, s4⟩, ⟨S64x128, s5⟩, ⟨S64x128, s6⟩, ⟨S64x128, s7⟩, ⟨S64x128, s8⟩, ⟨S64x128, s9⟩, ⟨S64x128, s10⟩, ⟨S64x128, s11⟩, ⟨S64x128, s12⟩, ⟨S64x128, Cert.Kernel5Ideal.Gen.k0_pay7 s13⟩, ⟨S64x128, Cert.Kernel5Ideal.Gen.k0_pay7 s14⟩, ⟨S64x128, Cert.Kernel5Ideal.Gen.k0_pay7 s15⟩]
          concatenates_S64x128_S64x128_S64x128_S64x128_S64x128_S64x128_S64x128_S64x128_S64x128_S64x128_S64x128_S64x128_S64x128_S64x128_S64x128_S64x128_S64x2048_d1) w g b := rfl

/-- A quarter of the rounded weights. -/
theorem quarter (v : View sg κ sp S1x2048x2048 .f32) (X : Vec Ideal S1x2048x2048 .f32) (f : v.ty.Contents (Elt Ideal))
    (hf : v.read (Elt Ideal) f = X) (o : ℕ) (inb) (x : S512x2048.Idx) (Y : S2048x2048.Idx) (h0 : (Y 0).val = o + (x 0).val)
    (h1 : (Y 1).val = (x 1).val) :
    (k0_pay2 (v.readAt (Elt Ideal) (Rect.unit (s := S1x2048x2048) ![0, o, 0] S1x512x2048.size inb).toLoadRect f) x : EReal) = flat X Y := by
  subst hf
  obtain ⟨q, hq⟩ : ∃ q : Fin 512, q.val = (x 0).val := ⟨x 0, rfl⟩
  obtain ⟨j, hj⟩ : ∃ j : Fin 2048, j.val = (x 1).val := ⟨x 1, rfl⟩
  rw [← hq] at h0
  rw [← hj] at h1
  obtain rfl := at2 x q j hq hj
  pointwise [k0_pay2]
  show v.read (Elt Ideal) f ((Rect.unit (s := S1x2048x2048) ![0, o, 0] S1x512x2048.size inb).idx _) = v.read (Elt Ideal) f _
  congr 1
  funext e
  fin_cases e <;> exact Fin.ext (by simp [Rect.idx_unit_val]; try omega)

theorem wtsA (hc : First (grid0.coords t)) : View.canon (atA m c t hc).2.2.2.2.1 = flat (iblk m c 2 t) := by
  unfold atA runA
  dsimp only
  unfold runA.sl.Hs_4
  funext y
  canon_tiles x h
  · exact quarter _ _ _ ((w2 t).read_unread (iblk m c 2 t)) 1536 _ x y (by omega) (by omega)
  · exact quarter _ _ _ ((w2 t).read_unread (iblk m c 2 t)) 1024 _ x y (by omega) (by omega)
  · exact quarter _ _ _ ((w2 t).read_unread (iblk m c 2 t)) 512 _ x y (by omega) (by omega)
  · exact quarter _ _ _ ((w2 t).read_unread (iblk m c 2 t)) 0 _ x y (by omega) (by omega)

theorem v327 (hc : First (grid0.coords t)) : runA.sl.v327 c (b2 t) (w2 t) bs (iblk m c 2 t) = flat (iblk m c 2 t) := by
  have e := wtsA m c t hc
  unfold atA runA at e
  dsimp only at e
  unfold runA.sl.v327
  exact (cov2 _ _ _).trans e

/-- A tile of 128 rows at point `t`'s blocks. -/
theorem tileAt (W : Vec Ideal S2048x2048 .bf16) (o : ℕ) (ho : o ≤ 384) (inb3 inb5 inb6) (x : S128x2048.Idx) (r : Fin 512)
    (j : Fin 2048) (h0 : r.val = o + (x 0).val) (h1 : j.val = (x 1).val) :
    (Cert.Kernel5Ideal.Gen.k0_pay52 (pre ((b3 t).view.readAt (Elt Ideal) (Rect.unit (s := S512x2048) ![o, 0] S128x2048.size inb3).toLoadRect ((w3 t).unread (iblk m c 3 t)))
        (side (head (b0 t).view ((w0 t).unread (iblk m c 0 t)) o ho)) W)
      ((b5 t).view.readAt (Elt Ideal) (Rect.unit (s := S1x2048) ![0, 0] S1x2048.size inb5).toLoadRect ((w5 t).unread (iblk m c 5 t)))
      ((b6 t).view.readAt (Elt Ideal) (Rect.unit (s := S1x2048) ![0, 0] S1x2048.size inb6).toLoadRect ((w6 t).unread (iblk m c 6 t))) x : EReal)
      = out (iblk m c 0 t) (iblk m c 3 t) (fun k e => W (ix2 k e)) (iblk m c 5 t (ix2 0 j)) (iblk m c 6 t (ix2 0 j)) r j :=
  tile (b0 t).view _ _ ((w0 t).read_unread (iblk m c 0 t)) (b3 t).view _ _ ((w3 t).read_unread (iblk m c 3 t))
    (b5 t).view _ _ ((w5 t).read_unread (iblk m c 5 t)) (b6 t).view _ _ ((w6 t).read_unread (iblk m c 6 t)) W o ho inb3 inb5 inb6 x r j h0 h1

/-- The rows the first point leaves. -/
theorem rowsA (hc : First (grid0.coords t)) (Y : S512x2048.Idx) (r : Fin 512) (j : Fin 2048) (hr : r.val = (Y 0).val)
    (hj : j.val = (Y 1).val) :
    (View.canon (atA m c t hc).1 Y : EReal)
      = out (iblk m c 0 t) (iblk m c 3 t) (fun k e => flat (iblk m c 2 t) (ix2 k e)) (iblk m c 5 t (ix2 0 j)) (iblk m c 6 t (ix2 0 j)) r j := by
  rw [← v327 m c t hc]
  unfold atA runA
  dsimp only
  canon_tiles x h
  · exact (congrFun (fourth ..) x).trans (tileAt m c t (runA.sl.v327 c (b2 t) (w2 t) bs (iblk m c 2 t)) 384 (by omega) inb_S512x2048_S128x2048_384_0 inb_S1x2048_S1x2048_0_0
      inb_S1x2048_S1x2048_0_0 x r j (by omega) (by omega))
  · exact (congrFun (third ..) x).trans (tileAt m c t (runA.sl.v327 c (b2 t) (w2 t) bs (iblk m c 2 t)) 256 (by omega) inb_S512x2048_S128x2048_256_0 inb_S1x2048_S1x2048_0_0
      inb_S1x2048_S1x2048_0_0 x r j (by omega) (by omega))
  · exact (congrFun (second ..) x).trans (tileAt m c t (runA.sl.v327 c (b2 t) (w2 t) bs (iblk m c 2 t)) 128 (by omega) inb_S512x2048_S128x2048_128_0 inb_S1x2048_S1x2048_0_0
      inb_S1x2048_S1x2048_0_0 x r j (by omega) (by omega))
  · exact (congrFun (first ..) x).trans (tileAt m c t (runA.sl.v327 c (b2 t) (w2 t) bs (iblk m c 2 t)) 0 (by omega) inb_S512x2048_S128x2048_0_0 inb_S1x2048_S1x2048_0_0
      inb_S1x2048_S1x2048_0_0 x r j (by omega) (by omega))

/-- Their rounded copies. -/
theorem rowsAr (hc : First (grid0.coords t)) (Y : S512x2048.Idx) (r : Fin 512) (j : Fin 2048) (hr : r.val = (Y 0).val)
    (hj : j.val = (Y 1).val) :
    (View.canon (atA m c t hc).2.2.1 Y : EReal)
      = out (iblk m c 0 t) (iblk m c 3 t) (fun k e => flat (iblk m c 2 t) (ix2 k e)) (iblk m c 5 t (ix2 0 j)) (iblk m c 6 t (ix2 0 j)) r j := by
  rw [← v327 m c t hc]
  unfold atA runA
  dsimp only
  canon_tiles x h
  · exact (congrFun (fourthr ..) x).trans (tileAt m c t (runA.sl.v327 c (b2 t) (w2 t) bs (iblk m c 2 t)) 384 (by omega) inb_S512x2048_S128x2048_384_0 inb_S1x2048_S1x2048_0_0
      inb_S1x2048_S1x2048_0_0 x r j (by omega) (by omega))
  · exact (congrFun (thirdr ..) x).trans (tileAt m c t (runA.sl.v327 c (b2 t) (w2 t) bs (iblk m c 2 t)) 256 (by omega) inb_S512x2048_S128x2048_256_0 inb_S1x2048_S1x2048_0_0
      inb_S1x2048_S1x2048_0_0 x r j (by omega) (by omega))
  · exact (congrFun (secondr ..) x).trans (tileAt m c t (runA.sl.v327 c (b2 t) (w2 t) bs (iblk m c 2 t)) 128 (by omega) inb_S512x2048_S128x2048_128_0 inb_S1x2048_S1x2048_0_0
      inb_S1x2048_S1x2048_0_0 x r j (by omega) (by omega))
  · exact (congrFun (firstr ..) x).trans (tileAt m c t (runA.sl.v327 c (b2 t) (w2 t) bs (iblk m c 2 t)) 0 (by omega) inb_S512x2048_S128x2048_0_0 inb_S1x2048_S1x2048_0_0
      inb_S1x2048_S1x2048_0_0 x r j (by omega) (by omega))

/-- The rows another point leaves, the scratch at `xs`. -/
theorem rowsB (hc : ¬First (grid0.coords t)) (xs : Vec Ideal S2048x2048 .bf16) (Y : S512x2048.Idx) (r : Fin 512) (j : Fin 2048) (hr : r.val = (Y 0).val)
    (hj : j.val = (Y 1).val) :
    (View.canon (atB m c t hc xs).1 Y : EReal)
      = out (iblk m c 0 t) (iblk m c 3 t) (fun k e => xs (ix2 k e)) (iblk m c 5 t (ix2 0 j)) (iblk m c 6 t (ix2 0 j)) r j := by
  have eW := whole2 bs.view _ _ (ws.read_unread xs) inb_S2048x2048_S2048x2048_0_0
  refine Eq.trans (b := out (iblk m c 0 t) (iblk m c 3 t) (fun k e => (bs.view.readAt (Elt Ideal) (Rect.unit (s := S2048x2048) ![0, 0] ![2048, 2048]
    inb_S2048x2048_S2048x2048_0_0).toLoadRect (ws.unread xs) : Vec Ideal S2048x2048 .bf16) (ix2 k e)) (iblk m c 5 t (ix2 0 j)) (iblk m c 6 t (ix2 0 j)) r j) ?_
    (congrArg (fun W : Vec Ideal S2048x2048 .bf16 => out (iblk m c 0 t) (iblk m c 3 t) (fun k e => W (ix2 k e)) _ _ r j) eW)
  unfold atB runB
  dsimp only
  canon_tiles x h
  · exact (congrFun (fourth ..) x).trans (tileAt m c t _ 384 (by omega) inb_S512x2048_S128x2048_384_0 inb_S1x2048_S1x2048_0_0
      inb_S1x2048_S1x2048_0_0 x r j (by omega) (by omega))
  · exact (congrFun (third ..) x).trans (tileAt m c t _ 256 (by omega) inb_S512x2048_S128x2048_256_0 inb_S1x2048_S1x2048_0_0
      inb_S1x2048_S1x2048_0_0 x r j (by omega) (by omega))
  · exact (congrFun (second ..) x).trans (tileAt m c t _ 128 (by omega) inb_S512x2048_S128x2048_128_0 inb_S1x2048_S1x2048_0_0
      inb_S1x2048_S1x2048_0_0 x r j (by omega) (by omega))
  · exact (congrFun (first ..) x).trans (tileAt m c t _ 0 (by omega) inb_S512x2048_S128x2048_0_0 inb_S1x2048_S1x2048_0_0
      inb_S1x2048_S1x2048_0_0 x r j (by omega) (by omega))

/-- Their rounded copies. -/
theorem rowsBr (hc : ¬First (grid0.coords t)) (xs : Vec Ideal S2048x2048 .bf16) (Y : S512x2048.Idx) (r : Fin 512) (j : Fin 2048) (hr : r.val = (Y 0).val)
    (hj : j.val = (Y 1).val) :
    (View.canon (atB m c t hc xs).2.1 Y : EReal)
      = out (iblk m c 0 t) (iblk m c 3 t) (fun k e => xs (ix2 k e)) (iblk m c 5 t (ix2 0 j)) (iblk m c 6 t (ix2 0 j)) r j := by
  have eW := whole2 bs.view _ _ (ws.read_unread xs) inb_S2048x2048_S2048x2048_0_0
  refine Eq.trans (b := out (iblk m c 0 t) (iblk m c 3 t) (fun k e => (bs.view.readAt (Elt Ideal) (Rect.unit (s := S2048x2048) ![0, 0] ![2048, 2048]
    inb_S2048x2048_S2048x2048_0_0).toLoadRect (ws.unread xs) : Vec Ideal S2048x2048 .bf16) (ix2 k e)) (iblk m c 5 t (ix2 0 j)) (iblk m c 6 t (ix2 0 j)) r j) ?_
    (congrArg (fun W : Vec Ideal S2048x2048 .bf16 => out (iblk m c 0 t) (iblk m c 3 t) (fun k e => W (ix2 k e)) _ _ r j) eW)
  unfold atB runB
  dsimp only
  canon_tiles x h
  · exact (congrFun (fourthr ..) x).trans (tileAt m c t _ 384 (by omega) inb_S512x2048_S128x2048_384_0 inb_S1x2048_S1x2048_0_0
      inb_S1x2048_S1x2048_0_0 x r j (by omega) (by omega))
  · exact (congrFun (thirdr ..) x).trans (tileAt m c t _ 256 (by omega) inb_S512x2048_S128x2048_256_0 inb_S1x2048_S1x2048_0_0
      inb_S1x2048_S1x2048_0_0 x r j (by omega) (by omega))
  · exact (congrFun (secondr ..) x).trans (tileAt m c t _ 128 (by omega) inb_S512x2048_S128x2048_128_0 inb_S1x2048_S1x2048_0_0
      inb_S1x2048_S1x2048_0_0 x r j (by omega) (by omega))
  · exact (congrFun (firstr ..) x).trans (tileAt m c t _ 0 (by omega) inb_S512x2048_S128x2048_0_0 inb_S1x2048_S1x2048_0_0
      inb_S1x2048_S1x2048_0_0 x r j (by omega) (by omega))

/-- A meta row as it is stored. -/
theorem metaAt (W : Vec Ideal S2048x2048 .bf16) (r : Fin 64) (j : Fin 2048) :
    (Cert.Kernel5Ideal.Gen.k0_pay20 ((b4 t).view.readAt (Elt Ideal) (Rect.unit (s := S64x2048) ![0, 0] S64x2048.size inb_S64x2048_S64x2048_0_0).toLoadRect
        ((w4 t).unread (iblk m c 4 t))) (sidem (headm (b1 t).view ((w1 t).unread (iblk m c 1 t)))) W
      ((b5 t).view.readAt (Elt Ideal) (Rect.unit (s := S1x2048) ![0, 0] S1x2048.size inb_S1x2048_S1x2048_0_0).toLoadRect ((w5 t).unread (iblk m c 5 t)))
      ((b6 t).view.readAt (Elt Ideal) (Rect.unit (s := S1x2048) ![0, 0] S1x2048.size inb_S1x2048_S1x2048_0_0).toLoadRect ((w6 t).unread (iblk m c 6 t)))
      (ix2 r j) : EReal)
      = out (iblk m c 1 t) (iblk m c 4 t) (fun k e => W (ix2 k e)) (iblk m c 5 t (ix2 0 j)) (iblk m c 6 t (ix2 0 j)) r j := by
  have e4 := whole2 (b4 t).view _ _ ((w4 t).read_unread (iblk m c 4 t)) inb_S64x2048_S64x2048_0_0
  have e5 := whole2 (b5 t).view _ _ ((w5 t).read_unread (iblk m c 5 t)) inb_S1x2048_S1x2048_0_0
  have e6 := whole2 (b6 t).view _ _ ((w6 t).read_unread (iblk m c 6 t)) inb_S1x2048_S1x2048_0_0
  refine ((congr (congrArg₂ (fun H g => Cert.Kernel5Ideal.Gen.k0_pay20 H (sidem (headm (b1 t).view ((w1 t).unread (iblk m c 1 t)))) W g) e4 e5) e6).trans rfl
    |> fun h => congrFun h (ix2 r j)).trans ((pay20 _ _ _ _ _ _ _).trans ?_)
  unfold out
  congr 1
  unfold OutVal.row
  funext e
  congr 1
  refine Finset.sum_congr rfl fun k _ => ?_
  congr 1
  exact (sidem_apply _ _ _).trans (headm_apply _ _ _ ((w1 t).read_unread (iblk m c 1 t)) _ _ _)

/-- The meta rows the first point leaves. -/
theorem metaA (hc : First (grid0.coords t)) (Y : S64x2048.Idx) (r : Fin 64) (j : Fin 2048) (hr : r.val = (Y 0).val)
    (hj : j.val = (Y 1).val) :
    (View.canon (atA m c t hc).2.1 Y : EReal)
      = out (iblk m c 1 t) (iblk m c 4 t) (fun k e => flat (iblk m c 2 t) (ix2 k e)) (iblk m c 5 t (ix2 0 j)) (iblk m c 6 t (ix2 0 j)) r j := by
  rw [← v327 m c t hc]
  unfold atA runA
  dsimp only
  canon_tiles x h
  obtain rfl := at2 x r j (by omega) (by omega)
  exact (congrFun (metar ..) (ix2 r j)).trans (metaAt m c t (runA.sl.v327 c (b2 t) (w2 t) bs (iblk m c 2 t)) r j)

/-- Their rounded copies. -/
theorem metaAr (hc : First (grid0.coords t)) (Y : S64x2048.Idx) (r : Fin 64) (j : Fin 2048) (hr : r.val = (Y 0).val)
    (hj : j.val = (Y 1).val) :
    (View.canon (atA m c t hc).2.2.2.1 Y : EReal)
      = out (iblk m c 1 t) (iblk m c 4 t) (fun k e => flat (iblk m c 2 t) (ix2 k e)) (iblk m c 5 t (ix2 0 j)) (iblk m c 6 t (ix2 0 j)) r j := by
  rw [← v327 m c t hc]
  unfold atA runA
  dsimp only
  canon_tiles x h
  obtain rfl := at2 x r j (by omega) (by omega)
  exact (congrFun (metarr ..) (ix2 r j)).trans (metaAt m c t (runA.sl.v327 c (b2 t) (w2 t) bs (iblk m c 2 t)) r j)

end Cert.Out6Rows

end
-- ==== Proof.Out6Ref.lean ====
/- The reference of an inner layer's output projection, read at an index. -/
module

public import proofs.«01_k».proof.Proof.Gen.Reference6Ideal.Read
public import proofs.«01_k».proof.Proof.OutRef

@[expose] public section

set_option maxRecDepth 16384

noncomputable section

namespace Cert.Out6Ref

open Idealize.ShloMosaic Idealize.ShloMosaic.TcCoe Idealize.ShloMosaic.Tactic
open Cert.Reference6Ideal Cert.Reference6Ideal.Gen Cert.Reference6Ideal.Read
open Cert.OutVal
open Cert.OutRef (zero)

variable (x0 : Vec Ideal S16x8192x128 .bf16) (x2 : Vec Ideal S4x2048x2048 .f32) (x3 : Vec Ideal S8192x2048 .f32)
  (x5 x6 : Vec Ideal S2048 .f32)

/-- The layer's weights. -/
abbrev wmat (x2 : Vec Ideal S4x2048x2048 .f32) (k e : Fin 2048) : EReal := x2 (ix3 0 k e)

/-- A row before it is normalised. -/
theorem row0 (r : Fin 8192) (e : Fin 2048) (j : S8192x2048.Idx) (h0 : (j 0).val = r.val) (h1 : (j 1).val = e.val) :
    (val_main_v7 (F := Ideal) x0 x2 x3 j : EReal)
      = row (fun e => x3 (ix2 r e)) (fun k => x0 (ix3 ⟨k.val / 128, by omega⟩ r ⟨k.val % 128, by omega⟩)) (wmat x2) e := by
  obtain rfl := at2 j r e h0.symm h1.symm
  rw [val_main_v7_apply, val_main_v6_apply, val_main_v5_apply, val_main_cst_apply, val_main_v4_apply]
  unfold row
  show (_ + _ : EReal) = _
  congr 1
  refine Finset.sum_congr rfl fun k _ => ?_
  rw [val_main_v1_apply, val_main_v0_apply, val_main_v3_apply, val_main_v2_apply]
  have hk := k.isLt
  have hr := r.isLt
  have he := e.isLt
  congr 1
  · congr 1
    funext a
    match a with
    | ⟨0, _⟩ => exact Fin.ext (show (r.val * 2048 + k.val) / 128 % 16 = k.val / 128 by omega)
    | ⟨1, _⟩ => exact Fin.ext (show (r.val * 2048 + k.val) / 2048 = r.val by omega)
    | ⟨2, _⟩ => exact Fin.ext (show (r.val * 2048 + k.val) % 128 = k.val % 128 by omega)
  · congr 1
    funext a
    match a with
    | ⟨0, _⟩ => rfl
    | ⟨1, _⟩ => exact Fin.ext (show (k.val * 2048 + e.val) / 2048 % 2048 = k.val by omega)
    | ⟨2, _⟩ => exact Fin.ext (show (k.val * 2048 + e.val) % 2048 = e.val by omega)

/-- The first result at an index. -/
theorem ref0 (r : Fin 8192) (j : Fin 2048) :
    (val_main_v31 (F := Ideal) x0 x2 x3 x5 x6 (ix2 r j) : EReal) = out x0 x3 (wmat x2) (x5 (ix1 j)) (x6 (ix1 j)) r j := by
  simp only [val_main_v31_apply, val_main_v28_apply, val_main_v25_apply, val_main_v24_apply, val_main_v23_apply, val_main_v22_apply, val_main_v21_apply, val_main_v18_apply,
    val_main_v16_apply, val_main_v15_apply, val_main_v20_apply, val_main_v14_apply, val_main_v13_apply, val_main_v12_apply, val_main_v19_apply, val_main_v11_apply, val_main_v9_apply, val_main_v8_apply, val_main_v27_apply, val_main_v26_apply, val_main_v17_apply, val_main_v10_apply,
    val_main_v29_apply, val_main_v30_apply, val_main_cst_apply, val_main_cst_0_apply, val_main_cst_1_apply, val_main_cst_2_apply, val_main_cst_3_apply, val_main_cst_4_apply, zero, zero_add]
  have e : val_main_v7 (F := Ideal) x0 x2 x3 = fun q => row (fun e => x3 (ix2 (q 0) e))
      (fun k => x0 (ix3 ⟨k.val / 128, by omega⟩ (q 0) ⟨k.val % 128, by omega⟩)) (wmat x2) (q 1) :=
    funext fun q => row0 x0 x2 x3 (q 0) (q 1) q rfl rfl
  have g5 : idx_main_v26 (idx_main_v27 (ix2 r j)) = ix1 j := funext fun a => match a with | ⟨0, _⟩ => rfl
  have g6 : idx_main_v29 (idx_main_v30 (ix2 r j)) = ix1 j := funext fun a => match a with | ⟨0, _⟩ => rfl
  rw [e, g5, g6]
  rfl

variable (x1 : Vec Ideal S16x64x128 .bf16) (x4 : Vec Ideal S64x2048 .f32)

/-- A meta row before it is normalised. -/
theorem row1 (r : Fin 64) (e : Fin 2048) (j : S64x2048.Idx) (h0 : (j 0).val = r.val) (h1 : (j 1).val = e.val) :
    (val_main_v39 (F := Ideal) x1 x2 x4 j : EReal)
      = row (fun e => x4 (ix2 r e)) (fun k => x1 (ix3 ⟨k.val / 128, by omega⟩ r ⟨k.val % 128, by omega⟩)) (wmat x2) e := by
  obtain rfl := at2 j r e h0.symm h1.symm
  rw [val_main_v39_apply, val_main_v38_apply, val_main_v37_apply, val_main_cst_5_apply, val_main_v36_apply]
  unfold row
  show (_ + _ : EReal) = _
  congr 1
  refine Finset.sum_congr rfl fun k _ => ?_
  rw [val_main_v33_apply, val_main_v32_apply, val_main_v35_apply, val_main_v34_apply]
  have hk := k.isLt
  have hr := r.isLt
  have he := e.isLt
  congr 1
  · congr 1
    funext a
    match a with
    | ⟨0, _⟩ => exact Fin.ext (show (r.val * 2048 + k.val) / 128 % 16 = k.val / 128 by omega)
    | ⟨1, _⟩ => exact Fin.ext (show (r.val * 2048 + k.val) / 2048 = r.val by omega)
    | ⟨2, _⟩ => exact Fin.ext (show (r.val * 2048 + k.val) % 128 = k.val % 128 by omega)
  · congr 1
    funext a
    match a with
    | ⟨0, _⟩ => rfl
    | ⟨1, _⟩ => exact Fin.ext (show (k.val * 2048 + e.val) / 2048 % 2048 = k.val by omega)
    | ⟨2, _⟩ => exact Fin.ext (show (k.val * 2048 + e.val) % 2048 = e.val by omega)

/-- The second result at an index. -/
theorem ref1 (r : Fin 64) (j : Fin 2048) :
    (val_main_v63 (F := Ideal) x1 x2 x4 x5 x6 (ix2 r j) : EReal) = out x1 x4 (wmat x2) (x5 (ix1 j)) (x6 (ix1 j)) r j := by
  simp only [val_main_v63_apply, val_main_v60_apply, val_main_v57_apply, val_main_v56_apply, val_main_v55_apply, val_main_v54_apply, val_main_v53_apply, val_main_v50_apply,
    val_main_v48_apply, val_main_v47_apply, val_main_v52_apply, val_main_v46_apply, val_main_v45_apply, val_main_v44_apply, val_main_v51_apply, val_main_v43_apply, val_main_v41_apply, val_main_v40_apply, val_main_v59_apply, val_main_v58_apply, val_main_v49_apply, val_main_v42_apply,
    val_main_v61_apply, val_main_v62_apply, val_main_cst_5_apply, val_main_cst_6_apply, val_main_cst_7_apply, val_main_cst_8_apply, val_main_cst_9_apply, val_main_cst_10_apply, zero, zero_add]
  have e : val_main_v39 (F := Ideal) x1 x2 x4 = fun q => row (fun e => x4 (ix2 (q 0) e))
      (fun k => x1 (ix3 ⟨k.val / 128, by omega⟩ (q 0) ⟨k.val % 128, by omega⟩)) (wmat x2) (q 1) :=
    funext fun q => row1 x2 x1 x4 (q 0) (q 1) q rfl rfl
  have g5 : idx_main_v58 (idx_main_v59 (ix2 r j)) = ix1 j := funext fun a => match a with | ⟨0, _⟩ => rfl
  have g6 : idx_main_v61 (idx_main_v62 (ix2 r j)) = ix1 j := funext fun a => match a with | ⟨0, _⟩ => rfl
  rw [e, g5, g6]
  rfl

end Cert.Out6Ref

end
-- ==== Proof.Out6Arr.lean ====
/- The four arrays of an inner layer's output projection after a run, and the equality with the reference. -/
module

public import proofs.«01_k».proof.Defs
public import proofs.«01_k».proof.Proof.Out6Rows
public import proofs.«01_k».proof.Proof.Out6Ref
public import proofs.«01_k».proof.Proof.Gen.Reference6Ideal.Run

@[expose] public section

set_option maxRecDepth 16384

noncomputable section

namespace Cert.Out6Arr

open Idealize.ShloMosaic Idealize.ShloMosaic.TcCoe Idealize.ShloMosaic.Tactic Idealize.SL.Sem
open Cert.Kernel6Ideal Cert.Kernel6Ideal.Gen Cert.Kernel6Ideal.Hand Cert.Out6Rows
open Cert.OutVal (out at2)
open Cert.OutRows (flat)
open Cert.Out6Ref (wmat)

variable (m : (ℓ : Loc nD τ sig) → Buf (Elt Ideal) ℓ) (ρ : Dev nD → PrngReg) (c : Dev nD) (t : Fin cfg0.N)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![0, 0, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![t.val, 0] := by decide +kernel
theorem idx8 : ∀ t : Fin grid0.N, win0_8.index t = ![0, 0] := by decide +kernel

theorem idx9 : ∀ t : Fin grid0.N, win0_9.index t = ![t.val, 0] := by decide +kernel
theorem idx10 : ∀ t : Fin grid0.N, win0_10.index t = ![0, 0] := by decide +kernel

/-- The weights every point works with. -/
theorem wfull (k e : Fin 2048) : (flat (iblk m c 2 t) (ix2 k e) : EReal) = wmat (m ((c.tc : Thread nD τ).loc main_arg2)) k e := by
  unfold flat wmat
  blk_ext [iblk, V, idx2 t]

theorem wts_eq : wts m c = flat (iblk m c 2 base) :=
  (View.read_writes_junk_eq_canon _ _).trans (wtsA m c base base_first)

/-- The norm's two vectors. -/
theorem gfull (j : Fin 2048) : (iblk m c 5 t (ix2 0 j) : EReal) = m ((c.tc : Thread nD τ).loc main_arg5) (ix1 j) := by
  have e : ((win0_5.blk t).view.emb (ix2 0 j) : S1x2048.Idx) = ix2 0 j := by
    funext a
    match a with
    | ⟨0, _⟩ => exact Subsingleton.elim (α := Fin 1) _ _
    | ⟨1, _⟩ =>
      refine Fin.ext ?_
      blk_simp [idx5 t]
      try omega
  refine (congrArg (V m c main_v0) e).trans ?_
  have h : V m c main_v0 = shapeCast S1x2048 (m ((c.tc : Thread nD τ).loc main_arg5)) shapeCasts_S2048_S1x2048 := by
    unfold_abbrev_sides
    after_results
    rfl
  rw [h]
  exact shapeCast_apply _ shapeCasts_S2048_S1x2048 (ix2 0 j) (ix1 j) (by
    rw [Shape.rowMajor_val_two, Shape.rowMajor_val_one]
    show j.val = 0 * 2048 + j.val
    omega)
theorem bfull (j : Fin 2048) : (iblk m c 6 t (ix2 0 j) : EReal) = m ((c.tc : Thread nD τ).loc main_arg6) (ix1 j) := by
  have e : ((win0_6.blk t).view.emb (ix2 0 j) : S1x2048.Idx) = ix2 0 j := by
    funext a
    match a with
    | ⟨0, _⟩ => exact Subsingleton.elim (α := Fin 1) _ _
    | ⟨1, _⟩ =>
      refine Fin.ext ?_
      blk_simp [idx6 t]
      try omega
  refine (congrArg (V m c main_v1) e).trans ?_
  have h : V m c main_v1 = shapeCast S1x2048 (m ((c.tc : Thread nD τ).loc main_arg6)) shapeCasts_S2048_S1x2048 := by
    unfold_abbrev_sides
    after_results
    rfl
  rw [h]
  exact shapeCast_apply _ shapeCasts_S2048_S1x2048 (ix2 0 j) (ix1 j) (by
    rw [Shape.rowMajor_val_two, Shape.rowMajor_val_one]
    show j.val = 0 * 2048 + j.val
    omega)

/-- The token rows' array after a run. -/
def G7 : Vec Ideal S8192x2048 .f32 := fun i =>
  out (m ((c.tc : Thread nD τ).loc main_arg0)) (m ((c.tc : Thread nD τ).loc main_arg3)) (wmat (m ((c.tc : Thread nD τ).loc main_arg2)))
    (m ((c.tc : Thread nD τ).loc main_arg5) (ix1 (i 1))) (m ((c.tc : Thread nD τ).loc main_arg6) (ix1 (i 1))) (i 0) (i 1)
/-- The meta rows' array after a run. -/
def G8 : Vec Ideal S64x2048 .f32 := fun i =>
  out (m ((c.tc : Thread nD τ).loc main_arg1)) (m ((c.tc : Thread nD τ).loc main_arg4)) (wmat (m ((c.tc : Thread nD τ).loc main_arg2)))
    (m ((c.tc : Thread nD τ).loc main_arg5) (ix1 (i 1))) (m ((c.tc : Thread nD τ).loc main_arg6) (ix1 (i 1))) (i 0) (i 1)
/-- Their rounded copies' arrays after a run: over the reals the same rows. -/
def G9 : Vec Ideal S8192x2048 .bf16 := G7 m c
def G10 : Vec Ideal S64x2048 .bf16 := G8 m c

/-- A point's blocks carry the arrays' rows. -/
theorem out_eq (W : Vec Ideal S2048x2048 .bf16) (s : Fin cfg0.N) (hW : W = flat (iblk m c 2 s)) (r : Fin 512) (r' : Fin 8192) (j : Fin 2048)
    (hr : r'.val = 512 * t.val + r.val) :
    out (iblk m c 0 t) (iblk m c 3 t) (fun k e => W (ix2 k e)) (iblk m c 5 t (ix2 0 j)) (iblk m c 6 t (ix2 0 j)) r j
      = out (m ((c.tc : Thread nD τ).loc main_arg0)) (m ((c.tc : Thread nD τ).loc main_arg3)) (wmat (m ((c.tc : Thread nD τ).loc main_arg2)))
        (m ((c.tc : Thread nD τ).loc main_arg5) (ix1 j)) (m ((c.tc : Thread nD τ).loc main_arg6) (ix1 j)) r' j := by
  subst hW
  rw [gfull m c t, bfull m c t]
  unfold out
  have eh : (fun e => (iblk m c 3 t : Vec Ideal S512x2048 .f32) (ix2 r e)) = fun e => m ((c.tc : Thread nD τ).loc main_arg3) (ix2 r' e) := by
    funext e
    blk_ext [iblk, V, idx3 t]
  have ey : (fun k : Fin 2048 => (iblk m c 0 t : Vec Ideal S16x512x128 .bf16) (ix3 ⟨k.val / 128, by omega⟩ r ⟨k.val % 128, by omega⟩))
      = fun k => m ((c.tc : Thread nD τ).loc main_arg0) (ix3 ⟨k.val / 128, by omega⟩ r' ⟨k.val % 128, by omega⟩) := by
    funext k
    blk_ext [iblk, V, idx0 t]
  have ew : (fun k e => flat (iblk m c 2 s) (ix2 k e)) = wmat (m ((c.tc : Thread nD τ).loc main_arg2)) :=
    funext fun k => funext fun e => wfull m c s k e
  rw [eh, ey, ew]

/-- The meta rows' blocks are their arrays. -/
theorem outm_eq (r : Fin 64) (j : Fin 2048) :
    out (iblk m c 1 t) (iblk m c 4 t) (fun k e => flat (iblk m c 2 t) (ix2 k e)) (iblk m c 5 t (ix2 0 j)) (iblk m c 6 t (ix2 0 j)) r j
      = out (m ((c.tc : Thread nD τ).loc main_arg1)) (m ((c.tc : Thread nD τ).loc main_arg4)) (wmat (m ((c.tc : Thread nD τ).loc main_arg2)))
        (m ((c.tc : Thread nD τ).loc main_arg5) (ix1 j)) (m ((c.tc : Thread nD τ).loc main_arg6) (ix1 j)) r j := by
  rw [gfull m c t, bfull m c t]
  unfold out
  have eh : (fun e => (iblk m c 4 t : Vec Ideal S64x2048 .f32) (ix2 r e)) = fun e => m ((c.tc : Thread nD τ).loc main_arg4) (ix2 r e) := by
    funext e
    blk_ext [iblk, V, idx4 t]
  have ey : (fun k : Fin 2048 => (iblk m c 1 t : Vec Ideal S16x64x128 .bf16) (ix3 ⟨k.val / 128, by omega⟩ r ⟨k.val % 128, by omega⟩))
      = fun k => m ((c.tc : Thread nD τ).loc main_arg1) (ix3 ⟨k.val / 128, by omega⟩ r ⟨k.val % 128, by omega⟩) := by
    funext k
    blk_ext [iblk, V, idx1 t]
  have ew : (fun k e => flat (iblk m c 2 t) (ix2 k e)) = wmat (m ((c.tc : Thread nD τ).loc main_arg2)) :=
    funext fun k => funext fun e => wfull m c t k e
  rw [eh, ey, ew]

/-- What a point leaves in the token rows' buffer. -/
theorem rows_eq (Y : S512x2048.Idx) (r : Fin 512) (r' : Fin 8192) (j : Fin 2048) (h0 : r.val = (Y 0).val) (hj : j.val = (Y 1).val)
    (hr : r'.val = 512 * t.val + r.val) :
    (rows7 m c t Y : EReal) = out (m ((c.tc : Thread nD τ).loc main_arg0)) (m ((c.tc : Thread nD τ).loc main_arg3))
      (wmat (m ((c.tc : Thread nD τ).loc main_arg2))) (m ((c.tc : Thread nD τ).loc main_arg5) (ix1 j))
      (m ((c.tc : Thread nD τ).loc main_arg6) (ix1 j)) r' j := by
  unfold rows7
  split
  · next hc =>
    rw [View.read_writes_junk_eq_canon, rowsA m c t hc Y r j h0 hj]
    exact out_eq m c t _ t rfl r r' j hr
  · next hc =>
    rw [View.read_writes_junk_eq_canon, rowsB m c t hc _ Y r j h0 hj]
    exact out_eq m c t _ base (wts_eq m c) r r' j hr

/-- And in the buffer of their rounded copies. -/
theorem rowsr_eq (Y : S512x2048.Idx) (r : Fin 512) (r' : Fin 8192) (j : Fin 2048) (h0 : r.val = (Y 0).val) (hj : j.val = (Y 1).val)
    (hr : r'.val = 512 * t.val + r.val) :
    (rows9 m c t Y : EReal) = out (m ((c.tc : Thread nD τ).loc main_arg0)) (m ((c.tc : Thread nD τ).loc main_arg3))
      (wmat (m ((c.tc : Thread nD τ).loc main_arg2))) (m ((c.tc : Thread nD τ).loc main_arg5) (ix1 j))
      (m ((c.tc : Thread nD τ).loc main_arg6) (ix1 j)) r' j := by
  unfold rows9
  split
  · next hc =>
    rw [View.read_writes_junk_eq_canon, rowsAr m c t hc Y r j h0 hj]
    exact out_eq m c t _ t rfl r r' j hr
  · next hc =>
    rw [View.read_writes_junk_eq_canon, rowsBr m c t hc _ Y r j h0 hj]
    exact out_eq m c t _ base (wts_eq m c) r r' j hr

theorem arr7 : (dats m 0 c).arrAt 7 cfg0.N = G7 m c := by
  refine (dats m 0 c).arrAt_eq_of_covers 7 _ (by decide +kernel) fun t hf y => ?_
  blk_simp
  rw [after7]
  have e' : ((win0_7.blk t).view.emb y 1 : Fin 2048) = y 1 := Fin.ext (by
    blk_simp [idx7 t]
    try omega)
  refine (rows_eq m c t y (y 0) ((win0_7.blk t).view.emb y 0) (y 1) rfl rfl ?_).trans ?_
  · blk_simp [idx7 t]
    omega
  unfold G7
  rw [e']

theorem arr8 : (dats m 0 c).arrAt 8 cfg0.N = G8 m c := by
  refine (dats m 0 c).arrAt_eq_of_covers 8 _ (by decide +kernel) fun t hf y => ?_
  blk_simp
  rw [after8]
  have e : ((win0_8.blk t).view.emb y 0 : Fin 64) = y 0 := Fin.ext (by
    blk_simp [idx8 t]
    try omega)
  have e' : ((win0_8.blk t).view.emb y 1 : Fin 2048) = y 1 := Fin.ext (by
    blk_simp [idx8 t]
    try omega)
  unfold meta8 G8
  rw [e, e', View.read_writes_junk_eq_canon, metaA m c base base_first y (y 0) (y 1) rfl rfl]
  exact outm_eq m c base (y 0) (y 1)

theorem arr9 : (dats m 0 c).arrAt 9 cfg0.N = G9 m c := by
  refine (dats m 0 c).arrAt_eq_of_covers 9 _ (by decide +kernel) fun t hf y => ?_
  blk_simp
  rw [after9]
  have e' : ((win0_9.blk t).view.emb y 1 : Fin 2048) = y 1 := Fin.ext (by
    blk_simp [idx9 t]
    try omega)
  refine (rowsr_eq m c t y (y 0) ((win0_9.blk t).view.emb y 0) (y 1) rfl rfl ?_).trans ?_
  · blk_simp [idx9 t]
    omega
  unfold G9 G7
  rw [e']

theorem arr10 : (dats m 0 c).arrAt 10 cfg0.N = G10 m c := by
  refine (dats m 0 c).arrAt_eq_of_covers 10 _ (by decide +kernel) fun t hf y => ?_
  blk_simp
  rw [after10]
  have e : ((win0_10.blk t).view.emb y 0 : Fin 64) = y 0 := Fin.ext (by
    blk_simp [idx10 t]
    try omega)
  have e' : ((win0_10.blk t).view.emb y 1 : Fin 2048) = y 1 := Fin.ext (by
    blk_simp [idx10 t]
    try omega)
  unfold meta10 G10 G8
  rw [e, e', View.read_writes_junk_eq_canon, metaAr m c base base_first y (y 0) (y 1) rfl rfl]
  exact outm_eq m c base (y 0) (y 1)

/-- The two programs end with equal arrays. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => G7 m c, fun c => G8 m c, fun c => G9 m c, fun c => G10 m c, ?_, ?_⟩
  · refine (θ_run _ _ _).mono (fun r h c => ?_) (θ_run_and (Cert.Kernel6Ideal.Hand.run m g) (Cert.Kernel6Ideal.Hand.frame m g))
    obtain ⟨h, h'⟩ := h
    exact ⟨((h c).1 7).trans (arr7 m c), ((h c).1 8).trans (arr8 m c), ((h c).1 9).trans (arr9 m c), ((h c).1 10).trans (arr10 m c), h'.1 c⟩
  · refine (θ_run _ _ _).mono (fun r h c => ?_) (Cert.Reference6Ideal.Value.run (F := Ideal) m' g')
    obtain ⟨h0, h1, h2, h3, h4⟩ := h c
    obtain ⟨a0, a1, a2, a3, a4, a5, a6⟩ := hargs c
    have rows : ∀ i, Cert.Reference6Ideal.Read.val_main_v31 (F := Ideal) (m ((c.tc : Thread nD τ).loc main_arg0))
        (m ((c.tc : Thread nD τ).loc main_arg2)) (m ((c.tc : Thread nD τ).loc main_arg3)) (m ((c.tc : Thread nD τ).loc main_arg5))
        (m ((c.tc : Thread nD τ).loc main_arg6)) i = G7 m c i := fun i =>
      (congrArg _ (at2 i (i 0) (i 1) rfl rfl)).trans (Cert.Out6Ref.ref0 _ _ _ _ _ _ _)
    have metas : ∀ i, Cert.Reference6Ideal.Read.val_main_v63 (F := Ideal) (m ((c.tc : Thread nD τ).loc main_arg1))
        (m ((c.tc : Thread nD τ).loc main_arg2)) (m ((c.tc : Thread nD τ).loc main_arg4)) (m ((c.tc : Thread nD τ).loc main_arg5))
        (m ((c.tc : Thread nD τ).loc main_arg6)) i = G8 m c i := fun i =>
      (congrArg _ (at2 i (i 0) (i 1) rfl rfl)).trans (Cert.Out6Ref.ref1 _ _ _ _ _ _ _)
    refine ⟨h0.trans ?_, h1.trans ?_, h2.trans ?_, h3.trans ?_, h4⟩
    · refine (Cert.Reference6Ideal.Read.val_main_v31_eq m' c).trans ?_
      rw [a0, a2, a3, a5, a6]
      exact funext rows
    · refine (Cert.Reference6Ideal.Read.val_main_v63_eq m' c).trans ?_
      rw [a1, a2, a4, a5, a6]
      exact funext metas
    · refine (Cert.Reference6Ideal.Read.val_main_v64_eq m' c).trans ?_
      rw [a0, a2, a3, a5, a6]
      exact funext rows
    · refine (Cert.Reference6Ideal.Read.val_main_v65_eq m' c).trans ?_
      rw [a1, a2, a4, a5, a6]
      exact funext metas

end Cert.Out6Arr

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2Ideal
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.InArr
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.InArr3
public import proofs.«01_k».proof.Proof.InArr4
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.OutArr
public import proofs.«01_k».proof.Proof.Out6Arr
public import Idealize.ShloMosaic.Adequacy
public import Idealize.ShloMosaic.Init

@[expose] public section

noncomputable section

namespace Cert.Proof

open Idealize.ShloMosaic Idealize.SL.Sem

/-- The attention reference's arguments end unchanged. -/
theorem ref_quiet : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The projection reference's arguments end unchanged. -/
theorem ref2_quiet : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The two projections' bodies are the same text, -/
theorem bodies_eq : Cert.Kernel2.defs₀ (F := Bits) = Cert.Kernel2Ideal.defs₀ (F := Bits) := by
  unfold Cert.Kernel2.defs₀ Cert.Kernel2Ideal.defs₀
  congr 1
  funext l x
  match l with
  | 0 => rfl

/-- so the tables the programs run with are one. -/
theorem defs_eq : Cert.Kernel2.defs (F := Bits) = Cert.Kernel2Ideal.defs (F := Bits) := by
  unfold Cert.Kernel2.defs Cert.Kernel2Ideal.defs
  exact congrArg (Pipeline.defs (Cert.Kernel2Ideal.pcfgs (F := Bits))) bodies_eq

/-- The projection's frame at the machine's floats: the run of the same text. -/
theorem kernel2_quiet : Cert.quiescent_Kernel2 (hKernel2 := Cert.Kernel2.Gen.facts) := fun m ρ _ => by
  have h := Cert.Kernel2Ideal.Hand.frame (F := Bits) m ρ
  rw [← defs_eq] at h
  exact h

theorem kernel2Ideal_quiet : Cert.quiescent_Kernel2Ideal (hKernel2Ideal := Cert.Kernel2Ideal.Gen.facts) := fun m ρ _ =>
  Cert.Kernel2Ideal.Hand.frame (F := Ideal) m ρ

/-- The reference of the projection of 8192 columns: its arguments end unchanged. -/
theorem ref3_quiet : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The projection of 8192 columns: the two programs' bodies are the same text. -/
theorem bodies3_eq : Cert.Kernel3.defs₀ (F := Bits) = Cert.Kernel3Ideal.defs₀ (F := Bits) := by
  unfold Cert.Kernel3.defs₀ Cert.Kernel3Ideal.defs₀
  congr 1
  funext l x
  match l with
  | 0 => rfl

theorem defs3_eq : Cert.Kernel3.defs (F := Bits) = Cert.Kernel3Ideal.defs (F := Bits) := by
  unfold Cert.Kernel3.defs Cert.Kernel3Ideal.defs
  exact congrArg (Pipeline.defs (Cert.Kernel3Ideal.pcfgs (F := Bits))) bodies3_eq

theorem kernel3_quiet : Cert.quiescent_Kernel3 (hKernel3 := Cert.Kernel3.Gen.facts) := fun m ρ _ => by
  have h := Cert.Kernel3Ideal.Hand.frame (F := Bits) m ρ
  rw [← defs3_eq] at h
  exact h

theorem kernel3Ideal_quiet : Cert.quiescent_Kernel3Ideal (hKernel3Ideal := Cert.Kernel3Ideal.Gen.facts) := fun m ρ _ =>
  Cert.Kernel3Ideal.Hand.frame (F := Ideal) m ρ

/-- The reference of the first layer's projection: its arguments end unchanged. -/
theorem ref4_quiet : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The first layer's projection: the two programs' bodies are the same text. -/
theorem bodies4_eq : Cert.Kernel4.defs₀ (F := Bits) = Cert.Kernel4Ideal.defs₀ (F := Bits) := by
  unfold Cert.Kernel4.defs₀ Cert.Kernel4Ideal.defs₀
  congr 1
  funext l x
  match l with
  | 0 => rfl

theorem defs4_eq : Cert.Kernel4.defs (F := Bits) = Cert.Kernel4Ideal.defs (F := Bits) := by
  unfold Cert.Kernel4.defs Cert.Kernel4Ideal.defs
  exact congrArg (Pipeline.defs (Cert.Kernel4Ideal.pcfgs (F := Bits))) bodies4_eq

theorem kernel4_quiet : Cert.quiescent_Kernel4 (hKernel4 := Cert.Kernel4.Gen.facts) := fun m ρ _ => by
  have h := Cert.Kernel4Ideal.Hand.frame (F := Bits) m ρ
  rw [← defs4_eq] at h
  exact h

theorem kernel4Ideal_quiet : Cert.quiescent_Kernel4Ideal (hKernel4Ideal := Cert.Kernel4Ideal.Gen.facts) := fun m ρ _ =>
  Cert.Kernel4Ideal.Hand.frame (F := Ideal) m ρ

/-- The reference of the output projection: its arguments end unchanged. -/
theorem ref5_quiet : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The output projection: the two programs' bodies are the same text. -/
theorem bodies5_eq : Cert.Kernel5.defs₀ (F := Bits) = Cert.Kernel5Ideal.defs₀ (F := Bits) := by
  unfold Cert.Kernel5.defs₀ Cert.Kernel5Ideal.defs₀
  congr 1
  funext l x
  match l with
  | 0 => rfl

theorem defs5_eq : Cert.Kernel5.defs (F := Bits) = Cert.Kernel5Ideal.defs (F := Bits) := by
  unfold Cert.Kernel5.defs Cert.Kernel5Ideal.defs
  exact congrArg (Pipeline.defs (Cert.Kernel5Ideal.pcfgs (F := Bits))) bodies5_eq

theorem kernel5_quiet : Cert.quiescent_Kernel5 (hKernel5 := Cert.Kernel5.Gen.facts) := fun m ρ _ => by
  have h := Cert.Kernel5Ideal.Hand.frame (F := Bits) m ρ
  rw [← defs5_eq] at h
  exact h

theorem kernel5Ideal_quiet : Cert.quiescent_Kernel5Ideal (hKernel5Ideal := Cert.Kernel5Ideal.Gen.facts) := fun m ρ _ =>
  Cert.Kernel5Ideal.Hand.frame (F := Ideal) m ρ

/-- The reference of the output projection of an inner layer: its arguments end unchanged. -/
theorem ref6_quiet : Cert.quiescent_Reference6Ideal (hReference6Ideal := Cert.Reference6Ideal.Gen.facts) := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- The output projection of an inner layer: the two programs' bodies are the same text. -/
theorem bodies6_eq : Cert.Kernel6.defs₀ (F := Bits) = Cert.Kernel6Ideal.defs₀ (F := Bits) := by
  unfold Cert.Kernel6.defs₀ Cert.Kernel6Ideal.defs₀
  congr 1
  funext l x
  match l with
  | 0 => rfl

theorem defs6_eq : Cert.Kernel6.defs (F := Bits) = Cert.Kernel6Ideal.defs (F := Bits) := by
  unfold Cert.Kernel6.defs Cert.Kernel6Ideal.defs
  exact congrArg (Pipeline.defs (Cert.Kernel6Ideal.pcfgs (F := Bits))) bodies6_eq

theorem kernel6_quiet : Cert.quiescent_Kernel6 (hKernel6 := Cert.Kernel6.Gen.facts) := fun m ρ _ => by
  have h := Cert.Kernel6Ideal.Hand.frame (F := Bits) m ρ
  rw [← defs6_eq] at h
  exact h

theorem kernel6Ideal_quiet : Cert.quiescent_Kernel6Ideal (hKernel6Ideal := Cert.Kernel6Ideal.Gen.facts) := fun m ρ _ =>
  Cert.Kernel6Ideal.Hand.frame (F := Ideal) m ρ

/-- The attention's two named constants. -/
theorem preserves : Cert.preserves_Kernel_KernelIdeal :=
  ⟨IdealRules.named_const.statement Cert.KernelIdeal.κ "log2e" .f32 0x3FB8AA3B#32 _ rfl,
    IdealRules.named_const.statement Cert.KernelIdeal.κ "mask" .f32 0xF149F2CA#32 _ rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    fun m ρ _ => Cert.Kernel.Gen.frame m ρ, fun m ρ _ => Cert.KernelIdeal.Gen.frame m ρ, ref_quiet,
    kernel2_quiet, kernel2Ideal_quiet, ref2_quiet, kernel3_quiet, kernel3Ideal_quiet, ref3_quiet,
    kernel4_quiet, kernel4Ideal_quiet, ref4_quiet, kernel5_quiet, kernel5Ideal_quiet, ref5_quiet, kernel6_quiet, kernel6Ideal_quiet, ref6_quiet,
    preserves, trivial, Cert.InArr.algebraic, trivial, Cert.InArr3.algebraic, trivial, Cert.InArr4.algebraic,
    trivial, Cert.OutArr.algebraic, trivial, Cert.Out6Arr.algebraic⟩

end Cert.Proof

end
